-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "mask" .f32 0xCEEE6B28#32 ⊥
  ∧ IdealRules.named_const.Statement Cert.KernelIdeal.κ "narrow" .f32 0xC8F42400#32 ((-4398046511104 / 8796093 : ℝ) : EReal)
  ∧ IdealRules.named_const.Statement Cert.KernelIdeal.κ "wide" .f32 0xC2480000#32 ((-268435456 / 5368709 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v648) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S128x32x512 : Shape := ⟨3, ![128, 32, 512]⟩
abbrev S128x512x512 : Shape := ⟨3, ![128, 512, 512]⟩
abbrev S128x32 : Shape := ⟨2, ![128, 32]⟩
abbrev S128x512 : Shape := ⟨2, ![128, 512]⟩
abbrev S1x512x512 : Shape := ⟨3, ![1, 512, 512]⟩
abbrev S512 : Shape := ⟨1, ![512]⟩
abbrev S2x1536x512 : Shape := ⟨3, ![2, 1536, 512]⟩
abbrev S2x1536 : Shape := ⟨2, ![2, 1536]⟩
abbrev S2x512x512 : Shape := ⟨3, ![2, 512, 512]⟩
abbrev S2x512 : Shape := ⟨2, ![2, 512]⟩
abbrev S2x2048x512 : Shape := ⟨3, ![2, 2048, 512]⟩
abbrev S2x2048 : Shape := ⟨2, ![2, 2048]⟩
abbrev S2x512x2048 : Shape := ⟨3, ![2, 512, 2048]⟩
abbrev S1x11 : Shape := ⟨2, ![1, 11]⟩
abbrev S11 : Shape := ⟨1, ![11]⟩
abbrev S9 : Shape := ⟨1, ![9]⟩
abbrev S_ : Shape := ⟨0, ![]⟩
abbrev S2x1024x512 : Shape := ⟨3, ![2, 1024, 512]⟩
abbrev S2x1024 : Shape := ⟨2, ![2, 1024]⟩
abbrev S1x512 : Shape := ⟨2, ![1, 512]⟩

class Facts : Prop where
  bcast_S_S128x32 : S_.BroadcastsInDim S128x32 (![] : Fin 0 → Fin S128x32.rank)
  bcast_S_S128x512 : S_.BroadcastsInDim S128x512 (![] : Fin 0 → Fin S128x512.rank)
  slices_S2x1536x512_S2x1024x512_0_0_0 : S2x1536x512.Slices ![0, 0, 0] S2x1024x512
  slices_S2x1536_S2x1024_0_0 : S2x1536.Slices ![0, 0] S2x1024
  slices_S2x512_S1x512_0_0 : S2x512.Slices ![0, 0] S1x512
  shapeCasts_S1x512_S512 : S1x512.ShapeCasts S512
  bcast_S_S512 : S_.BroadcastsInDim S512 (![] : Fin 0 → Fin S512.rank)
  bcast_S_S2x1024x512 : S_.BroadcastsInDim S2x1024x512 (![] : Fin 0 → Fin S2x1024x512.rank)
  bcast_S_S2x1024 : S_.BroadcastsInDim S2x1024 (![] : Fin 0 → Fin S2x1024.rank)
  bcast_S_S1x11 : S_.BroadcastsInDim S1x11 (![] : Fin 0 → Fin S1x11.rank)

variable [Facts]

def fn_part3 {F : FTy → Type} [FloatOps F] (main_arg19 : FVec F S1x11 .f32) (main_v4 : IVec S128x32 1) (main_v9 : IVec S128x512 1) (main_v21 : IVec S512 1) (main_v27 : IVec S512 1) (main_v33 : IVec S2x1024x512 1) (main_v39 : IVec S2x1024 1) (main_v45 : IVec S512 1) (main_v51 : IVec S512 1) (main_v54 : IVec S1x11 1) : IVec S128x32 1 × IVec S128x512 1 × IVec S512 1 × IVec S512 1 × IVec S2x1024x512 1 × IVec S2x1024 1 × IVec S512 1 × IVec S512 1 × IVec S1x11 1 :=
  let main_cst_16 : FVec F S_ .f32 := constant S_ .f32 0x7F800000#32
  let main_v55 : FVec F S1x11 .f32 := broadcastInDim S1x11 ![] bcast_S_S1x11 main_cst_16
  let main_v56 : IVec S1x11 1 := cmpf .olt main_arg19 main_v55
  let main_v57 : IVec S1x11 1 := andi main_v54 main_v56
  (main_v4, main_v9, main_v21, main_v27, main_v33, main_v39, main_v45, main_v51, main_v57)

def fn_part2 {F : FTy → Type} [FloatOps F] (main_arg19 : FVec F S1x11 .f32) (main_v4 : IVec S128x32 1) (main_v9 : IVec S128x512 1) (main_v11 : FVec F S2x1024 .f32) (main_v13 : FVec F S512 .f32) (main_v15 : FVec F S512 .f32) (main_v21 : IVec S512 1) (main_v27 : IVec S512 1) (main_v33 : IVec S2x1024x512 1) (main_v36 : IVec S2x1024 1) : IVec S128x32 1 × IVec S128x512 1 × IVec S512 1 × IVec S512 1 × IVec S2x1024x512 1 × IVec S2x1024 1 × IVec S512 1 × IVec S512 1 × IVec S1x11 1 :=
  let main_cst_10 : FVec F S_ .f32 := constant S_ .f32 0x7F800000#32
  let main_v37 : FVec F S2x1024 .f32 := broadcastInDim S2x1024 ![] bcast_S_S2x1024 main_cst_10
  let main_v38 : IVec S2x1024 1 := cmpf .olt main_v11 main_v37
  let main_v39 : IVec S2x1024 1 := andi main_v36 main_v38
  let main_cst_11 : FVec F S_ .f32 := constant S_ .f32 0x7F800000#32
  let main_v40 : FVec F S_ .f32 := Host.negf main_cst_11
  let main_v41 : FVec F S512 .f32 := broadcastInDim S512 ![] bcast_S_S512 main_v40
  let main_v42 : IVec S512 1 := cmpf .ogt main_v13 main_v41
  let main_cst_12 : FVec F S_ .f32 := constant S_ .f32 0x7F800000#32
  let main_v43 : FVec F S512 .f32 := broadcastInDim S512 ![] bcast_S_S512 main_cst_12
  let main_v44 : IVec S512 1 := cmpf .olt main_v13 main_v43
  let main_v45 : IVec S512 1 := andi main_v42 main_v44
  let main_cst_13 : FVec F S_ .f32 := constant S_ .f32 0x7F800000#32
  let main_v46 : FVec F S_ .f32 := Host.negf main_cst_13
  let main_v47 : FVec F S512 .f32 := broadcastInDim S512 ![] bcast_S_S512 main_v46
  let main_v48 : IVec S512 1 := cmpf .ogt main_v15 main_v47
  let main_cst_14 : FVec F S_ .f32 := constant S_ .f32 0x7F800000#32
  let main_v49 : FVec F S512 .f32 := broadcastInDim S512 ![] bcast_S_S512 main_cst_14
  let main_v50 : IVec S512 1 := cmpf .olt main_v15 main_v49
  let main_v51 : IVec S512 1 := andi main_v48 main_v50
  let main_cst_15 : FVec F S_ .f32 := constant S_ .f32 0x7F800000#32
  let main_v52 : FVec F S_ .f32 := Host.negf main_cst_15
  let main_v53 : FVec F S1x11 .f32 := broadcastInDim S1x11 ![] bcast_S_S1x11 main_v52
  let main_v54 : IVec S1x11 1 := cmpf .ogt main_arg19 main_v53
  fn_part3 (F := F) main_arg19 main_v4 main_v9 main_v21 main_v27 main_v33 main_v39 main_v45 main_v51 main_v54

def fn_part1 {F : FTy → Type} [FloatOps F] (main_arg5 : FVec F S512 .f32) (main_arg6 : FVec F S512 .f32) (main_arg19 : FVec F S1x11 .f32) (main_v4 : IVec S128x32 1) (main_v9 : IVec S128x512 1) (main_v10 : FVec F S2x1024x512 .f32) (main_v11 : FVec F S2x1024 .f32) (main_v13 : FVec F S512 .f32) (main_v15 : FVec F S512 .f32) (main_v18 : IVec S512 1) : IVec S128x32 1 × IVec S128x512 1 × IVec S512 1 × IVec S512 1 × IVec S2x1024x512 1 × IVec S2x1024 1 × IVec S512 1 × IVec S512 1 × IVec S1x11 1 :=
  let main_cst_4 : FVec F S_ .f32 := constant S_ .f32 0x7F800000#32
  let main_v19 : FVec F S512 .f32 := broadcastInDim S512 ![] bcast_S_S512 main_cst_4
  let main_v20 : IVec S512 1 := cmpf .olt main_arg5 main_v19
  let main_v21 : IVec S512 1 := andi main_v18 main_v20
  let main_cst_5 : FVec F S_ .f32 := constant S_ .f32 0x7F800000#32
  let main_v22 : FVec F S_ .f32 := Host.negf main_cst_5
  let main_v23 : FVec F S512 .f32 := broadcastInDim S512 ![] bcast_S_S512 main_v22
  let main_v24 : IVec S512 1 := cmpf .ogt main_arg6 main_v23
  let main_cst_6 : FVec F S_ .f32 := constant S_ .f32 0x7F800000#32
  let main_v25 : FVec F S512 .f32 := broadcastInDim S512 ![] bcast_S_S512 main_cst_6
  let main_v26 : IVec S512 1 := cmpf .olt main_arg6 main_v25
  let main_v27 : IVec S512 1 := andi main_v24 main_v26
  let main_cst_7 : FVec F S_ .f32 := constant S_ .f32 0x7F800000#32
  let main_v28 : FVec F S_ .f32 := Host.negf main_cst_7
  let main_v29 : FVec F S2x1024x512 .f32 := broadcastInDim S2x1024x512 ![] bcast_S_S2x1024x512 main_v28
  let main_v30 : IVec S2x1024x512 1 := cmpf .ogt main_v10 main_v29
  let main_cst_8 : FVec F S_ .f32 := constant S_ .f32 0x7F800000#32
  let main_v31 : FVec F S2x1024x512 .f32 := broadcastInDim S2x1024x512 ![] bcast_S_S2x1024x512 main_cst_8
  let main_v32 : IVec S2x1024x512 1 := cmpf .olt main_v10 main_v31
  let main_v33 : IVec S2x1024x512 1 := andi main_v30 main_v32
  let main_cst_9 : FVec F S_ .f32 := constant S_ .f32 0x7F800000#32
  let main_v34 : FVec F S_ .f32 := Host.negf main_cst_9
  let main_v35 : FVec F S2x1024 .f32 := broadcastInDim S2x1024 ![] bcast_S_S2x1024 main_v34
  let main_v36 : IVec S2x1024 1 := cmpf .ogt main_v11 main_v35
  fn_part2 (F := F) main_arg19 main_v4 main_v9 main_v11 main_v13 main_v15 main_v21 main_v27 main_v33 main_v36

def fn {F : FTy → Type} [FloatOps F] (main_arg0 : FVec F S128x32x512 .f32) (main_arg1 : FVec F S128x512x512 .f32) (main_arg2 : FVec F S128x32 .f32) (main_arg3 : FVec F S128x512 .f32) (main_arg4 : FVec F S1x512x512 .f32) (main_arg5 : FVec F S512 .f32) (main_arg6 : FVec F S512 .f32) (main_arg7 : FVec F S2x1536x512 .f32) (main_arg8 : FVec F S2x1536 .f32) (main_arg9 : FVec F S2x512x512 .f32) (main_arg10 : FVec F S2x512 .f32) (main_arg11 : FVec F S2x2048x512 .f32) (main_arg12 : FVec F S2x2048 .f32) (main_arg13 : FVec F S2x512x2048 .f32) (main_arg14 : FVec F S2x512 .f32) (main_arg15 : FVec F S2x512 .f32) (main_arg16 : FVec F S2x512 .f32) (main_arg17 : FVec F S2x512 .f32) (main_arg18 : FVec F S2x512 .f32) (main_arg19 : FVec F S1x11 .f32) (main_arg20 : FVec F S11 .f32) (main_arg21 : FVec F S9 .f32) : IVec S128x32 1 × IVec S128x512 1 × IVec S512 1 × IVec S512 1 × IVec S2x1024x512 1 × IVec S2x1024 1 × IVec S512 1 × IVec S512 1 × IVec S1x11 1 :=
  let main_cst : FVec F S_ .f32 := constant S_ .f32 0x00000000#32
  let main_v0 : FVec F S128x32 .f32 := broadcastInDim S128x32 ![] bcast_S_S128x32 main_cst
  let main_v1 : IVec S128x32 1 := cmpf .oeq main_arg2 main_v0
  let main_cst_0 : FVec F S_ .f32 := constant S_ .f32 0x3F800000#32
  let main_v2 : FVec F S128x32 .f32 := broadcastInDim S128x32 ![] bcast_S_S128x32 main_cst_0
  let main_v3 : IVec S128x32 1 := cmpf .oeq main_arg2 main_v2
  let main_v4 : IVec S128x32 1 := ori main_v1 main_v3
  let main_cst_1 : FVec F S_ .f32 := constant S_ .f32 0x00000000#32
  let main_v5 : FVec F S128x512 .f32 := broadcastInDim S128x512 ![] bcast_S_S128x512 main_cst_1
  let main_v6 : IVec S128x512 1 := cmpf .oeq main_arg3 main_v5
  let main_cst_2 : FVec F S_ .f32 := constant S_ .f32 0x3F800000#32
  let main_v7 : FVec F S128x512 .f32 := broadcastInDim S128x512 ![] bcast_S_S128x512 main_cst_2
  let main_v8 : IVec S128x512 1 := cmpf .oeq main_arg3 main_v7
  let main_v9 : IVec S128x512 1 := ori main_v6 main_v8
  let main_v10 : FVec F S2x1024x512 .f32 := (extractStridedSlice S2x1024x512 ![0, 0, 0] · slices_S2x1536x512_S2x1024x512_0_0_0) main_arg7
  let main_v11 : FVec F S2x1024 .f32 := (extractStridedSlice S2x1024 ![0, 0] · slices_S2x1536_S2x1024_0_0) main_arg8
  let main_v12 : FVec F S1x512 .f32 := (extractStridedSlice S1x512 ![0, 0] · slices_S2x512_S1x512_0_0) main_arg17
  let main_v13 : FVec F S512 .f32 := shapeCast S512 main_v12 shapeCasts_S1x512_S512
  let main_v14 : FVec F S1x512 .f32 := (extractStridedSlice S1x512 ![0, 0] · slices_S2x512_S1x512_0_0) main_arg18
  let main_v15 : FVec F S512 .f32 := shapeCast S512 main_v14 shapeCasts_S1x512_S512
  let main_cst_3 : FVec F S_ .f32 := constant S_ .f32 0x7F800000#32
  let main_v16 : FVec F S_ .f32 := Host.negf main_cst_3
  let main_v17 : FVec F S512 .f32 := broadcastInDim S512 ![] bcast_S_S512 main_v16
  let main_v18 : IVec S512 1 := cmpf .ogt main_arg5 main_v17
  fn_part1 (F := F) main_arg5 main_arg6 main_arg19 main_v4 main_v9 main_v10 main_v11 main_v13 main_v15 main_v18
-- ==== Kernel.lean ====
abbrev S128x32x512 : Shape := ⟨3, ![128, 32, 512]⟩
abbrev S128x512x512 : Shape := ⟨3, ![128, 512, 512]⟩
abbrev S128x32 : Shape := ⟨2, ![128, 32]⟩
abbrev S128x512 : Shape := ⟨2, ![128, 512]⟩
abbrev S1x512x512 : Shape := ⟨3, ![1, 512, 512]⟩
abbrev S512 : Shape := ⟨1, ![512]⟩
abbrev S2x1536x512 : Shape := ⟨3, ![2, 1536, 512]⟩
abbrev S2x1536 : Shape := ⟨2, ![2, 1536]⟩
abbrev S2x512x512 : Shape := ⟨3, ![2, 512, 512]⟩
abbrev S2x512 : Shape := ⟨2, ![2, 512]⟩
abbrev S2x2048x512 : Shape := ⟨3, ![2, 2048, 512]⟩
abbrev S2x2048 : Shape := ⟨2, ![2, 2048]⟩
abbrev S2x512x2048 : Shape := ⟨3, ![2, 512, 2048]⟩
abbrev S1x11 : Shape := ⟨2, ![1, 11]⟩
abbrev S11 : Shape := ⟨1, ![11]⟩
abbrev S9 : Shape := ⟨1, ![9]⟩
abbrev S_ : Shape := ⟨0, ![]⟩
abbrev S16x1x256 : Shape := ⟨3, ![16, 1, 256]⟩
abbrev S128x1x512 : Shape := ⟨3, ![128, 1, 512]⟩
abbrev S128 : Shape := ⟨1, ![128]⟩
abbrev S128x1 : Shape := ⟨2, ![128, 1]⟩
abbrev S10 : Shape := ⟨1, ![10]⟩
abbrev S1x10 : Shape := ⟨2, ![1, 10]⟩
abbrev S128x10 : Shape := ⟨2, ![128, 10]⟩
abbrev S128x10x1 : Shape := ⟨3, ![128, 10, 1]⟩
abbrev S128x10x2 : Shape := ⟨3, ![128, 10, 2]⟩
abbrev S128x512x1 : Shape := ⟨3, ![128, 512, 1]⟩
abbrev S8 : Shape := ⟨1, ![8]⟩
abbrev S8x64 : Shape := ⟨2, ![8, 64]⟩
abbrev S1x512 : Shape := ⟨2, ![1, 512]⟩
abbrev S32x1x2048 : Shape := ⟨3, ![32, 1, 2048]⟩
abbrev S128x32x1 : Shape := ⟨3, ![128, 32, 1]⟩
abbrev S1x1x11 : Shape := ⟨3, ![1, 1, 11]⟩
abbrev S128x32x11 : Shape := ⟨3, ![128, 32, 11]⟩
abbrev S512x512 : Shape := ⟨2, ![512, 512]⟩
abbrev S1x32x512 : Shape := ⟨3, ![1, 32, 512]⟩
abbrev S32x512 : Shape := ⟨2, ![32, 512]⟩
abbrev S1x1536x512 : Shape := ⟨3, ![1, 1536, 512]⟩
abbrev S1536x512 : Shape := ⟨2, ![1536, 512]⟩
abbrev S512x1536 : Shape := ⟨2, ![512, 1536]⟩
abbrev S1x1536 : Shape := ⟨2, ![1, 1536]⟩
abbrev S1536 : Shape := ⟨1, ![1536]⟩
abbrev S1x2048x512 : Shape := ⟨3, ![1, 2048, 512]⟩
abbrev S2048x512 : Shape := ⟨2, ![2048, 512]⟩
abbrev S512x2048 : Shape := ⟨2, ![512, 2048]⟩
abbrev S1x2048 : Shape := ⟨2, ![1, 2048]⟩
abbrev S2048 : Shape := ⟨1, ![2048]⟩
abbrev S1x512x2048 : Shape := ⟨3, ![1, 512, 2048]⟩
abbrev S8x32x512 : Shape := ⟨3, ![8, 32, 512]⟩
abbrev S1x1x256 : Shape := ⟨3, ![1, 1, 256]⟩
abbrev S256x512 : Shape := ⟨2, ![256, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x1536 : Shape := ⟨2, ![256, 1536]⟩
abbrev S256x64 : Shape := ⟨2, ![256, 64]⟩
abbrev S256x2048 : Shape := ⟨2, ![256, 2048]⟩
abbrev S1x1x512 : Shape := ⟨3, ![1, 1, 512]⟩
abbrev S512x1 : Shape := ⟨2, ![512, 1]⟩
abbrev S512x64 : Shape := ⟨2, ![512, 64]⟩
abbrev S128x1x1 : Shape := ⟨3, ![128, 1, 1]⟩
abbrev S4x32x512 : Shape := ⟨3, ![4, 32, 512]⟩
abbrev S4x512x512 : Shape := ⟨3, ![4, 512, 512]⟩
abbrev S4x32x11 : Shape := ⟨3, ![4, 32, 11]⟩
abbrev S1x1x2048 : Shape := ⟨3, ![1, 1, 2048]⟩
abbrev S4x1x1 : Shape := ⟨3, ![4, 1, 1]⟩
abbrev S2048x1 : Shape := ⟨2, ![2048, 1]⟩
abbrev S128x2048 : Shape := ⟨2, ![128, 2048]⟩
abbrev S128x11 : Shape := ⟨2, ![128, 11]⟩
abbrev S32 : Shape := ⟨1, ![32]⟩
abbrev S32x1 : Shape := ⟨2, ![32, 1]⟩
abbrev S32x11 : Shape := ⟨2, ![32, 11]⟩
abbrev S1x32x11 : Shape := ⟨3, ![1, 32, 11]⟩
abbrev S1 : Shape := ⟨1, ![1]⟩
abbrev S1x1x1 : Shape := ⟨3, ![1, 1, 1]⟩
abbrev S4 : Shape := ⟨1, ![4]⟩

abbrev nBuf : Space → Nat
  | .hbm => 210
  | .vmem => 76
  | .smem => 0
  | _ => 0

abbrev hbmTy0_0 (i : Nat) : BufTy := match i % 128 with
  | 0 => ⟨S128x32x512, .f32⟩
  | 1 => ⟨S128x512x512, .f32⟩
  | 2 => ⟨S128x32, .f32⟩
  | 3 => ⟨S128x512, .f32⟩
  | 4 => ⟨S1x512x512, .f32⟩
  | 5 => ⟨S512, .f32⟩
  | 6 => ⟨S512, .f32⟩
  | 7 => ⟨S2x1536x512, .f32⟩
  | 8 => ⟨S2x1536, .f32⟩
  | 9 => ⟨S2x512x512, .f32⟩
  | 10 => ⟨S2x512, .f32⟩
  | 11 => ⟨S2x2048x512, .f32⟩
  | 12 => ⟨S2x2048, .f32⟩
  | 13 => ⟨S2x512x2048, .f32⟩
  | 14 => ⟨S2x512, .f32⟩
  | 15 => ⟨S2x512, .f32⟩
  | 16 => ⟨S2x512, .f32⟩
  | 17 => ⟨S2x512, .f32⟩
  | 18 => ⟨S2x512, .f32⟩
  | 19 => ⟨S1x11, .f32⟩
  | 20 => ⟨S11, .f32⟩
  | 21 => ⟨S9, .f32⟩
  | 22 => ⟨S_, .f32⟩
  | 23 => ⟨S128x32, .f32⟩
  | 24 => ⟨S128x32, .i1⟩
  | 25 => ⟨S_, .f32⟩
  | 26 => ⟨S_, .f32⟩
  | 27 => ⟨S128x32, .f32⟩
  | 28 => ⟨S128x32, .f32⟩
  | 29 => ⟨S128x32, .f32⟩
  | 30 => ⟨S16x1x256, .f32⟩
  | 31 => ⟨S_, .f32⟩
  | 32 => ⟨S128x512, .f32⟩
  | 33 => ⟨S128x512, .i1⟩
  | 34 => ⟨S_, .f32⟩
  | 35 => ⟨S_, .f32⟩
  | 36 => ⟨S128x512, .f32⟩
  | 37 => ⟨S128x512, .f32⟩
  | 38 => ⟨S128x512, .f32⟩
  | 39 => ⟨S128x1x512, .f32⟩
  | 40 => ⟨S_, .f32⟩
  | 41 => ⟨S128, .f32⟩
  | 42 => ⟨S_, .f32⟩
  | 43 => ⟨S128, .f32⟩
  | 44 => ⟨S128, .f32⟩
  | 45 => ⟨S128, .f32⟩
  | 46 => ⟨S128x1, .f32⟩
  | 47 => ⟨S10, .f32⟩
  | 48 => ⟨S1x10, .f32⟩
  | 49 => ⟨S128x10, .f32⟩
  | 50 => ⟨S128x10, .f32⟩
  | 51 => ⟨S128x10, .f32⟩
  | 52 => ⟨S128x10, .i32⟩
  | 53 => ⟨S_, .f32⟩
  | 54 => ⟨S128x512, .f32⟩
  | 55 => ⟨S128, .i32⟩
  | 56 => ⟨S128x1, .i32⟩
  | 57 => ⟨S_, .i32⟩
  | 58 => ⟨S128x1, .i32⟩
  | 59 => ⟨S128x1, .i1⟩
  | 60 => ⟨S_, .i32⟩
  | 61 => ⟨S128x1, .i32⟩
  | 62 => ⟨S128x1, .i32⟩
  | 63 => ⟨S128x1, .i32⟩
  | 64 => ⟨S_, .i32⟩
  | 65 => ⟨S128x10, .i32⟩
  | 66 => ⟨S128x10, .i1⟩
  | 67 => ⟨S_, .i32⟩
  | 68 => ⟨S128x10, .i32⟩
  | 69 => ⟨S128x10, .i32⟩
  | 70 => ⟨S128x10, .i32⟩
  | 71 => ⟨S128x10, .i32⟩
  | 72 => ⟨S128x10x1, .i32⟩
  | 73 => ⟨S128x10x1, .i32⟩
  | 74 => ⟨S128x10x2, .i32⟩
  | 75 => ⟨S_, .f32⟩
  | 76 => ⟨S128x10, .f32⟩
  | 77 => ⟨S128x512, .f32⟩
  | 78 => ⟨S_, .f32⟩
  | 79 => ⟨S_, .f32⟩
  | 80 => ⟨S128x512, .f32⟩
  | 81 => ⟨S128x512, .f32⟩
  | 82 => ⟨S128x512, .i32⟩
  | 83 => ⟨S_, .i32⟩
  | 84 => ⟨S128x512, .i32⟩
  | 85 => ⟨S128x512, .i1⟩
  | 86 => ⟨S_, .i32⟩
  | 87 => ⟨S128x512, .i32⟩
  | 88 => ⟨S128x512, .i32⟩
  | 89 => ⟨S128x512, .i32⟩
  | 90 => ⟨S128x512x1, .i32⟩
  | 91 => ⟨S128x512, .f32⟩
  | 92 => ⟨S8, .i32⟩
  | 93 => ⟨S_, .i32⟩
  | 94 => ⟨S8, .i32⟩
  | 95 => ⟨S8, .i32⟩
  | 96 => ⟨S8x64, .i32⟩
  | 97 => ⟨S512, .i32⟩
  | 98 => ⟨S512, .f32⟩
  | 99 => ⟨S1x512, .f32⟩
  | 100 => ⟨S128x512, .f32⟩
  | 101 => ⟨S128x512, .f32⟩
  | 102 => ⟨S128x512, .i32⟩
  | 103 => ⟨S_, .i32⟩
  | 104 => ⟨S128x512, .i32⟩
  | 105 => ⟨S128x512, .i1⟩
  | 106 => ⟨S_, .i32⟩
  | 107 => ⟨S128x512, .i32⟩
  | 108 => ⟨S128x512, .i32⟩
  | 109 => ⟨S128x512, .i32⟩
  | 110 => ⟨S128x512x1, .i32⟩
  | 111 => ⟨S128x512, .f32⟩
  | 112 => ⟨S128x512, .f32⟩
  | 113 => ⟨S128x512, .f32⟩
  | 114 => ⟨S32x1x2048, .f32⟩
  | 115 => ⟨S128x32x1, .f32⟩
  | 116 => ⟨S11, .f32⟩
  | 117 => ⟨S1x1x11, .f32⟩
  | 118 => ⟨S128x32x11, .f32⟩
  | 119 => ⟨S128x32x11, .f32⟩
  | 120 => ⟨S128x32x11, .f32⟩
  | 121 => ⟨S1x512, .f32⟩
  | 122 => ⟨S1x512, .f32⟩
  | 123 => ⟨S512x512, .f32⟩
  | 124 => ⟨S1x32x512, .f32⟩
  | 125 => ⟨S32x512, .f32⟩
  | 126 => ⟨S1x1536x512, .f32⟩
  | 127 => ⟨S1536x512, .f32⟩
  | _ => ⟨S128x32x512, .f32⟩

abbrev hbmTy0_1 (i : Nat) : BufTy := match i % 128 with
  | 0 => ⟨S512x1536, .f32⟩
  | 1 => ⟨S512x1536, .bf16⟩
  | 2 => ⟨S1x1536, .f32⟩
  | 3 => ⟨S1536, .f32⟩
  | 4 => ⟨S1x1536, .f32⟩
  | 5 => ⟨S1x512x512, .f32⟩
  | 6 => ⟨S512x512, .f32⟩
  | 7 => ⟨S512x512, .f32⟩
  | 8 => ⟨S512x512, .bf16⟩
  | 9 => ⟨S1x512, .f32⟩
  | 10 => ⟨S512, .f32⟩
  | 11 => ⟨S1x512, .f32⟩
  | 12 => ⟨S1x2048x512, .f32⟩
  | 13 => ⟨S2048x512, .f32⟩
  | 14 => ⟨S512x2048, .f32⟩
  | 15 => ⟨S512x2048, .bf16⟩
  | 16 => ⟨S1x2048, .f32⟩
  | 17 => ⟨S2048, .f32⟩
  | 18 => ⟨S1x2048, .f32⟩
  | 19 => ⟨S1x512x2048, .f32⟩
  | 20 => ⟨S512x2048, .f32⟩
  | 21 => ⟨S2048x512, .f32⟩
  | 22 => ⟨S2048x512, .bf16⟩
  | 23 => ⟨S1x512, .f32⟩
  | 24 => ⟨S512, .f32⟩
  | 25 => ⟨S1x512, .f32⟩
  | 26 => ⟨S1x512, .f32⟩
  | 27 => ⟨S512, .f32⟩
  | 28 => ⟨S1x512, .f32⟩
  | 29 => ⟨S1x512, .f32⟩
  | 30 => ⟨S512, .f32⟩
  | 31 => ⟨S1x512, .f32⟩
  | 32 => ⟨S1x512, .f32⟩
  | 33 => ⟨S512, .f32⟩
  | 34 => ⟨S1x512, .f32⟩
  | 35 => ⟨S1x512, .f32⟩
  | 36 => ⟨S512, .f32⟩
  | 37 => ⟨S1x512, .f32⟩
  | 38 => ⟨S1x1536x512, .f32⟩
  | 39 => ⟨S1536x512, .f32⟩
  | 40 => ⟨S512x1536, .f32⟩
  | 41 => ⟨S512x1536, .bf16⟩
  | 42 => ⟨S1x1536, .f32⟩
  | 43 => ⟨S1536, .f32⟩
  | 44 => ⟨S1x1536, .f32⟩
  | 45 => ⟨S1x512x512, .f32⟩
  | 46 => ⟨S512x512, .f32⟩
  | 47 => ⟨S512x512, .f32⟩
  | 48 => ⟨S512x512, .bf16⟩
  | 49 => ⟨S1x512, .f32⟩
  | 50 => ⟨S512, .f32⟩
  | 51 => ⟨S1x512, .f32⟩
  | 52 => ⟨S1x2048x512, .f32⟩
  | 53 => ⟨S2048x512, .f32⟩
  | 54 => ⟨S512x2048, .f32⟩
  | 55 => ⟨S512x2048, .bf16⟩
  | 56 => ⟨S1x2048, .f32⟩
  | 57 => ⟨S2048, .f32⟩
  | 58 => ⟨S1x2048, .f32⟩
  | 59 => ⟨S1x512x2048, .f32⟩
  | 60 => ⟨S512x2048, .f32⟩
  | 61 => ⟨S2048x512, .f32⟩
  | 62 => ⟨S2048x512, .bf16⟩
  | 63 => ⟨S1x512, .f32⟩
  | 64 => ⟨S512, .f32⟩
  | 65 => ⟨S1x512, .f32⟩
  | 66 => ⟨S1x512, .f32⟩
  | 67 => ⟨S512, .f32⟩
  | 68 => ⟨S1x512, .f32⟩
  | 69 => ⟨S1x512, .f32⟩
  | 70 => ⟨S512, .f32⟩
  | 71 => ⟨S1x512, .f32⟩
  | 72 => ⟨S1x512, .f32⟩
  | 73 => ⟨S512, .f32⟩
  | 74 => ⟨S1x512, .f32⟩
  | 75 => ⟨S1x512, .f32⟩
  | 76 => ⟨S512, .f32⟩
  | 77 => ⟨S1x512, .f32⟩
  | 78 => ⟨S128x32x512, .f32⟩
  | 79 => ⟨S128x512x512, .f32⟩
  | 80 => ⟨S128x1x1, .f32⟩
  | 81 => ⟨S128, .f32⟩
  | _ => ⟨S128x32x512, .f32⟩

abbrev hbmTy (i : Nat) : BufTy := match i / 128 with
  | 0 => hbmTy0_0 i
  | 1 => hbmTy0_1 i
  | _ => ⟨S128x32x512, .f32⟩

abbrev bufTy : (tb : Table) → Fin (tcTables nBuf tb) → BufTy
  | .hbm, ⟨i, _⟩ => hbmTy i
  | .local _ .vmem, ⟨0, _⟩ => ⟨S8x32x512, .f32⟩
  | .local _ .vmem, ⟨1, _⟩ => ⟨S8x32x512, .f32⟩
  | .local _ .vmem, ⟨2, _⟩ => ⟨S1x1x256, .f32⟩
  | .local _ .vmem, ⟨3, _⟩ => ⟨S1x1x256, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S512x1536, .bf16⟩
  | .local _ .vmem, ⟨8, _⟩ => ⟨S1x1536, .f32⟩
  | .local _ .vmem, ⟨9, _⟩ => ⟨S512x512, .bf16⟩
  | .local _ .vmem, ⟨10, _⟩ => ⟨S1x512, .f32⟩
  | .local _ .vmem, ⟨11, _⟩ => ⟨S512x2048, .bf16⟩
  | .local _ .vmem, ⟨12, _⟩ => ⟨S1x2048, .f32⟩
  | .local _ .vmem, ⟨13, _⟩ => ⟨S2048x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S512x1536, .bf16⟩
  | .local _ .vmem, ⟨20, _⟩ => ⟨S1x1536, .f32⟩
  | .local _ .vmem, ⟨21, _⟩ => ⟨S512x512, .bf16⟩
  | .local _ .vmem, ⟨22, _⟩ => ⟨S1x512, .f32⟩
  | .local _ .vmem, ⟨23, _⟩ => ⟨S512x2048, .bf16⟩
  | .local _ .vmem, ⟨24, _⟩ => ⟨S1x2048, .f32⟩
  | .local _ .vmem, ⟨25, _⟩ => ⟨S2048x512, .bf16⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S8x32x512, .f32⟩
  | .local _ .vmem, ⟨32, _⟩ => ⟨S8x32x512, .f32⟩
  | .local _ .vmem, ⟨33, _⟩ => ⟨S1x512x512, .f32⟩
  | .local _ .vmem, ⟨34, _⟩ => ⟨S1x512x512, .f32⟩
  | .local _ .vmem, ⟨35, _⟩ => ⟨S1x1x512, .f32⟩
  | .local _ .vmem, ⟨36, _⟩ => ⟨S1x1x512, .f32⟩
  | .local _ .vmem, ⟨37, _⟩ => ⟨S512x512, .f32⟩
  | .local _ .vmem, ⟨38, _⟩ => ⟨S1x512, .f32⟩
  | .local _ .vmem, ⟨39, _⟩ => ⟨S1x512, .f32⟩
  | .local _ .vmem, ⟨40, _⟩ => ⟨S512x1536, .bf16⟩
  | .local _ .vmem, ⟨41, _⟩ => ⟨S1x1536, .f32⟩
  | .local _ .vmem, ⟨42, _⟩ => ⟨S512x512, .bf16⟩
  | .local _ .vmem, ⟨43, _⟩ => ⟨S1x512, .f32⟩
  | .local _ .vmem, ⟨44, _⟩ => ⟨S512x2048, .bf16⟩
  | .local _ .vmem, ⟨45, _⟩ => ⟨S1x2048, .f32⟩
  | .local _ .vmem, ⟨46, _⟩ => ⟨S2048x512, .bf16⟩
  | .local _ .vmem, ⟨47, _⟩ => ⟨S1x512, .f32⟩
  | .local _ .vmem, ⟨48, _⟩ => ⟨S1x512, .f32⟩
  | .local _ .vmem, ⟨49, _⟩ => ⟨S1x512, .f32⟩
  | .local _ .vmem, ⟨50, _⟩ => ⟨S1x512, .f32⟩
  | .local _ .vmem, ⟨51, _⟩ => ⟨S1x512, .f32⟩
  | .local _ .vmem, ⟨52, _⟩ => ⟨S512x1536, .bf16⟩
  | .local _ .vmem, ⟨53, _⟩ => ⟨S1x1536, .f32⟩
  | .local _ .vmem, ⟨54, _⟩ => ⟨S512x512, .bf16⟩
  | .local _ .vmem, ⟨55, _⟩ => ⟨S1x512, .f32⟩
  | .local _ .vmem, ⟨56, _⟩ => ⟨S512x2048, .bf16⟩
  | .local _ .vmem, ⟨57, _⟩ => ⟨S1x2048, .f32⟩
  | .local _ .vmem, ⟨58, _⟩ => ⟨S2048x512, .bf16⟩
  | .local _ .vmem, ⟨59, _⟩ => ⟨S1x512, .f32⟩
  | .local _ .vmem, ⟨60, _⟩ => ⟨S1x512, .f32⟩
  | .local _ .vmem, ⟨61, _⟩ => ⟨S1x512, .f32⟩
  | .local _ .vmem, ⟨62, _⟩ => ⟨S1x512, .f32⟩
  | .local _ .vmem, ⟨63, _⟩ => ⟨S1x512, .f32⟩
  | .local _ .vmem, ⟨64, _⟩ => ⟨S1x512x512, .f32⟩
  | .local _ .vmem, ⟨65, _⟩ => ⟨S1x512x512, .f32⟩
  | .local _ .vmem, ⟨66, _⟩ => ⟨S4x32x512, .f32⟩
  | .local _ .vmem, ⟨67, _⟩ => ⟨S4x32x512, .f32⟩
  | .local _ .vmem, ⟨68, _⟩ => ⟨S4x512x512, .f32⟩
  | .local _ .vmem, ⟨69, _⟩ => ⟨S4x512x512, .f32⟩
  | .local _ .vmem, ⟨70, _⟩ => ⟨S4x32x11, .f32⟩
  | .local _ .vmem, ⟨71, _⟩ => ⟨S4x32x11, .f32⟩
  | .local _ .vmem, ⟨72, _⟩ => ⟨S1x1x2048, .f32⟩
  | .local _ .vmem, ⟨73, _⟩ => ⟨S1x1x2048, .f32⟩
  | .local _ .vmem, ⟨74, _⟩ => ⟨S4x1x1, .f32⟩
  | .local _ .vmem, ⟨75, _⟩ => ⟨S4x1x1, .f32⟩
  | _, _ => ⟨S128x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_cst_0 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v2 : Ref sig .tc := ⟨.hbm, 29, rfl⟩
abbrev main_v3 : Ref sig .tc := ⟨.hbm, 30, rfl⟩
abbrev main_cst_2 : Ref sig .tc := ⟨.hbm, 31, rfl⟩
abbrev main_v4 : Ref sig .tc := ⟨.hbm, 32, rfl⟩
abbrev main_v5 : Ref sig .tc := ⟨.hbm, 33, rfl⟩
abbrev main_cst_3 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v6 : Ref sig .tc := ⟨.hbm, 38, rfl⟩
abbrev main_v7 : Ref sig .tc := ⟨.hbm, 39, rfl⟩
abbrev main_cst_5 : Ref sig .tc := ⟨.hbm, 40, rfl⟩
abbrev main_v8 : Ref sig .tc := ⟨.hbm, 41, rfl⟩
abbrev main_cst_6 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_7 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c : Ref sig .tc := ⟨.hbm, 57, rfl⟩
abbrev main_v22 : Ref sig .tc := ⟨.hbm, 58, rfl⟩
abbrev main_v23 : Ref sig .tc := ⟨.hbm, 59, rfl⟩
abbrev main_c_8 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_9 : Ref sig .tc := ⟨.hbm, 64, rfl⟩
abbrev main_v27 : Ref sig .tc := ⟨.hbm, 65, rfl⟩
abbrev main_v28 : Ref sig .tc := ⟨.hbm, 66, rfl⟩
abbrev main_c_10 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_11 : Ref sig .tc := ⟨.hbm, 75, rfl⟩
abbrev main_v36 : Ref sig .tc := ⟨.hbm, 76, rfl⟩
abbrev main_v37 : Ref sig .tc := ⟨.hbm, 77, rfl⟩
abbrev main_call3_call0_cst : Ref sig .tc := ⟨.hbm, 78, rfl⟩
abbrev main_call3_call0_v0 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_12 : Ref sig .tc := ⟨.hbm, 83, rfl⟩
abbrev main_v41 : Ref sig .tc := ⟨.hbm, 84, rfl⟩
abbrev main_v42 : Ref sig .tc := ⟨.hbm, 85, rfl⟩
abbrev main_c_13 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_14 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_15 : Ref sig .tc := ⟨.hbm, 103, rfl⟩
abbrev main_v58 : Ref sig .tc := ⟨.hbm, 104, rfl⟩
abbrev main_v59 : Ref sig .tc := ⟨.hbm, 105, rfl⟩
abbrev main_c_16 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg29_1 : Ref sig .tc := ⟨.vmem, 32, rfl⟩
abbrev cc1_stg0_0 : Ref sig .tc := ⟨.vmem, 33, rfl⟩
abbrev cc1_stg0_1 : Ref sig .tc := ⟨.vmem, 34, rfl⟩
abbrev cc1_stg1_0 : Ref sig .tc := ⟨.vmem, 35, rfl⟩
abbrev cc1_stg1_1 : Ref sig .tc := ⟨.vmem, 36, rfl⟩
abbrev cc1_stg2_0 : Ref sig .tc := ⟨.vmem, 37, rfl⟩
abbrev cc1_stg3_0 : Ref sig .tc := ⟨.vmem, 38, rfl⟩
abbrev cc1_stg4_0 : Ref sig .tc := ⟨.vmem, 39, rfl⟩
abbrev cc1_stg5_0 : Ref sig .tc := ⟨.vmem, 40, rfl⟩
abbrev cc1_stg6_0 : Ref sig .tc := ⟨.vmem, 41, rfl⟩
abbrev cc1_stg7_0 : Ref sig .tc := ⟨.vmem, 42, rfl⟩
abbrev cc1_stg8_0 : Ref sig .tc := ⟨.vmem, 43, rfl⟩
abbrev cc1_stg9_0 : Ref sig .tc := ⟨.vmem, 44, rfl⟩
abbrev cc1_stg10_0 : Ref sig .tc := ⟨.vmem, 45, rfl⟩
abbrev cc1_stg11_0 : Ref sig .tc := ⟨.vmem, 46, rfl⟩
abbrev cc1_stg12_0 : Ref sig .tc := ⟨.vmem, 47, rfl⟩
abbrev cc1_stg13_0 : Ref sig .tc := ⟨.vmem, 48, rfl⟩
abbrev cc1_stg14_0 : Ref sig .tc := ⟨.vmem, 49, rfl⟩
abbrev cc1_stg15_0 : Ref sig .tc := ⟨.vmem, 50, rfl⟩
abbrev cc1_stg16_0 : Ref sig .tc := ⟨.vmem, 51, rfl⟩
abbrev cc1_stg17_0 : Ref sig .tc := ⟨.vmem, 52, rfl⟩
abbrev cc1_stg18_0 : Ref sig .tc := ⟨.vmem, 53, rfl⟩
abbrev cc1_stg19_0 : Ref sig .tc := ⟨.vmem, 54, rfl⟩
abbrev cc1_stg20_0 : Ref sig .tc := ⟨.vmem, 55, rfl⟩
abbrev cc1_stg21_0 : Ref sig .tc := ⟨.vmem, 56, rfl⟩
abbrev cc1_stg22_0 : Ref sig .tc := ⟨.vmem, 57, rfl⟩
abbrev cc1_stg23_0 : Ref sig .tc := ⟨.vmem, 58, rfl⟩
abbrev cc1_stg24_0 : Ref sig .tc := ⟨.vmem, 59, rfl⟩
abbrev cc1_stg25_0 : Ref sig .tc := ⟨.vmem, 60, rfl⟩
abbrev cc1_stg26_0 : Ref sig .tc := ⟨.vmem, 61, rfl⟩
abbrev cc1_stg27_0 : Ref sig .tc := ⟨.vmem, 62, rfl⟩
abbrev cc1_stg28_0 : Ref sig .tc := ⟨.vmem, 63, rfl⟩
abbrev cc1_stg29_0 : Ref sig .tc := ⟨.vmem, 64, rfl⟩
abbrev cc1_stg29_1 : Ref sig .tc := ⟨.vmem, 65, rfl⟩
abbrev cc2_stg0_0 : Ref sig .tc := ⟨.vmem, 66, rfl⟩
abbrev cc2_stg0_1 : Ref sig .tc := ⟨.vmem, 67, rfl⟩
abbrev cc2_stg1_0 : Ref sig .tc := ⟨.vmem, 68, rfl⟩
abbrev cc2_stg1_1 : Ref sig .tc := ⟨.vmem, 69, rfl⟩
abbrev cc2_stg2_0 : Ref sig .tc := ⟨.vmem, 70, rfl⟩
abbrev cc2_stg2_1 : Ref sig .tc := ⟨.vmem, 71, rfl⟩
abbrev cc2_stg3_0 : Ref sig .tc := ⟨.vmem, 72, rfl⟩
abbrev cc2_stg3_1 : Ref sig .tc := ⟨.vmem, 73, rfl⟩
abbrev cc2_stg4_0 : Ref sig .tc := ⟨.vmem, 74, rfl⟩
abbrev cc2_stg4_1 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem29_1 : DmaSem sig := 32
abbrev cc1_sem0_0 : DmaSem sig := 33
abbrev cc1_sem0_1 : DmaSem sig := 34
abbrev cc1_sem1_0 : DmaSem sig := 35
abbrev cc1_sem1_1 : DmaSem sig := 36
abbrev cc1_sem2_0 : DmaSem sig := 37
abbrev cc1_sem3_0 : DmaSem sig := 38
abbrev cc1_sem4_0 : DmaSem sig := 39
abbrev cc1_sem5_0 : DmaSem sig := 40
abbrev cc1_sem6_0 : DmaSem sig := 41
abbrev cc1_sem7_0 : DmaSem sig := 42
abbrev cc1_sem8_0 : DmaSem sig := 43
abbrev cc1_sem9_0 : DmaSem sig := 44
abbrev cc1_sem10_0 : DmaSem sig := 45
abbrev cc1_sem11_0 : DmaSem sig := 46
abbrev cc1_sem12_0 : DmaSem sig := 47
abbrev cc1_sem13_0 : DmaSem sig := 48
abbrev cc1_sem14_0 : DmaSem sig := 49
abbrev cc1_sem15_0 : DmaSem sig := 50
abbrev cc1_sem16_0 : DmaSem sig := 51
abbrev cc1_sem17_0 : DmaSem sig := 52
abbrev cc1_sem18_0 : DmaSem sig := 53
abbrev cc1_sem19_0 : DmaSem sig := 54
abbrev cc1_sem20_0 : DmaSem sig := 55
abbrev cc1_sem21_0 : DmaSem sig := 56
abbrev cc1_sem22_0 : DmaSem sig := 57
abbrev cc1_sem23_0 : DmaSem sig := 58
abbrev cc1_sem24_0 : DmaSem sig := 59
abbrev cc1_sem25_0 : DmaSem sig := 60
abbrev cc1_sem26_0 : DmaSem sig := 61
abbrev cc1_sem27_0 : DmaSem sig := 62
abbrev cc1_sem28_0 : DmaSem sig := 63
abbrev cc1_sem29_0 : DmaSem sig := 64
abbrev cc1_sem29_1 : DmaSem sig := 65
abbrev cc2_sem0_0 : DmaSem sig := 66
abbrev cc2_sem0_1 : DmaSem sig := 67
abbrev cc2_sem1_0 : DmaSem sig := 68
abbrev cc2_sem1_1 : DmaSem sig := 69
abbrev cc2_sem2_0 : DmaSem sig := 70
abbrev cc2_sem2_1 : DmaSem sig := 71
abbrev cc2_sem3_0 : DmaSem sig := 72
abbrev cc2_sem3_1 : DmaSem sig := 73
abbrev cc2_sem4_0 : DmaSem sig := 74
abbrev cc2_sem4_1 : DmaSem sig := 75

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1536 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x2048 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2048x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S8x32x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_27 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_28 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_29 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1536 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1536 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2048x512 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S512x1536 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x1536 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S512x512 .bf16 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x512 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S512x2048 .bf16 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x2048 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S2048x512 .bf16 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x512 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S1x512 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S1x512 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 1 → Memref sig .tc .vmem S1x512 .f32 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))
abbrev reads1_27 : Fin grid1.rank → Bool := ![false]

abbrev stage1_28 : Fin 1 → Memref sig .tc .vmem S1x512 .f32 := fun | 0 => Memref.whole cc1_stg28_0 | ⟨_ + 1, h⟩ => absurd h (Nat.not_lt.2 (Nat.le_add_left _ _))
abbrev sem1_28 : Fin 1 → DmaSem sig := fun | 0 => cc1_sem28_0 | ⟨_ + 1, h⟩ => absurd h (Nat.not_lt.2 (Nat.le_add_left _ _))
abbrev reads1_28 : Fin grid1.rank → Bool := ![false]

abbrev stage1_29 : Fin 2 → Memref sig .tc .vmem S1x512x512 .f32 := fun | 0 => Memref.whole cc1_stg29_0 | 1 => Memref.whole cc1_stg29_1 | ⟨_ + 2, h⟩ => absurd h (Nat.not_lt.2 (Nat.le_add_left _ _))
abbrev sem1_29 : Fin 2 → DmaSem sig := fun | 0 => cc1_sem29_0 | 1 => cc1_sem29_1 | ⟨_ + 2, h⟩ => absurd h (Nat.not_lt.2 (Nat.le_add_left _ _))
abbrev reads1_29 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4x32x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x32x11 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "mask" => some ⊥
  | "narrow" => some ((-4398046511104 / 8796093 : ℝ) : EReal)
  | "wide" => some ((-268435456 / 5368709 : ℝ) : EReal)
  | _ => none
-- ==== ReferenceIdeal.lean ====
abbrev S128x32x512 : Shape := ⟨3, ![128, 32, 512]⟩
abbrev S128x512x512 : Shape := ⟨3, ![128, 512, 512]⟩
abbrev S128x32 : Shape := ⟨2, ![128, 32]⟩
abbrev S128x512 : Shape := ⟨2, ![128, 512]⟩
abbrev S1x512x512 : Shape := ⟨3, ![1, 512, 512]⟩
abbrev S512 : Shape := ⟨1, ![512]⟩
abbrev S2x1536x512 : Shape := ⟨3, ![2, 1536, 512]⟩
abbrev S2x1536 : Shape := ⟨2, ![2, 1536]⟩
abbrev S2x512x512 : Shape := ⟨3, ![2, 512, 512]⟩
abbrev S2x512 : Shape := ⟨2, ![2, 512]⟩
abbrev S2x2048x512 : Shape := ⟨3, ![2, 2048, 512]⟩
abbrev S2x2048 : Shape := ⟨2, ![2, 2048]⟩
abbrev S2x512x2048 : Shape := ⟨3, ![2, 512, 2048]⟩
abbrev S1x11 : Shape := ⟨2, ![1, 11]⟩
abbrev S11 : Shape := ⟨1, ![11]⟩
abbrev S9 : Shape := ⟨1, ![9]⟩
abbrev S8 : Shape := ⟨1, ![8]⟩
abbrev S_ : Shape := ⟨0, ![]⟩
abbrev S8x64 : Shape := ⟨2, ![8, 64]⟩
abbrev S1x32x512 : Shape := ⟨3, ![1, 32, 512]⟩
abbrev S128x32x1 : Shape := ⟨3, ![128, 32, 1]⟩
abbrev S1x1x512 : Shape := ⟨3, ![1, 1, 512]⟩
abbrev S128x1x1x32 : Shape := ⟨4, ![128, 1, 1, 32]⟩
abbrev S1x1536x512 : Shape := ⟨3, ![1, 1536, 512]⟩
abbrev S1536x512 : Shape := ⟨2, ![1536, 512]⟩
abbrev S512x1536 : Shape := ⟨2, ![512, 1536]⟩
abbrev S128x32x1536 : Shape := ⟨3, ![128, 32, 1536]⟩
abbrev S1x1536 : Shape := ⟨2, ![1, 1536]⟩
abbrev S1536 : Shape := ⟨1, ![1536]⟩
abbrev S1x1x1536 : Shape := ⟨3, ![1, 1, 1536]⟩
abbrev S128x32x8x64 : Shape := ⟨4, ![128, 32, 8, 64]⟩
abbrev S128x8x32x32 : Shape := ⟨4, ![128, 8, 32, 32]⟩
abbrev S128x8x32 : Shape := ⟨3, ![128, 8, 32]⟩
abbrev S128x8x32x1 : Shape := ⟨4, ![128, 8, 32, 1]⟩
abbrev S128x8x64x32 : Shape := ⟨4, ![128, 8, 64, 32]⟩
abbrev S512x512 : Shape := ⟨2, ![512, 512]⟩
abbrev S1x512 : Shape := ⟨2, ![1, 512]⟩
abbrev S1x2048x512 : Shape := ⟨3, ![1, 2048, 512]⟩
abbrev S2048x512 : Shape := ⟨2, ![2048, 512]⟩
abbrev S512x2048 : Shape := ⟨2, ![512, 2048]⟩
abbrev S128x32x2048 : Shape := ⟨3, ![128, 32, 2048]⟩
abbrev S1x2048 : Shape := ⟨2, ![1, 2048]⟩
abbrev S2048 : Shape := ⟨1, ![2048]⟩
abbrev S1x1x2048 : Shape := ⟨3, ![1, 1, 2048]⟩
abbrev S1x512x2048 : Shape := ⟨3, ![1, 512, 2048]⟩
abbrev S128x512x1 : Shape := ⟨3, ![128, 512, 1]⟩
abbrev S128x1x1x512 : Shape := ⟨4, ![128, 1, 1, 512]⟩
abbrev S128x512x1536 : Shape := ⟨3, ![128, 512, 1536]⟩
abbrev S128x512x8x64 : Shape := ⟨4, ![128, 512, 8, 64]⟩
abbrev S128x8x512x512 : Shape := ⟨4, ![128, 8, 512, 512]⟩
abbrev S128x8x512 : Shape := ⟨3, ![128, 8, 512]⟩
abbrev S128x8x512x1 : Shape := ⟨4, ![128, 8, 512, 1]⟩
abbrev S128x8x64x512 : Shape := ⟨4, ![128, 8, 64, 512]⟩
abbrev S128x512x2048 : Shape := ⟨3, ![128, 512, 2048]⟩
abbrev S128x1x512 : Shape := ⟨3, ![128, 1, 512]⟩
abbrev S128x32x512x1 : Shape := ⟨4, ![128, 32, 512, 1]⟩
abbrev S1x1x1x11 : Shape := ⟨4, ![1, 1, 1, 11]⟩
abbrev S128x32x512x11 : Shape := ⟨4, ![128, 32, 512, 11]⟩
abbrev S128 : Shape := ⟨1, ![128]⟩
abbrev S128x1 : Shape := ⟨2, ![128, 1]⟩
abbrev S10 : Shape := ⟨1, ![10]⟩
abbrev S1x10 : Shape := ⟨2, ![1, 10]⟩
abbrev S128x10 : Shape := ⟨2, ![128, 10]⟩
abbrev S128x10x1 : Shape := ⟨3, ![128, 10, 1]⟩
abbrev S128x10x2 : Shape := ⟨3, ![128, 10, 2]⟩
abbrev S128x1x512x1 : Shape := ⟨4, ![128, 1, 512, 1]⟩
abbrev S128x32x11 : Shape := ⟨3, ![128, 32, 11]⟩
abbrev S128x11 : Shape := ⟨2, ![128, 11]⟩
abbrev S11x1 : Shape := ⟨2, ![11, 1]⟩

abbrev nBuf : Space → Nat
  | .hbm => 787
  | .vmem => 0
  | .smem => 0
  | _ => 0

abbrev hbmTy0_0 (i : Nat) : BufTy := match i % 128 with
  | 0 => ⟨S128x32x512, .f32⟩
  | 1 => ⟨S128x512x512, .f32⟩
  | 2 => ⟨S128x32, .f32⟩
  | 3 => ⟨S128x512, .f32⟩
  | 4 => ⟨S1x512x512, .f32⟩
  | 5 => ⟨S512, .f32⟩
  | 6 => ⟨S512, .f32⟩
  | 7 => ⟨S2x1536x512, .f32⟩
  | 8 => ⟨S2x1536, .f32⟩
  | 9 => ⟨S2x512x512, .f32⟩
  | 10 => ⟨S2x512, .f32⟩
  | 11 => ⟨S2x2048x512, .f32⟩
  | 12 => ⟨S2x2048, .f32⟩
  | 13 => ⟨S2x512x2048, .f32⟩
  | 14 => ⟨S2x512, .f32⟩
  | 15 => ⟨S2x512, .f32⟩
  | 16 => ⟨S2x512, .f32⟩
  | 17 => ⟨S2x512, .f32⟩
  | 18 => ⟨S2x512, .f32⟩
  | 19 => ⟨S1x11, .f32⟩
  | 20 => ⟨S11, .f32⟩
  | 21 => ⟨S9, .f32⟩
  | 22 => ⟨S11, .f32⟩
  | 23 => ⟨S11, .f32⟩
  | 24 => ⟨S8, .i32⟩
  | 25 => ⟨S_, .i32⟩
  | 26 => ⟨S8, .i32⟩
  | 27 => ⟨S8, .i32⟩
  | 28 => ⟨S8x64, .i32⟩
  | 29 => ⟨S512, .i32⟩
  | 30 => ⟨S512, .f32⟩
  | 31 => ⟨S1x32x512, .f32⟩
  | 32 => ⟨S128x32x512, .f32⟩
  | 33 => ⟨S128x32x512, .f32⟩
  | 34 => ⟨S_, .f32⟩
  | 35 => ⟨S128x32, .f32⟩
  | 36 => ⟨S128x32x1, .f32⟩
  | 37 => ⟨S_, .f32⟩
  | 38 => ⟨S128x32x1, .f32⟩
  | 39 => ⟨S128x32x1, .f32⟩
  | 40 => ⟨S128x32x512, .f32⟩
  | 41 => ⟨S128x32x512, .f32⟩
  | 42 => ⟨S128x32x512, .f32⟩
  | 43 => ⟨S_, .f32⟩
  | 44 => ⟨S128x32, .f32⟩
  | 45 => ⟨S128x32x1, .f32⟩
  | 46 => ⟨S_, .f32⟩
  | 47 => ⟨S128x32x1, .f32⟩
  | 48 => ⟨S128x32x1, .f32⟩
  | 49 => ⟨S128x32x512, .f32⟩
  | 50 => ⟨S128x32x512, .f32⟩
  | 51 => ⟨S_, .f32⟩
  | 52 => ⟨S128x32x1, .f32⟩
  | 53 => ⟨S128x32x1, .f32⟩
  | 54 => ⟨S128x32x1, .f32⟩
  | 55 => ⟨S128x32x512, .f32⟩
  | 56 => ⟨S128x32x512, .f32⟩
  | 57 => ⟨S1x1x512, .f32⟩
  | 58 => ⟨S128x32x512, .f32⟩
  | 59 => ⟨S128x32x512, .f32⟩
  | 60 => ⟨S1x1x512, .f32⟩
  | 61 => ⟨S128x32x512, .f32⟩
  | 62 => ⟨S128x32x512, .f32⟩
  | 63 => ⟨S128x1x1x32, .f32⟩
  | 64 => ⟨S_, .f32⟩
  | 65 => ⟨S128x1x1x32, .f32⟩
  | 66 => ⟨S128x1x1x32, .i1⟩
  | 67 => ⟨S_, .f32⟩
  | 68 => ⟨S_, .f32⟩
  | 69 => ⟨S128x1x1x32, .f32⟩
  | 70 => ⟨S128x1x1x32, .f32⟩
  | 71 => ⟨S128x1x1x32, .f32⟩
  | 72 => ⟨S1x1536x512, .f32⟩
  | 73 => ⟨S1536x512, .f32⟩
  | 74 => ⟨S512x1536, .f32⟩
  | 75 => ⟨S128x32x1536, .f32⟩
  | 76 => ⟨S1x1536, .f32⟩
  | 77 => ⟨S1536, .f32⟩
  | 78 => ⟨S1x1x1536, .f32⟩
  | 79 => ⟨S128x32x1536, .f32⟩
  | 80 => ⟨S128x32x1536, .f32⟩
  | 81 => ⟨S128x32x512, .f32⟩
  | 82 => ⟨S128x32x512, .f32⟩
  | 83 => ⟨S128x32x512, .f32⟩
  | 84 => ⟨S128x32x8x64, .f32⟩
  | 85 => ⟨S128x32x8x64, .f32⟩
  | 86 => ⟨S128x32x8x64, .f32⟩
  | 87 => ⟨S128x8x32x32, .f32⟩
  | 88 => ⟨S_, .f32⟩
  | 89 => ⟨S128x8x32x32, .f32⟩
  | 90 => ⟨S128x8x32x32, .f32⟩
  | 91 => ⟨S128x1x1x32, .f32⟩
  | 92 => ⟨S128x8x32x32, .f32⟩
  | 93 => ⟨S128x8x32x32, .f32⟩
  | 94 => ⟨S_, .f32⟩
  | 95 => ⟨S128x8x32, .f32⟩
  | 96 => ⟨S_, .f32⟩
  | 97 => ⟨S128x8x32, .f32⟩
  | 98 => ⟨S128x8x32, .f32⟩
  | 99 => ⟨S128x8x32x1, .f32⟩
  | 100 => ⟨S128x8x32x32, .f32⟩
  | 101 => ⟨S128x8x32x32, .f32⟩
  | 102 => ⟨S128x8x32x32, .f32⟩
  | 103 => ⟨S_, .f32⟩
  | 104 => ⟨S128x8x32, .f32⟩
  | 105 => ⟨S128x8x32x1, .f32⟩
  | 106 => ⟨S128x8x32x32, .f32⟩
  | 107 => ⟨S128x8x32x32, .f32⟩
  | 108 => ⟨S128x8x64x32, .f32⟩
  | 109 => ⟨S128x32x8x64, .f32⟩
  | 110 => ⟨S128x32x512, .f32⟩
  | 111 => ⟨S1x512x512, .f32⟩
  | 112 => ⟨S512x512, .f32⟩
  | 113 => ⟨S512x512, .f32⟩
  | 114 => ⟨S128x32x512, .f32⟩
  | 115 => ⟨S128x32x512, .f32⟩
  | 116 => ⟨S1x512, .f32⟩
  | 117 => ⟨S512, .f32⟩
  | 118 => ⟨S1x1x512, .f32⟩
  | 119 => ⟨S128x32x512, .f32⟩
  | 120 => ⟨S128x32x512, .f32⟩
  | 121 => ⟨S1x512, .f32⟩
  | 122 => ⟨S512, .f32⟩
  | 123 => ⟨S1x512, .f32⟩
  | 124 => ⟨S512, .f32⟩
  | 125 => ⟨S_, .f32⟩
  | 126 => ⟨S128x32, .f32⟩
  | 127 => ⟨S128x32x1, .f32⟩
  | _ => ⟨S128x32x512, .f32⟩

abbrev hbmTy0_1 (i : Nat) : BufTy := match i % 128 with
  | 0 => ⟨S_, .f32⟩
  | 1 => ⟨S128x32x1, .f32⟩
  | 2 => ⟨S128x32x1, .f32⟩
  | 3 => ⟨S128x32x512, .f32⟩
  | 4 => ⟨S128x32x512, .f32⟩
  | 5 => ⟨S128x32x512, .f32⟩
  | 6 => ⟨S_, .f32⟩
  | 7 => ⟨S128x32, .f32⟩
  | 8 => ⟨S128x32x1, .f32⟩
  | 9 => ⟨S_, .f32⟩
  | 10 => ⟨S128x32x1, .f32⟩
  | 11 => ⟨S128x32x1, .f32⟩
  | 12 => ⟨S128x32x512, .f32⟩
  | 13 => ⟨S128x32x512, .f32⟩
  | 14 => ⟨S_, .f32⟩
  | 15 => ⟨S128x32x1, .f32⟩
  | 16 => ⟨S128x32x1, .f32⟩
  | 17 => ⟨S128x32x1, .f32⟩
  | 18 => ⟨S128x32x512, .f32⟩
  | 19 => ⟨S128x32x512, .f32⟩
  | 20 => ⟨S1x1x512, .f32⟩
  | 21 => ⟨S128x32x512, .f32⟩
  | 22 => ⟨S128x32x512, .f32⟩
  | 23 => ⟨S1x1x512, .f32⟩
  | 24 => ⟨S128x32x512, .f32⟩
  | 25 => ⟨S128x32x512, .f32⟩
  | 26 => ⟨S1x2048x512, .f32⟩
  | 27 => ⟨S2048x512, .f32⟩
  | 28 => ⟨S512x2048, .f32⟩
  | 29 => ⟨S128x32x2048, .f32⟩
  | 30 => ⟨S1x2048, .f32⟩
  | 31 => ⟨S2048, .f32⟩
  | 32 => ⟨S1x1x2048, .f32⟩
  | 33 => ⟨S128x32x2048, .f32⟩
  | 34 => ⟨S128x32x2048, .f32⟩
  | 35 => ⟨S_, .f32⟩
  | 36 => ⟨S128x32x2048, .f32⟩
  | 37 => ⟨S128x32x2048, .f32⟩
  | 38 => ⟨S1x512x2048, .f32⟩
  | 39 => ⟨S512x2048, .f32⟩
  | 40 => ⟨S2048x512, .f32⟩
  | 41 => ⟨S128x32x512, .f32⟩
  | 42 => ⟨S1x512, .f32⟩
  | 43 => ⟨S512, .f32⟩
  | 44 => ⟨S1x1x512, .f32⟩
  | 45 => ⟨S128x32x512, .f32⟩
  | 46 => ⟨S128x32x512, .f32⟩
  | 47 => ⟨S128x32x512, .f32⟩
  | 48 => ⟨S1x512, .f32⟩
  | 49 => ⟨S512, .f32⟩
  | 50 => ⟨S1x512, .f32⟩
  | 51 => ⟨S512, .f32⟩
  | 52 => ⟨S_, .f32⟩
  | 53 => ⟨S128x32, .f32⟩
  | 54 => ⟨S128x32x1, .f32⟩
  | 55 => ⟨S_, .f32⟩
  | 56 => ⟨S128x32x1, .f32⟩
  | 57 => ⟨S128x32x1, .f32⟩
  | 58 => ⟨S128x32x512, .f32⟩
  | 59 => ⟨S128x32x512, .f32⟩
  | 60 => ⟨S128x32x512, .f32⟩
  | 61 => ⟨S_, .f32⟩
  | 62 => ⟨S128x32, .f32⟩
  | 63 => ⟨S128x32x1, .f32⟩
  | 64 => ⟨S_, .f32⟩
  | 65 => ⟨S128x32x1, .f32⟩
  | 66 => ⟨S128x32x1, .f32⟩
  | 67 => ⟨S128x32x512, .f32⟩
  | 68 => ⟨S128x32x512, .f32⟩
  | 69 => ⟨S_, .f32⟩
  | 70 => ⟨S128x32x1, .f32⟩
  | 71 => ⟨S128x32x1, .f32⟩
  | 72 => ⟨S128x32x1, .f32⟩
  | 73 => ⟨S128x32x512, .f32⟩
  | 74 => ⟨S128x32x512, .f32⟩
  | 75 => ⟨S1x1x512, .f32⟩
  | 76 => ⟨S128x32x512, .f32⟩
  | 77 => ⟨S128x32x512, .f32⟩
  | 78 => ⟨S1x1x512, .f32⟩
  | 79 => ⟨S128x32x512, .f32⟩
  | 80 => ⟨S128x32x512, .f32⟩
  | 81 => ⟨S1x1536x512, .f32⟩
  | 82 => ⟨S1536x512, .f32⟩
  | 83 => ⟨S512x1536, .f32⟩
  | 84 => ⟨S128x32x1536, .f32⟩
  | 85 => ⟨S1x1536, .f32⟩
  | 86 => ⟨S1536, .f32⟩
  | 87 => ⟨S1x1x1536, .f32⟩
  | 88 => ⟨S128x32x1536, .f32⟩
  | 89 => ⟨S128x32x1536, .f32⟩
  | 90 => ⟨S128x32x512, .f32⟩
  | 91 => ⟨S128x32x512, .f32⟩
  | 92 => ⟨S128x32x512, .f32⟩
  | 93 => ⟨S128x32x8x64, .f32⟩
  | 94 => ⟨S128x32x8x64, .f32⟩
  | 95 => ⟨S128x32x8x64, .f32⟩
  | 96 => ⟨S128x8x32x32, .f32⟩
  | 97 => ⟨S_, .f32⟩
  | 98 => ⟨S128x8x32x32, .f32⟩
  | 99 => ⟨S128x8x32x32, .f32⟩
  | 100 => ⟨S128x1x1x32, .f32⟩
  | 101 => ⟨S128x8x32x32, .f32⟩
  | 102 => ⟨S128x8x32x32, .f32⟩
  | 103 => ⟨S_, .f32⟩
  | 104 => ⟨S128x8x32, .f32⟩
  | 105 => ⟨S_, .f32⟩
  | 106 => ⟨S128x8x32, .f32⟩
  | 107 => ⟨S128x8x32, .f32⟩
  | 108 => ⟨S128x8x32x1, .f32⟩
  | 109 => ⟨S128x8x32x32, .f32⟩
  | 110 => ⟨S128x8x32x32, .f32⟩
  | 111 => ⟨S128x8x32x32, .f32⟩
  | 112 => ⟨S_, .f32⟩
  | 113 => ⟨S128x8x32, .f32⟩
  | 114 => ⟨S128x8x32x1, .f32⟩
  | 115 => ⟨S128x8x32x32, .f32⟩
  | 116 => ⟨S128x8x32x32, .f32⟩
  | 117 => ⟨S128x8x64x32, .f32⟩
  | 118 => ⟨S128x32x8x64, .f32⟩
  | 119 => ⟨S128x32x512, .f32⟩
  | 120 => ⟨S1x512x512, .f32⟩
  | 121 => ⟨S512x512, .f32⟩
  | 122 => ⟨S512x512, .f32⟩
  | 123 => ⟨S128x32x512, .f32⟩
  | 124 => ⟨S128x32x512, .f32⟩
  | 125 => ⟨S1x512, .f32⟩
  | 126 => ⟨S512, .f32⟩
  | 127 => ⟨S1x1x512, .f32⟩
  | _ => ⟨S128x32x512, .f32⟩

abbrev hbmTy0_2 (i : Nat) : BufTy := match i % 128 with
  | 0 => ⟨S128x32x512, .f32⟩
  | 1 => ⟨S128x32x512, .f32⟩
  | 2 => ⟨S1x512, .f32⟩
  | 3 => ⟨S512, .f32⟩
  | 4 => ⟨S1x512, .f32⟩
  | 5 => ⟨S512, .f32⟩
  | 6 => ⟨S_, .f32⟩
  | 7 => ⟨S128x32, .f32⟩
  | 8 => ⟨S128x32x1, .f32⟩
  | 9 => ⟨S_, .f32⟩
  | 10 => ⟨S128x32x1, .f32⟩
  | 11 => ⟨S128x32x1, .f32⟩
  | 12 => ⟨S128x32x512, .f32⟩
  | 13 => ⟨S128x32x512, .f32⟩
  | 14 => ⟨S128x32x512, .f32⟩
  | 15 => ⟨S_, .f32⟩
  | 16 => ⟨S128x32, .f32⟩
  | 17 => ⟨S128x32x1, .f32⟩
  | 18 => ⟨S_, .f32⟩
  | 19 => ⟨S128x32x1, .f32⟩
  | 20 => ⟨S128x32x1, .f32⟩
  | 21 => ⟨S128x32x512, .f32⟩
  | 22 => ⟨S128x32x512, .f32⟩
  | 23 => ⟨S_, .f32⟩
  | 24 => ⟨S128x32x1, .f32⟩
  | 25 => ⟨S128x32x1, .f32⟩
  | 26 => ⟨S128x32x1, .f32⟩
  | 27 => ⟨S128x32x512, .f32⟩
  | 28 => ⟨S128x32x512, .f32⟩
  | 29 => ⟨S1x1x512, .f32⟩
  | 30 => ⟨S128x32x512, .f32⟩
  | 31 => ⟨S128x32x512, .f32⟩
  | 32 => ⟨S1x1x512, .f32⟩
  | 33 => ⟨S128x32x512, .f32⟩
  | 34 => ⟨S128x32x512, .f32⟩
  | 35 => ⟨S1x2048x512, .f32⟩
  | 36 => ⟨S2048x512, .f32⟩
  | 37 => ⟨S512x2048, .f32⟩
  | 38 => ⟨S128x32x2048, .f32⟩
  | 39 => ⟨S1x2048, .f32⟩
  | 40 => ⟨S2048, .f32⟩
  | 41 => ⟨S1x1x2048, .f32⟩
  | 42 => ⟨S128x32x2048, .f32⟩
  | 43 => ⟨S128x32x2048, .f32⟩
  | 44 => ⟨S_, .f32⟩
  | 45 => ⟨S128x32x2048, .f32⟩
  | 46 => ⟨S128x32x2048, .f32⟩
  | 47 => ⟨S1x512x2048, .f32⟩
  | 48 => ⟨S512x2048, .f32⟩
  | 49 => ⟨S2048x512, .f32⟩
  | 50 => ⟨S128x32x512, .f32⟩
  | 51 => ⟨S1x512, .f32⟩
  | 52 => ⟨S512, .f32⟩
  | 53 => ⟨S1x1x512, .f32⟩
  | 54 => ⟨S128x32x512, .f32⟩
  | 55 => ⟨S128x32x512, .f32⟩
  | 56 => ⟨S128x32x512, .f32⟩
  | 57 => ⟨S1x512, .f32⟩
  | 58 => ⟨S512, .f32⟩
  | 59 => ⟨S1x512, .f32⟩
  | 60 => ⟨S512, .f32⟩
  | 61 => ⟨S_, .f32⟩
  | 62 => ⟨S128x32, .f32⟩
  | 63 => ⟨S128x32x1, .f32⟩
  | 64 => ⟨S_, .f32⟩
  | 65 => ⟨S128x32x1, .f32⟩
  | 66 => ⟨S128x32x1, .f32⟩
  | 67 => ⟨S128x32x512, .f32⟩
  | 68 => ⟨S128x32x512, .f32⟩
  | 69 => ⟨S128x32x512, .f32⟩
  | 70 => ⟨S_, .f32⟩
  | 71 => ⟨S128x32, .f32⟩
  | 72 => ⟨S128x32x1, .f32⟩
  | 73 => ⟨S_, .f32⟩
  | 74 => ⟨S128x32x1, .f32⟩
  | 75 => ⟨S128x32x1, .f32⟩
  | 76 => ⟨S128x32x512, .f32⟩
  | 77 => ⟨S128x32x512, .f32⟩
  | 78 => ⟨S_, .f32⟩
  | 79 => ⟨S128x32x1, .f32⟩
  | 80 => ⟨S128x32x1, .f32⟩
  | 81 => ⟨S128x32x1, .f32⟩
  | 82 => ⟨S128x32x512, .f32⟩
  | 83 => ⟨S128x32x512, .f32⟩
  | 84 => ⟨S1x1x512, .f32⟩
  | 85 => ⟨S128x32x512, .f32⟩
  | 86 => ⟨S128x32x512, .f32⟩
  | 87 => ⟨S1x1x512, .f32⟩
  | 88 => ⟨S128x32x512, .f32⟩
  | 89 => ⟨S128x32x512, .f32⟩
  | 90 => ⟨S128x512x512, .f32⟩
  | 91 => ⟨S128x512x512, .f32⟩
  | 92 => ⟨S_, .f32⟩
  | 93 => ⟨S128x512, .f32⟩
  | 94 => ⟨S128x512x1, .f32⟩
  | 95 => ⟨S_, .f32⟩
  | 96 => ⟨S128x512x1, .f32⟩
  | 97 => ⟨S128x512x1, .f32⟩
  | 98 => ⟨S128x512x512, .f32⟩
  | 99 => ⟨S128x512x512, .f32⟩
  | 100 => ⟨S128x512x512, .f32⟩
  | 101 => ⟨S_, .f32⟩
  | 102 => ⟨S128x512, .f32⟩
  | 103 => ⟨S128x512x1, .f32⟩
  | 104 => ⟨S_, .f32⟩
  | 105 => ⟨S128x512x1, .f32⟩
  | 106 => ⟨S128x512x1, .f32⟩
  | 107 => ⟨S128x512x512, .f32⟩
  | 108 => ⟨S128x512x512, .f32⟩
  | 109 => ⟨S_, .f32⟩
  | 110 => ⟨S128x512x1, .f32⟩
  | 111 => ⟨S128x512x1, .f32⟩
  | 112 => ⟨S128x512x1, .f32⟩
  | 113 => ⟨S128x512x512, .f32⟩
  | 114 => ⟨S128x512x512, .f32⟩
  | 115 => ⟨S1x1x512, .f32⟩
  | 116 => ⟨S128x512x512, .f32⟩
  | 117 => ⟨S128x512x512, .f32⟩
  | 118 => ⟨S1x1x512, .f32⟩
  | 119 => ⟨S128x512x512, .f32⟩
  | 120 => ⟨S128x512x512, .f32⟩
  | 121 => ⟨S128x1x1x512, .f32⟩
  | 122 => ⟨S_, .f32⟩
  | 123 => ⟨S128x1x1x512, .f32⟩
  | 124 => ⟨S128x1x1x512, .i1⟩
  | 125 => ⟨S_, .f32⟩
  | 126 => ⟨S_, .f32⟩
  | 127 => ⟨S128x1x1x512, .f32⟩
  | _ => ⟨S128x32x512, .f32⟩

abbrev hbmTy0_3 (i : Nat) : BufTy := match i % 128 with
  | 0 => ⟨S128x1x1x512, .f32⟩
  | 1 => ⟨S128x1x1x512, .f32⟩
  | 2 => ⟨S1x1536x512, .f32⟩
  | 3 => ⟨S1536x512, .f32⟩
  | 4 => ⟨S512x1536, .f32⟩
  | 5 => ⟨S128x512x1536, .f32⟩
  | 6 => ⟨S1x1536, .f32⟩
  | 7 => ⟨S1536, .f32⟩
  | 8 => ⟨S1x1x1536, .f32⟩
  | 9 => ⟨S128x512x1536, .f32⟩
  | 10 => ⟨S128x512x1536, .f32⟩
  | 11 => ⟨S128x512x512, .f32⟩
  | 12 => ⟨S128x512x512, .f32⟩
  | 13 => ⟨S128x512x512, .f32⟩
  | 14 => ⟨S128x512x8x64, .f32⟩
  | 15 => ⟨S128x512x8x64, .f32⟩
  | 16 => ⟨S128x512x8x64, .f32⟩
  | 17 => ⟨S128x8x512x512, .f32⟩
  | 18 => ⟨S_, .f32⟩
  | 19 => ⟨S128x8x512x512, .f32⟩
  | 20 => ⟨S128x8x512x512, .f32⟩
  | 21 => ⟨S128x1x1x512, .f32⟩
  | 22 => ⟨S128x8x512x512, .f32⟩
  | 23 => ⟨S128x8x512x512, .f32⟩
  | 24 => ⟨S_, .f32⟩
  | 25 => ⟨S128x8x512, .f32⟩
  | 26 => ⟨S_, .f32⟩
  | 27 => ⟨S128x8x512, .f32⟩
  | 28 => ⟨S128x8x512, .f32⟩
  | 29 => ⟨S128x8x512x1, .f32⟩
  | 30 => ⟨S128x8x512x512, .f32⟩
  | 31 => ⟨S128x8x512x512, .f32⟩
  | 32 => ⟨S128x8x512x512, .f32⟩
  | 33 => ⟨S_, .f32⟩
  | 34 => ⟨S128x8x512, .f32⟩
  | 35 => ⟨S128x8x512x1, .f32⟩
  | 36 => ⟨S128x8x512x512, .f32⟩
  | 37 => ⟨S128x8x512x512, .f32⟩
  | 38 => ⟨S128x8x64x512, .f32⟩
  | 39 => ⟨S128x512x8x64, .f32⟩
  | 40 => ⟨S128x512x512, .f32⟩
  | 41 => ⟨S1x512x512, .f32⟩
  | 42 => ⟨S512x512, .f32⟩
  | 43 => ⟨S512x512, .f32⟩
  | 44 => ⟨S128x512x512, .f32⟩
  | 45 => ⟨S128x512x512, .f32⟩
  | 46 => ⟨S1x512, .f32⟩
  | 47 => ⟨S512, .f32⟩
  | 48 => ⟨S1x1x512, .f32⟩
  | 49 => ⟨S128x512x512, .f32⟩
  | 50 => ⟨S128x512x512, .f32⟩
  | 51 => ⟨S1x512, .f32⟩
  | 52 => ⟨S512, .f32⟩
  | 53 => ⟨S1x512, .f32⟩
  | 54 => ⟨S512, .f32⟩
  | 55 => ⟨S_, .f32⟩
  | 56 => ⟨S128x512, .f32⟩
  | 57 => ⟨S128x512x1, .f32⟩
  | 58 => ⟨S_, .f32⟩
  | 59 => ⟨S128x512x1, .f32⟩
  | 60 => ⟨S128x512x1, .f32⟩
  | 61 => ⟨S128x512x512, .f32⟩
  | 62 => ⟨S128x512x512, .f32⟩
  | 63 => ⟨S128x512x512, .f32⟩
  | 64 => ⟨S_, .f32⟩
  | 65 => ⟨S128x512, .f32⟩
  | 66 => ⟨S128x512x1, .f32⟩
  | 67 => ⟨S_, .f32⟩
  | 68 => ⟨S128x512x1, .f32⟩
  | 69 => ⟨S128x512x1, .f32⟩
  | 70 => ⟨S128x512x512, .f32⟩
  | 71 => ⟨S128x512x512, .f32⟩
  | 72 => ⟨S_, .f32⟩
  | 73 => ⟨S128x512x1, .f32⟩
  | 74 => ⟨S128x512x1, .f32⟩
  | 75 => ⟨S128x512x1, .f32⟩
  | 76 => ⟨S128x512x512, .f32⟩
  | 77 => ⟨S128x512x512, .f32⟩
  | 78 => ⟨S1x1x512, .f32⟩
  | 79 => ⟨S128x512x512, .f32⟩
  | 80 => ⟨S128x512x512, .f32⟩
  | 81 => ⟨S1x1x512, .f32⟩
  | 82 => ⟨S128x512x512, .f32⟩
  | 83 => ⟨S128x512x512, .f32⟩
  | 84 => ⟨S1x2048x512, .f32⟩
  | 85 => ⟨S2048x512, .f32⟩
  | 86 => ⟨S512x2048, .f32⟩
  | 87 => ⟨S128x512x2048, .f32⟩
  | 88 => ⟨S1x2048, .f32⟩
  | 89 => ⟨S2048, .f32⟩
  | 90 => ⟨S1x1x2048, .f32⟩
  | 91 => ⟨S128x512x2048, .f32⟩
  | 92 => ⟨S128x512x2048, .f32⟩
  | 93 => ⟨S_, .f32⟩
  | 94 => ⟨S128x512x2048, .f32⟩
  | 95 => ⟨S128x512x2048, .f32⟩
  | 96 => ⟨S1x512x2048, .f32⟩
  | 97 => ⟨S512x2048, .f32⟩
  | 98 => ⟨S2048x512, .f32⟩
  | 99 => ⟨S128x512x512, .f32⟩
  | 100 => ⟨S1x512, .f32⟩
  | 101 => ⟨S512, .f32⟩
  | 102 => ⟨S1x1x512, .f32⟩
  | 103 => ⟨S128x512x512, .f32⟩
  | 104 => ⟨S128x512x512, .f32⟩
  | 105 => ⟨S128x512x512, .f32⟩
  | 106 => ⟨S1x512, .f32⟩
  | 107 => ⟨S512, .f32⟩
  | 108 => ⟨S1x512, .f32⟩
  | 109 => ⟨S512, .f32⟩
  | 110 => ⟨S_, .f32⟩
  | 111 => ⟨S128x512, .f32⟩
  | 112 => ⟨S128x512x1, .f32⟩
  | 113 => ⟨S_, .f32⟩
  | 114 => ⟨S128x512x1, .f32⟩
  | 115 => ⟨S128x512x1, .f32⟩
  | 116 => ⟨S128x512x512, .f32⟩
  | 117 => ⟨S128x512x512, .f32⟩
  | 118 => ⟨S128x512x512, .f32⟩
  | 119 => ⟨S_, .f32⟩
  | 120 => ⟨S128x512, .f32⟩
  | 121 => ⟨S128x512x1, .f32⟩
  | 122 => ⟨S_, .f32⟩
  | 123 => ⟨S128x512x1, .f32⟩
  | 124 => ⟨S128x512x1, .f32⟩
  | 125 => ⟨S128x512x512, .f32⟩
  | 126 => ⟨S128x512x512, .f32⟩
  | 127 => ⟨S_, .f32⟩
  | _ => ⟨S128x32x512, .f32⟩

abbrev hbmTy0_4 (i : Nat) : BufTy := match i % 128 with
  | 0 => ⟨S128x512x1, .f32⟩
  | 1 => ⟨S128x512x1, .f32⟩
  | 2 => ⟨S128x512x1, .f32⟩
  | 3 => ⟨S128x512x512, .f32⟩
  | 4 => ⟨S128x512x512, .f32⟩
  | 5 => ⟨S1x1x512, .f32⟩
  | 6 => ⟨S128x512x512, .f32⟩
  | 7 => ⟨S128x512x512, .f32⟩
  | 8 => ⟨S1x1x512, .f32⟩
  | 9 => ⟨S128x512x512, .f32⟩
  | 10 => ⟨S128x512x512, .f32⟩
  | 11 => ⟨S1x1536x512, .f32⟩
  | 12 => ⟨S1536x512, .f32⟩
  | 13 => ⟨S512x1536, .f32⟩
  | 14 => ⟨S128x512x1536, .f32⟩
  | 15 => ⟨S1x1536, .f32⟩
  | 16 => ⟨S1536, .f32⟩
  | 17 => ⟨S1x1x1536, .f32⟩
  | 18 => ⟨S128x512x1536, .f32⟩
  | 19 => ⟨S128x512x1536, .f32⟩
  | 20 => ⟨S128x512x512, .f32⟩
  | 21 => ⟨S128x512x512, .f32⟩
  | 22 => ⟨S128x512x512, .f32⟩
  | 23 => ⟨S128x512x8x64, .f32⟩
  | 24 => ⟨S128x512x8x64, .f32⟩
  | 25 => ⟨S128x512x8x64, .f32⟩
  | 26 => ⟨S128x8x512x512, .f32⟩
  | 27 => ⟨S_, .f32⟩
  | 28 => ⟨S128x8x512x512, .f32⟩
  | 29 => ⟨S128x8x512x512, .f32⟩
  | 30 => ⟨S128x1x1x512, .f32⟩
  | 31 => ⟨S128x8x512x512, .f32⟩
  | 32 => ⟨S128x8x512x512, .f32⟩
  | 33 => ⟨S_, .f32⟩
  | 34 => ⟨S128x8x512, .f32⟩
  | 35 => ⟨S_, .f32⟩
  | 36 => ⟨S128x8x512, .f32⟩
  | 37 => ⟨S128x8x512, .f32⟩
  | 38 => ⟨S128x8x512x1, .f32⟩
  | 39 => ⟨S128x8x512x512, .f32⟩
  | 40 => ⟨S128x8x512x512, .f32⟩
  | 41 => ⟨S128x8x512x512, .f32⟩
  | 42 => ⟨S_, .f32⟩
  | 43 => ⟨S128x8x512, .f32⟩
  | 44 => ⟨S128x8x512x1, .f32⟩
  | 45 => ⟨S128x8x512x512, .f32⟩
  | 46 => ⟨S128x8x512x512, .f32⟩
  | 47 => ⟨S128x8x64x512, .f32⟩
  | 48 => ⟨S128x512x8x64, .f32⟩
  | 49 => ⟨S128x512x512, .f32⟩
  | 50 => ⟨S1x512x512, .f32⟩
  | 51 => ⟨S512x512, .f32⟩
  | 52 => ⟨S512x512, .f32⟩
  | 53 => ⟨S128x512x512, .f32⟩
  | 54 => ⟨S128x512x512, .f32⟩
  | 55 => ⟨S1x512, .f32⟩
  | 56 => ⟨S512, .f32⟩
  | 57 => ⟨S1x1x512, .f32⟩
  | 58 => ⟨S128x512x512, .f32⟩
  | 59 => ⟨S128x512x512, .f32⟩
  | 60 => ⟨S1x512, .f32⟩
  | 61 => ⟨S512, .f32⟩
  | 62 => ⟨S1x512, .f32⟩
  | 63 => ⟨S512, .f32⟩
  | 64 => ⟨S_, .f32⟩
  | 65 => ⟨S128x512, .f32⟩
  | 66 => ⟨S128x512x1, .f32⟩
  | 67 => ⟨S_, .f32⟩
  | 68 => ⟨S128x512x1, .f32⟩
  | 69 => ⟨S128x512x1, .f32⟩
  | 70 => ⟨S128x512x512, .f32⟩
  | 71 => ⟨S128x512x512, .f32⟩
  | 72 => ⟨S128x512x512, .f32⟩
  | 73 => ⟨S_, .f32⟩
  | 74 => ⟨S128x512, .f32⟩
  | 75 => ⟨S128x512x1, .f32⟩
  | 76 => ⟨S_, .f32⟩
  | 77 => ⟨S128x512x1, .f32⟩
  | 78 => ⟨S128x512x1, .f32⟩
  | 79 => ⟨S128x512x512, .f32⟩
  | 80 => ⟨S128x512x512, .f32⟩
  | 81 => ⟨S_, .f32⟩
  | 82 => ⟨S128x512x1, .f32⟩
  | 83 => ⟨S128x512x1, .f32⟩
  | 84 => ⟨S128x512x1, .f32⟩
  | 85 => ⟨S128x512x512, .f32⟩
  | 86 => ⟨S128x512x512, .f32⟩
  | 87 => ⟨S1x1x512, .f32⟩
  | 88 => ⟨S128x512x512, .f32⟩
  | 89 => ⟨S128x512x512, .f32⟩
  | 90 => ⟨S1x1x512, .f32⟩
  | 91 => ⟨S128x512x512, .f32⟩
  | 92 => ⟨S128x512x512, .f32⟩
  | 93 => ⟨S1x2048x512, .f32⟩
  | 94 => ⟨S2048x512, .f32⟩
  | 95 => ⟨S512x2048, .f32⟩
  | 96 => ⟨S128x512x2048, .f32⟩
  | 97 => ⟨S1x2048, .f32⟩
  | 98 => ⟨S2048, .f32⟩
  | 99 => ⟨S1x1x2048, .f32⟩
  | 100 => ⟨S128x512x2048, .f32⟩
  | 101 => ⟨S128x512x2048, .f32⟩
  | 102 => ⟨S_, .f32⟩
  | 103 => ⟨S128x512x2048, .f32⟩
  | 104 => ⟨S128x512x2048, .f32⟩
  | 105 => ⟨S1x512x2048, .f32⟩
  | 106 => ⟨S512x2048, .f32⟩
  | 107 => ⟨S2048x512, .f32⟩
  | 108 => ⟨S128x512x512, .f32⟩
  | 109 => ⟨S1x512, .f32⟩
  | 110 => ⟨S512, .f32⟩
  | 111 => ⟨S1x1x512, .f32⟩
  | 112 => ⟨S128x512x512, .f32⟩
  | 113 => ⟨S128x512x512, .f32⟩
  | 114 => ⟨S128x512x512, .f32⟩
  | 115 => ⟨S1x512, .f32⟩
  | 116 => ⟨S512, .f32⟩
  | 117 => ⟨S1x512, .f32⟩
  | 118 => ⟨S512, .f32⟩
  | 119 => ⟨S_, .f32⟩
  | 120 => ⟨S128x512, .f32⟩
  | 121 => ⟨S128x512x1, .f32⟩
  | 122 => ⟨S_, .f32⟩
  | 123 => ⟨S128x512x1, .f32⟩
  | 124 => ⟨S128x512x1, .f32⟩
  | 125 => ⟨S128x512x512, .f32⟩
  | 126 => ⟨S128x512x512, .f32⟩
  | 127 => ⟨S128x512x512, .f32⟩
  | _ => ⟨S128x32x512, .f32⟩

abbrev hbmTy0_5 (i : Nat) : BufTy := match i % 128 with
  | 0 => ⟨S_, .f32⟩
  | 1 => ⟨S128x512, .f32⟩
  | 2 => ⟨S128x512x1, .f32⟩
  | 3 => ⟨S_, .f32⟩
  | 4 => ⟨S128x512x1, .f32⟩
  | 5 => ⟨S128x512x1, .f32⟩
  | 6 => ⟨S128x512x512, .f32⟩
  | 7 => ⟨S128x512x512, .f32⟩
  | 8 => ⟨S_, .f32⟩
  | 9 => ⟨S128x512x1, .f32⟩
  | 10 => ⟨S128x512x1, .f32⟩
  | 11 => ⟨S128x512x1, .f32⟩
  | 12 => ⟨S128x512x512, .f32⟩
  | 13 => ⟨S128x512x512, .f32⟩
  | 14 => ⟨S1x1x512, .f32⟩
  | 15 => ⟨S128x512x512, .f32⟩
  | 16 => ⟨S128x512x512, .f32⟩
  | 17 => ⟨S1x1x512, .f32⟩
  | 18 => ⟨S128x512x512, .f32⟩
  | 19 => ⟨S128x512x512, .f32⟩
  | 20 => ⟨S128x32x1, .f32⟩
  | 21 => ⟨S128x1x512, .f32⟩
  | 22 => ⟨S128x32x512, .f32⟩
  | 23 => ⟨S128x32x512, .f32⟩
  | 24 => ⟨S128x32x512, .f32⟩
  | 25 => ⟨S128x32x512, .f32⟩
  | 26 => ⟨S_, .f32⟩
  | 27 => ⟨S128x32, .f32⟩
  | 28 => ⟨S128x32x1, .f32⟩
  | 29 => ⟨S128x32x1, .f32⟩
  | 30 => ⟨S_, .f32⟩
  | 31 => ⟨S128x32x1, .f32⟩
  | 32 => ⟨S128x32x1, .f32⟩
  | 33 => ⟨S128x32x512, .f32⟩
  | 34 => ⟨S128x32x512, .f32⟩
  | 35 => ⟨S128x512x512, .f32⟩
  | 36 => ⟨S_, .f32⟩
  | 37 => ⟨S128x512, .f32⟩
  | 38 => ⟨S128x512x1, .f32⟩
  | 39 => ⟨S128x512x1, .f32⟩
  | 40 => ⟨S_, .f32⟩
  | 41 => ⟨S128x512x1, .f32⟩
  | 42 => ⟨S128x512x1, .f32⟩
  | 43 => ⟨S128x512x512, .f32⟩
  | 44 => ⟨S128x512x512, .f32⟩
  | 45 => ⟨S128x32x512, .f32⟩
  | 46 => ⟨S128x32x512, .f32⟩
  | 47 => ⟨S128x32x512x1, .f32⟩
  | 48 => ⟨S1x1x1x11, .f32⟩
  | 49 => ⟨S128x32x512x11, .f32⟩
  | 50 => ⟨S128x32x512x11, .f32⟩
  | 51 => ⟨S128x32x512x11, .f32⟩
  | 52 => ⟨S128x32x512x11, .f32⟩
  | 53 => ⟨S128x32x512x11, .f32⟩
  | 54 => ⟨S1x1x1x11, .f32⟩
  | 55 => ⟨S128x32x512x11, .f32⟩
  | 56 => ⟨S128x32x512x11, .f32⟩
  | 57 => ⟨S128x32x512x11, .f32⟩
  | 58 => ⟨S128x32x512x1, .f32⟩
  | 59 => ⟨S128x32x512x11, .f32⟩
  | 60 => ⟨S128x32x512x11, .f32⟩
  | 61 => ⟨S_, .f32⟩
  | 62 => ⟨S128, .f32⟩
  | 63 => ⟨S_, .f32⟩
  | 64 => ⟨S128, .f32⟩
  | 65 => ⟨S128, .f32⟩
  | 66 => ⟨S128, .f32⟩
  | 67 => ⟨S128x1, .f32⟩
  | 68 => ⟨S10, .f32⟩
  | 69 => ⟨S1x10, .f32⟩
  | 70 => ⟨S128x10, .f32⟩
  | 71 => ⟨S128x10, .f32⟩
  | 72 => ⟨S128x10, .f32⟩
  | 73 => ⟨S128x10, .i32⟩
  | 74 => ⟨S_, .f32⟩
  | 75 => ⟨S128x512, .f32⟩
  | 76 => ⟨S128, .i32⟩
  | 77 => ⟨S128x1, .i32⟩
  | 78 => ⟨S_, .i32⟩
  | 79 => ⟨S128x1, .i32⟩
  | 80 => ⟨S128x1, .i1⟩
  | 81 => ⟨S_, .i32⟩
  | 82 => ⟨S128x1, .i32⟩
  | 83 => ⟨S128x1, .i32⟩
  | 84 => ⟨S128x1, .i32⟩
  | 85 => ⟨S_, .i32⟩
  | 86 => ⟨S128x10, .i32⟩
  | 87 => ⟨S128x10, .i1⟩
  | 88 => ⟨S_, .i32⟩
  | 89 => ⟨S128x10, .i32⟩
  | 90 => ⟨S128x10, .i32⟩
  | 91 => ⟨S128x10, .i32⟩
  | 92 => ⟨S128x10, .i32⟩
  | 93 => ⟨S128x10x1, .i32⟩
  | 94 => ⟨S128x10x1, .i32⟩
  | 95 => ⟨S128x10x2, .i32⟩
  | 96 => ⟨S_, .f32⟩
  | 97 => ⟨S128x10, .f32⟩
  | 98 => ⟨S128x512, .f32⟩
  | 99 => ⟨S_, .f32⟩
  | 100 => ⟨S_, .f32⟩
  | 101 => ⟨S128x512, .f32⟩
  | 102 => ⟨S128x512, .f32⟩
  | 103 => ⟨S128x512, .i32⟩
  | 104 => ⟨S_, .i32⟩
  | 105 => ⟨S128x512, .i32⟩
  | 106 => ⟨S128x512, .i1⟩
  | 107 => ⟨S_, .i32⟩
  | 108 => ⟨S128x512, .i32⟩
  | 109 => ⟨S128x512, .i32⟩
  | 110 => ⟨S128x512, .i32⟩
  | 111 => ⟨S128x512x1, .i32⟩
  | 112 => ⟨S128x512, .f32⟩
  | 113 => ⟨S128x1x512x1, .f32⟩
  | 114 => ⟨S1x512, .f32⟩
  | 115 => ⟨S128x512, .f32⟩
  | 116 => ⟨S128x512, .f32⟩
  | 117 => ⟨S128x512, .i32⟩
  | 118 => ⟨S_, .i32⟩
  | 119 => ⟨S128x512, .i32⟩
  | 120 => ⟨S128x512, .i1⟩
  | 121 => ⟨S_, .i32⟩
  | 122 => ⟨S128x512, .i32⟩
  | 123 => ⟨S128x512, .i32⟩
  | 124 => ⟨S128x512, .i32⟩
  | 125 => ⟨S128x512x1, .i32⟩
  | 126 => ⟨S128x512, .f32⟩
  | 127 => ⟨S128x1x512x1, .f32⟩
  | _ => ⟨S128x32x512, .f32⟩

abbrev hbmTy0_6 (i : Nat) : BufTy := match i % 128 with
  | 0 => ⟨S128x32x512x11, .f32⟩
  | 1 => ⟨S128x32x512x11, .f32⟩
  | 2 => ⟨S128x32x512x11, .f32⟩
  | 3 => ⟨S128x32x512x11, .f32⟩
  | 4 => ⟨S_, .f32⟩
  | 5 => ⟨S128x32x11, .f32⟩
  | 6 => ⟨S_, .f32⟩
  | 7 => ⟨S_, .f32⟩
  | 8 => ⟨S128x32x11, .f32⟩
  | 9 => ⟨S128x32x11, .f32⟩
  | 10 => ⟨S128x32x11, .f32⟩
  | 11 => ⟨S128x32x1, .f32⟩
  | 12 => ⟨S128x32x11, .f32⟩
  | 13 => ⟨S128x32x11, .f32⟩
  | 14 => ⟨S_, .f32⟩
  | 15 => ⟨S128x11, .f32⟩
  | 16 => ⟨S11x1, .f32⟩
  | 17 => ⟨S128x1, .f32⟩
  | 18 => ⟨S128, .f32⟩
  | _ => ⟨S128x32x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S128x32x512, .f32⟩

abbrev bufTy : (tb : Table) → Fin (tcTables nBuf tb) → BufTy
  | .hbm, ⟨i, _⟩ => hbmTy i
  | _, _ => ⟨S128x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_cst_0 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_cst_8 : Ref sig .tc := ⟨.hbm, 68, rfl⟩
abbrev main_call0_v0 : Ref sig .tc := ⟨.hbm, 69, rfl⟩
abbrev main_call0_v1 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_9 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_12 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_13 : Ref sig .tc := ⟨.hbm, 125, rfl⟩
abbrev main_v86 : Ref sig .tc := ⟨.hbm, 126, rfl⟩
abbrev main_v87 : Ref sig .tc := ⟨.hbm, 127, rfl⟩
abbrev main_cst_14 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_15 : Ref sig .tc := ⟨.hbm, 134, rfl⟩
abbrev main_v93 : Ref sig .tc := ⟨.hbm, 135, rfl⟩
abbrev main_v94 : Ref sig .tc := ⟨.hbm, 136, rfl⟩
abbrev main_cst_16 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_17 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_call1_cst : Ref sig .tc := ⟨.hbm, 163, rfl⟩
abbrev main_call1_v0 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_18 : Ref sig .tc := ⟨.hbm, 180, rfl⟩
abbrev main_v134 : Ref sig .tc := ⟨.hbm, 181, rfl⟩
abbrev main_v135 : Ref sig .tc := ⟨.hbm, 182, rfl⟩
abbrev main_cst_19 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_20 : Ref sig .tc := ⟨.hbm, 189, rfl⟩
abbrev main_v141 : Ref sig .tc := ⟨.hbm, 190, rfl⟩
abbrev main_v142 : Ref sig .tc := ⟨.hbm, 191, rfl⟩
abbrev main_cst_21 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_22 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_23 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_cst_24 : Ref sig .tc := ⟨.hbm, 231, rfl⟩
abbrev main_v179 : Ref sig .tc := ⟨.hbm, 232, rfl⟩
abbrev main_cst_25 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_cst_26 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_cst_27 : Ref sig .tc := ⟨.hbm, 262, rfl⟩
abbrev main_v207 : Ref sig .tc := ⟨.hbm, 263, rfl⟩
abbrev main_v208 : Ref sig .tc := ⟨.hbm, 264, rfl⟩
abbrev main_cst_28 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_cst_29 : Ref sig .tc := ⟨.hbm, 271, rfl⟩
abbrev main_v214 : Ref sig .tc := ⟨.hbm, 272, rfl⟩
abbrev main_v215 : Ref sig .tc := ⟨.hbm, 273, rfl⟩
abbrev main_cst_30 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_cst_31 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_call2_cst : Ref sig .tc := ⟨.hbm, 300, rfl⟩
abbrev main_call2_v0 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_cst_32 : Ref sig .tc := ⟨.hbm, 317, rfl⟩
abbrev main_v255 : Ref sig .tc := ⟨.hbm, 318, rfl⟩
abbrev main_v256 : Ref sig .tc := ⟨.hbm, 319, rfl⟩
abbrev main_cst_33 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_cst_34 : Ref sig .tc := ⟨.hbm, 326, rfl⟩
abbrev main_v262 : Ref sig .tc := ⟨.hbm, 327, rfl⟩
abbrev main_v263 : Ref sig .tc := ⟨.hbm, 328, rfl⟩
abbrev main_cst_35 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_cst_36 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_cst_37 : Ref sig .tc := ⟨.hbm, 348, rfl⟩
abbrev main_v281 : Ref sig .tc := ⟨.hbm, 349, rfl⟩
abbrev main_v282 : Ref sig .tc := ⟨.hbm, 350, rfl⟩
abbrev main_cst_38 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_cst_39 : Ref sig .tc := ⟨.hbm, 357, rfl⟩
abbrev main_v288 : Ref sig .tc := ⟨.hbm, 358, rfl⟩
abbrev main_v289 : Ref sig .tc := ⟨.hbm, 359, rfl⟩
abbrev main_cst_40 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_cst_41 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_cst_42 : Ref sig .tc := ⟨.hbm, 378, rfl⟩
abbrev main_v306 : Ref sig .tc := ⟨.hbm, 379, rfl⟩
abbrev main_v307 : Ref sig .tc := ⟨.hbm, 380, rfl⟩
abbrev main_cst_43 : Ref sig .tc := ⟨.hbm, 381, rfl⟩
abbrev main_cst_44 : Ref sig .tc := ⟨.hbm, 382, rfl⟩
abbrev main_call3_v0 : Ref sig .tc := ⟨.hbm, 383, rfl⟩
abbrev main_call3_v1 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_cst_45 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_cst_46 : Ref sig .tc := ⟨.hbm, 408, rfl⟩
abbrev main_v330 : Ref sig .tc := ⟨.hbm, 409, rfl⟩
abbrev main_cst_47 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_cst_48 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_v350 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_cst_49 : Ref sig .tc := ⟨.hbm, 439, rfl⟩
abbrev main_v358 : Ref sig .tc := ⟨.hbm, 440, rfl⟩
abbrev main_v359 : Ref sig .tc := ⟨.hbm, 441, rfl⟩
abbrev main_cst_50 : Ref sig .tc := ⟨.hbm, 442, rfl⟩
abbrev main_v360 : Ref sig .tc := ⟨.hbm, 443, rfl⟩
abbrev main_v361 : Ref sig .tc := ⟨.hbm, 444, rfl⟩
abbrev main_v362 : Ref sig .tc := ⟨.hbm, 445, rfl⟩
abbrev main_v363 : Ref sig .tc := ⟨.hbm, 446, rfl⟩
abbrev main_v364 : Ref sig .tc := ⟨.hbm, 447, rfl⟩
abbrev main_cst_51 : Ref sig .tc := ⟨.hbm, 448, rfl⟩
abbrev main_v365 : Ref sig .tc := ⟨.hbm, 449, rfl⟩
abbrev main_v366 : Ref sig .tc := ⟨.hbm, 450, rfl⟩
abbrev main_cst_52 : Ref sig .tc := ⟨.hbm, 451, rfl⟩
abbrev main_v367 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_cst_53 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_v377 : Ref sig .tc := ⟨.hbm, 463, rfl⟩
abbrev main_v378 : Ref sig .tc := ⟨.hbm, 464, rfl⟩
abbrev main_v379 : Ref sig .tc := ⟨.hbm, 465, rfl⟩
abbrev main_v380 : Ref sig .tc := ⟨.hbm, 466, rfl⟩
abbrev main_v381 : Ref sig .tc := ⟨.hbm, 467, rfl⟩
abbrev main_v382 : Ref sig .tc := ⟨.hbm, 468, rfl⟩
abbrev main_v383 : Ref sig .tc := ⟨.hbm, 469, rfl⟩
abbrev main_v384 : Ref sig .tc := ⟨.hbm, 470, rfl⟩
abbrev main_v385 : Ref sig .tc := ⟨.hbm, 471, rfl⟩
abbrev main_v386 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev main_v390 : Ref sig .tc := ⟨.hbm, 476, rfl⟩
abbrev main_call4_cst : Ref sig .tc := ⟨.hbm, 477, rfl⟩
abbrev main_call4_v0 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_v399 : Ref sig .tc := ⟨.hbm, 487, rfl⟩
abbrev main_v400 : Ref sig .tc := ⟨.hbm, 488, rfl⟩
abbrev main_v401 : Ref sig .tc := ⟨.hbm, 489, rfl⟩
abbrev main_v402 : Ref sig .tc := ⟨.hbm, 490, rfl⟩
abbrev main_v403 : Ref sig .tc := ⟨.hbm, 491, rfl⟩
abbrev main_v404 : Ref sig .tc := ⟨.hbm, 492, rfl⟩
abbrev main_v405 : Ref sig .tc := ⟨.hbm, 493, rfl⟩
abbrev main_cst_54 : Ref sig .tc := ⟨.hbm, 494, rfl⟩
abbrev main_v406 : Ref sig .tc := ⟨.hbm, 495, rfl⟩
abbrev main_v407 : Ref sig .tc := ⟨.hbm, 496, rfl⟩
abbrev main_cst_55 : Ref sig .tc := ⟨.hbm, 497, rfl⟩
abbrev main_v408 : Ref sig .tc := ⟨.hbm, 498, rfl⟩
abbrev main_v409 : Ref sig .tc := ⟨.hbm, 499, rfl⟩
abbrev main_v410 : Ref sig .tc := ⟨.hbm, 500, rfl⟩
abbrev main_v411 : Ref sig .tc := ⟨.hbm, 501, rfl⟩
abbrev main_v412 : Ref sig .tc := ⟨.hbm, 502, rfl⟩
abbrev main_cst_56 : Ref sig .tc := ⟨.hbm, 503, rfl⟩
abbrev main_v413 : Ref sig .tc := ⟨.hbm, 504, rfl⟩
abbrev main_v414 : Ref sig .tc := ⟨.hbm, 505, rfl⟩
abbrev main_cst_57 : Ref sig .tc := ⟨.hbm, 506, rfl⟩
abbrev main_v415 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_cst_58 : Ref sig .tc := ⟨.hbm, 511, rfl⟩
abbrev main_v419 : Ref sig .tc := ⟨.hbm, 512, rfl⟩
abbrev main_v420 : Ref sig .tc := ⟨.hbm, 513, rfl⟩
abbrev main_v421 : Ref sig .tc := ⟨.hbm, 514, rfl⟩
abbrev main_v422 : Ref sig .tc := ⟨.hbm, 515, rfl⟩
abbrev main_v423 : Ref sig .tc := ⟨.hbm, 516, rfl⟩
abbrev main_v424 : Ref sig .tc := ⟨.hbm, 517, rfl⟩
abbrev main_v425 : Ref sig .tc := ⟨.hbm, 518, rfl⟩
abbrev main_v426 : Ref sig .tc := ⟨.hbm, 519, rfl⟩
abbrev main_v427 : Ref sig .tc := ⟨.hbm, 520, rfl⟩
abbrev main_v428 : Ref sig .tc := ⟨.hbm, 521, rfl⟩
abbrev main_v429 : Ref sig .tc := ⟨.hbm, 522, rfl⟩
abbrev main_v430 : Ref sig .tc := ⟨.hbm, 523, rfl⟩
abbrev main_v431 : Ref sig .tc := ⟨.hbm, 524, rfl⟩
abbrev main_v432 : Ref sig .tc := ⟨.hbm, 525, rfl⟩
abbrev main_v433 : Ref sig .tc := ⟨.hbm, 526, rfl⟩
abbrev main_v434 : Ref sig .tc := ⟨.hbm, 527, rfl⟩
abbrev main_v435 : Ref sig .tc := ⟨.hbm, 528, rfl⟩
abbrev main_v436 : Ref sig .tc := ⟨.hbm, 529, rfl⟩
abbrev main_v437 : Ref sig .tc := ⟨.hbm, 530, rfl⟩
abbrev main_v438 : Ref sig .tc := ⟨.hbm, 531, rfl⟩
abbrev main_v439 : Ref sig .tc := ⟨.hbm, 532, rfl⟩
abbrev main_v440 : Ref sig .tc := ⟨.hbm, 533, rfl⟩
abbrev main_v441 : Ref sig .tc := ⟨.hbm, 534, rfl⟩
abbrev main_v442 : Ref sig .tc := ⟨.hbm, 535, rfl⟩
abbrev main_v443 : Ref sig .tc := ⟨.hbm, 536, rfl⟩
abbrev main_v444 : Ref sig .tc := ⟨.hbm, 537, rfl⟩
abbrev main_v445 : Ref sig .tc := ⟨.hbm, 538, rfl⟩
abbrev main_cst_59 : Ref sig .tc := ⟨.hbm, 539, rfl⟩
abbrev main_v446 : Ref sig .tc := ⟨.hbm, 540, rfl⟩
abbrev main_v447 : Ref sig .tc := ⟨.hbm, 541, rfl⟩
abbrev main_v448 : Ref sig .tc := ⟨.hbm, 542, rfl⟩
abbrev main_v449 : Ref sig .tc := ⟨.hbm, 543, rfl⟩
abbrev main_v450 : Ref sig .tc := ⟨.hbm, 544, rfl⟩
abbrev main_cst_60 : Ref sig .tc := ⟨.hbm, 545, rfl⟩
abbrev main_v451 : Ref sig .tc := ⟨.hbm, 546, rfl⟩
abbrev main_cst_61 : Ref sig .tc := ⟨.hbm, 547, rfl⟩
abbrev main_v452 : Ref sig .tc := ⟨.hbm, 548, rfl⟩
abbrev main_v453 : Ref sig .tc := ⟨.hbm, 549, rfl⟩
abbrev main_v454 : Ref sig .tc := ⟨.hbm, 550, rfl⟩
abbrev main_v455 : Ref sig .tc := ⟨.hbm, 551, rfl⟩
abbrev main_v456 : Ref sig .tc := ⟨.hbm, 552, rfl⟩
abbrev main_v457 : Ref sig .tc := ⟨.hbm, 553, rfl⟩
abbrev main_cst_62 : Ref sig .tc := ⟨.hbm, 554, rfl⟩
abbrev main_v458 : Ref sig .tc := ⟨.hbm, 555, rfl⟩
abbrev main_v459 : Ref sig .tc := ⟨.hbm, 556, rfl⟩
abbrev main_v460 : Ref sig .tc := ⟨.hbm, 557, rfl⟩
abbrev main_v461 : Ref sig .tc := ⟨.hbm, 558, rfl⟩
abbrev main_v462 : Ref sig .tc := ⟨.hbm, 559, rfl⟩
abbrev main_v463 : Ref sig .tc := ⟨.hbm, 560, rfl⟩
abbrev main_v464 : Ref sig .tc := ⟨.hbm, 561, rfl⟩
abbrev main_v465 : Ref sig .tc := ⟨.hbm, 562, rfl⟩
abbrev main_v466 : Ref sig .tc := ⟨.hbm, 563, rfl⟩
abbrev main_v467 : Ref sig .tc := ⟨.hbm, 564, rfl⟩
abbrev main_v468 : Ref sig .tc := ⟨.hbm, 565, rfl⟩
abbrev main_v469 : Ref sig .tc := ⟨.hbm, 566, rfl⟩
abbrev main_v470 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_v478 : Ref sig .tc := ⟨.hbm, 575, rfl⟩
abbrev main_cst_63 : Ref sig .tc := ⟨.hbm, 576, rfl⟩
abbrev main_v479 : Ref sig .tc := ⟨.hbm, 577, rfl⟩
abbrev main_v480 : Ref sig .tc := ⟨.hbm, 578, rfl⟩
abbrev main_cst_64 : Ref sig .tc := ⟨.hbm, 579, rfl⟩
abbrev main_v481 : Ref sig .tc := ⟨.hbm, 580, rfl⟩
abbrev main_v482 : Ref sig .tc := ⟨.hbm, 581, rfl⟩
abbrev main_v483 : Ref sig .tc := ⟨.hbm, 582, rfl⟩
abbrev main_v484 : Ref sig .tc := ⟨.hbm, 583, rfl⟩
abbrev main_v485 : Ref sig .tc := ⟨.hbm, 584, rfl⟩
abbrev main_cst_65 : Ref sig .tc := ⟨.hbm, 585, rfl⟩
abbrev main_v486 : Ref sig .tc := ⟨.hbm, 586, rfl⟩
abbrev main_v487 : Ref sig .tc := ⟨.hbm, 587, rfl⟩
abbrev main_cst_66 : Ref sig .tc := ⟨.hbm, 588, rfl⟩
abbrev main_v488 : Ref sig .tc := ⟨.hbm, 589, rfl⟩
abbrev main_v489 : Ref sig .tc := ⟨.hbm, 590, rfl⟩
abbrev main_v490 : Ref sig .tc := ⟨.hbm, 591, rfl⟩
abbrev main_v491 : Ref sig .tc := ⟨.hbm, 592, rfl⟩
abbrev main_cst_67 : Ref sig .tc := ⟨.hbm, 593, rfl⟩
abbrev main_v492 : Ref sig .tc := ⟨.hbm, 594, rfl⟩
abbrev main_v493 : Ref sig .tc := ⟨.hbm, 595, rfl⟩
abbrev main_v494 : Ref sig .tc := ⟨.hbm, 596, rfl⟩
abbrev main_v495 : Ref sig .tc := ⟨.hbm, 597, rfl⟩
abbrev main_v496 : Ref sig .tc := ⟨.hbm, 598, rfl⟩
abbrev main_v497 : Ref sig .tc := ⟨.hbm, 599, rfl⟩
abbrev main_v498 : Ref sig .tc := ⟨.hbm, 600, rfl⟩
abbrev main_v499 : Ref sig .tc := ⟨.hbm, 601, rfl⟩
abbrev main_v500 : Ref sig .tc := ⟨.hbm, 602, rfl⟩
abbrev main_v501 : Ref sig .tc := ⟨.hbm, 603, rfl⟩
abbrev main_v502 : Ref sig .tc := ⟨.hbm, 604, rfl⟩
abbrev main_v503 : Ref sig .tc := ⟨.hbm, 605, rfl⟩
abbrev main_v504 : Ref sig .tc := ⟨.hbm, 606, rfl⟩
abbrev main_v505 : Ref sig .tc := ⟨.hbm, 607, rfl⟩
abbrev main_v506 : Ref sig .tc := ⟨.hbm, 608, rfl⟩
abbrev main_v507 : Ref sig .tc := ⟨.hbm, 609, rfl⟩
abbrev main_v508 : Ref sig .tc := ⟨.hbm, 610, rfl⟩
abbrev main_v509 : Ref sig .tc := ⟨.hbm, 611, rfl⟩
abbrev main_v510 : Ref sig .tc := ⟨.hbm, 612, rfl⟩
abbrev main_v511 : Ref sig .tc := ⟨.hbm, 613, rfl⟩
abbrev main_call5_cst : Ref sig .tc := ⟨.hbm, 614, rfl⟩
abbrev main_call5_v0 : Ref sig .tc := ⟨.hbm, 615, rfl⟩
abbrev main_v512 : Ref sig .tc := ⟨.hbm, 616, rfl⟩
abbrev main_v513 : Ref sig .tc := ⟨.hbm, 617, rfl⟩
abbrev main_v514 : Ref sig .tc := ⟨.hbm, 618, rfl⟩
abbrev main_v515 : Ref sig .tc := ⟨.hbm, 619, rfl⟩
abbrev main_v516 : Ref sig .tc := ⟨.hbm, 620, rfl⟩
abbrev main_v517 : Ref sig .tc := ⟨.hbm, 621, rfl⟩
abbrev main_v518 : Ref sig .tc := ⟨.hbm, 622, rfl⟩
abbrev main_v519 : Ref sig .tc := ⟨.hbm, 623, rfl⟩
abbrev main_v520 : Ref sig .tc := ⟨.hbm, 624, rfl⟩
abbrev main_v521 : Ref sig .tc := ⟨.hbm, 625, rfl⟩
abbrev main_v522 : Ref sig .tc := ⟨.hbm, 626, rfl⟩
abbrev main_v523 : Ref sig .tc := ⟨.hbm, 627, rfl⟩
abbrev main_v524 : Ref sig .tc := ⟨.hbm, 628, rfl⟩
abbrev main_v525 : Ref sig .tc := ⟨.hbm, 629, rfl⟩
abbrev main_v526 : Ref sig .tc := ⟨.hbm, 630, rfl⟩
abbrev main_cst_68 : Ref sig .tc := ⟨.hbm, 631, rfl⟩
abbrev main_v527 : Ref sig .tc := ⟨.hbm, 632, rfl⟩
abbrev main_v528 : Ref sig .tc := ⟨.hbm, 633, rfl⟩
abbrev main_cst_69 : Ref sig .tc := ⟨.hbm, 634, rfl⟩
abbrev main_v529 : Ref sig .tc := ⟨.hbm, 635, rfl⟩
abbrev main_v530 : Ref sig .tc := ⟨.hbm, 636, rfl⟩
abbrev main_v531 : Ref sig .tc := ⟨.hbm, 637, rfl⟩
abbrev main_v532 : Ref sig .tc := ⟨.hbm, 638, rfl⟩
abbrev main_v533 : Ref sig .tc := ⟨.hbm, 639, rfl⟩
abbrev main_cst_70 : Ref sig .tc := ⟨.hbm, 640, rfl⟩
abbrev main_v534 : Ref sig .tc := ⟨.hbm, 641, rfl⟩
abbrev main_v535 : Ref sig .tc := ⟨.hbm, 642, rfl⟩
abbrev main_cst_71 : Ref sig .tc := ⟨.hbm, 643, rfl⟩
abbrev main_v536 : Ref sig .tc := ⟨.hbm, 644, rfl⟩
abbrev main_v537 : Ref sig .tc := ⟨.hbm, 645, rfl⟩
abbrev main_v538 : Ref sig .tc := ⟨.hbm, 646, rfl⟩
abbrev main_v539 : Ref sig .tc := ⟨.hbm, 647, rfl⟩
abbrev main_cst_72 : Ref sig .tc := ⟨.hbm, 648, rfl⟩
abbrev main_v540 : Ref sig .tc := ⟨.hbm, 649, rfl⟩
abbrev main_v541 : Ref sig .tc := ⟨.hbm, 650, rfl⟩
abbrev main_v542 : Ref sig .tc := ⟨.hbm, 651, rfl⟩
abbrev main_v543 : Ref sig .tc := ⟨.hbm, 652, rfl⟩
abbrev main_v544 : Ref sig .tc := ⟨.hbm, 653, rfl⟩
abbrev main_v545 : Ref sig .tc := ⟨.hbm, 654, rfl⟩
abbrev main_v546 : Ref sig .tc := ⟨.hbm, 655, rfl⟩
abbrev main_v547 : Ref sig .tc := ⟨.hbm, 656, rfl⟩
abbrev main_v548 : Ref sig .tc := ⟨.hbm, 657, rfl⟩
abbrev main_v549 : Ref sig .tc := ⟨.hbm, 658, rfl⟩
abbrev main_v550 : Ref sig .tc := ⟨.hbm, 659, rfl⟩
abbrev main_v551 : Ref sig .tc := ⟨.hbm, 660, rfl⟩
abbrev main_v552 : Ref sig .tc := ⟨.hbm, 661, rfl⟩
abbrev main_v553 : Ref sig .tc := ⟨.hbm, 662, rfl⟩
abbrev main_v554 : Ref sig .tc := ⟨.hbm, 663, rfl⟩
abbrev main_v555 : Ref sig .tc := ⟨.hbm, 664, rfl⟩
abbrev main_call6_v0 : Ref sig .tc := ⟨.hbm, 665, rfl⟩
abbrev main_call6_cst : Ref sig .tc := ⟨.hbm, 666, rfl⟩
abbrev main_call6_v1 : Ref sig .tc := ⟨.hbm, 667, rfl⟩
abbrev main_call6_v2 : Ref sig .tc := ⟨.hbm, 668, rfl⟩
abbrev main_v556 : Ref sig .tc := ⟨.hbm, 669, rfl⟩
abbrev main_cst_73 : Ref sig .tc := ⟨.hbm, 670, rfl⟩
abbrev main_v557 : Ref sig .tc := ⟨.hbm, 671, rfl⟩
abbrev main_v558 : Ref sig .tc := ⟨.hbm, 672, rfl⟩
abbrev main_v559 : Ref sig .tc := ⟨.hbm, 673, rfl⟩
abbrev main_v560 : Ref sig .tc := ⟨.hbm, 674, rfl⟩
abbrev main_call7_v0 : Ref sig .tc := ⟨.hbm, 675, rfl⟩
abbrev main_call7_cst : Ref sig .tc := ⟨.hbm, 676, rfl⟩
abbrev main_call7_v1 : Ref sig .tc := ⟨.hbm, 677, rfl⟩
abbrev main_call7_v2 : Ref sig .tc := ⟨.hbm, 678, rfl⟩
abbrev main_v561 : Ref sig .tc := ⟨.hbm, 679, rfl⟩
abbrev main_cst_74 : Ref sig .tc := ⟨.hbm, 680, rfl⟩
abbrev main_v562 : Ref sig .tc := ⟨.hbm, 681, rfl⟩
abbrev main_v563 : Ref sig .tc := ⟨.hbm, 682, rfl⟩
abbrev main_v564 : Ref sig .tc := ⟨.hbm, 683, rfl⟩
abbrev main_v565 : Ref sig .tc := ⟨.hbm, 684, rfl⟩
abbrev main_v566 : Ref sig .tc := ⟨.hbm, 685, rfl⟩
abbrev main_v567 : Ref sig .tc := ⟨.hbm, 686, rfl⟩
abbrev main_v568 : Ref sig .tc := ⟨.hbm, 687, rfl⟩
abbrev main_v569 : Ref sig .tc := ⟨.hbm, 688, rfl⟩
abbrev main_v570 : Ref sig .tc := ⟨.hbm, 689, rfl⟩
abbrev main_v571 : Ref sig .tc := ⟨.hbm, 690, rfl⟩
abbrev main_v572 : Ref sig .tc := ⟨.hbm, 691, rfl⟩
abbrev main_v573 : Ref sig .tc := ⟨.hbm, 692, rfl⟩
abbrev main_v574 : Ref sig .tc := ⟨.hbm, 693, rfl⟩
abbrev main_v575 : Ref sig .tc := ⟨.hbm, 694, rfl⟩
abbrev main_v576 : Ref sig .tc := ⟨.hbm, 695, rfl⟩
abbrev main_v577 : Ref sig .tc := ⟨.hbm, 696, rfl⟩
abbrev main_v578 : Ref sig .tc := ⟨.hbm, 697, rfl⟩
abbrev main_v579 : Ref sig .tc := ⟨.hbm, 698, rfl⟩
abbrev main_v580 : Ref sig .tc := ⟨.hbm, 699, rfl⟩
abbrev main_v581 : Ref sig .tc := ⟨.hbm, 700, rfl⟩
abbrev main_cst_75 : Ref sig .tc := ⟨.hbm, 701, rfl⟩
abbrev main_v582 : Ref sig .tc := ⟨.hbm, 702, rfl⟩
abbrev main_cst_76 : Ref sig .tc := ⟨.hbm, 703, rfl⟩
abbrev main_v583 : Ref sig .tc := ⟨.hbm, 704, rfl⟩
abbrev main_v584 : Ref sig .tc := ⟨.hbm, 705, rfl⟩
abbrev main_v585 : Ref sig .tc := ⟨.hbm, 706, rfl⟩
abbrev main_v586 : Ref sig .tc := ⟨.hbm, 707, rfl⟩
abbrev main_v587 : Ref sig .tc := ⟨.hbm, 708, rfl⟩
abbrev main_v588 : Ref sig .tc := ⟨.hbm, 709, rfl⟩
abbrev main_v589 : Ref sig .tc := ⟨.hbm, 710, rfl⟩
abbrev main_v590 : Ref sig .tc := ⟨.hbm, 711, rfl⟩
abbrev main_v591 : Ref sig .tc := ⟨.hbm, 712, rfl⟩
abbrev main_v592 : Ref sig .tc := ⟨.hbm, 713, rfl⟩
abbrev main_cst_77 : Ref sig .tc := ⟨.hbm, 714, rfl⟩
abbrev main_v593 : Ref sig .tc := ⟨.hbm, 715, rfl⟩
abbrev main_v594 : Ref sig .tc := ⟨.hbm, 716, rfl⟩
abbrev main_v595 : Ref sig .tc := ⟨.hbm, 717, rfl⟩
abbrev main_c_78 : Ref sig .tc := ⟨.hbm, 718, rfl⟩
abbrev main_v596 : Ref sig .tc := ⟨.hbm, 719, rfl⟩
abbrev main_v597 : Ref sig .tc := ⟨.hbm, 720, rfl⟩
abbrev main_c_79 : Ref sig .tc := ⟨.hbm, 721, rfl⟩
abbrev main_v598 : Ref sig .tc := ⟨.hbm, 722, rfl⟩
abbrev main_v599 : Ref sig .tc := ⟨.hbm, 723, rfl⟩
abbrev main_v600 : Ref sig .tc := ⟨.hbm, 724, rfl⟩
abbrev main_c_80 : Ref sig .tc := ⟨.hbm, 725, rfl⟩
abbrev main_v601 : Ref sig .tc := ⟨.hbm, 726, rfl⟩
abbrev main_v602 : Ref sig .tc := ⟨.hbm, 727, rfl⟩
abbrev main_c_81 : Ref sig .tc := ⟨.hbm, 728, rfl⟩
abbrev main_v603 : Ref sig .tc := ⟨.hbm, 729, rfl⟩
abbrev main_v604 : Ref sig .tc := ⟨.hbm, 730, rfl⟩
abbrev main_v605 : Ref sig .tc := ⟨.hbm, 731, rfl⟩
abbrev main_v606 : Ref sig .tc := ⟨.hbm, 732, rfl⟩
abbrev main_v607 : Ref sig .tc := ⟨.hbm, 733, rfl⟩
abbrev main_v608 : Ref sig .tc := ⟨.hbm, 734, rfl⟩
abbrev main_v609 : Ref sig .tc := ⟨.hbm, 735, rfl⟩
abbrev main_cst_82 : Ref sig .tc := ⟨.hbm, 736, rfl⟩
abbrev main_v610 : Ref sig .tc := ⟨.hbm, 737, rfl⟩
abbrev main_v611 : Ref sig .tc := ⟨.hbm, 738, rfl⟩
abbrev main_call9_call0_cst : Ref sig .tc := ⟨.hbm, 739, rfl⟩
abbrev main_call9_call0_v0 : Ref sig .tc := ⟨.hbm, 740, rfl⟩
abbrev main_v612 : Ref sig .tc := ⟨.hbm, 741, rfl⟩
abbrev main_v613 : Ref sig .tc := ⟨.hbm, 742, rfl⟩
abbrev main_v614 : Ref sig .tc := ⟨.hbm, 743, rfl⟩
abbrev main_c_83 : Ref sig .tc := ⟨.hbm, 744, rfl⟩
abbrev main_v615 : Ref sig .tc := ⟨.hbm, 745, rfl⟩
abbrev main_v616 : Ref sig .tc := ⟨.hbm, 746, rfl⟩
abbrev main_c_84 : Ref sig .tc := ⟨.hbm, 747, rfl⟩
abbrev main_v617 : Ref sig .tc := ⟨.hbm, 748, rfl⟩
abbrev main_v618 : Ref sig .tc := ⟨.hbm, 749, rfl⟩
abbrev main_v619 : Ref sig .tc := ⟨.hbm, 750, rfl⟩
abbrev main_v620 : Ref sig .tc := ⟨.hbm, 751, rfl⟩
abbrev main_v621 : Ref sig .tc := ⟨.hbm, 752, rfl⟩
abbrev main_v622 : Ref sig .tc := ⟨.hbm, 753, rfl⟩
abbrev main_v623 : Ref sig .tc := ⟨.hbm, 754, rfl⟩
abbrev main_v624 : Ref sig .tc := ⟨.hbm, 755, rfl⟩
abbrev main_v625 : Ref sig .tc := ⟨.hbm, 756, rfl⟩
abbrev main_v626 : Ref sig .tc := ⟨.hbm, 757, rfl⟩
abbrev main_c_85 : Ref sig .tc := ⟨.hbm, 758, rfl⟩
abbrev main_v627 : Ref sig .tc := ⟨.hbm, 759, rfl⟩
abbrev main_v628 : Ref sig .tc := ⟨.hbm, 760, rfl⟩
abbrev main_c_86 : Ref sig .tc := ⟨.hbm, 761, rfl⟩
abbrev main_v629 : Ref sig .tc := ⟨.hbm, 762, rfl⟩
abbrev main_v630 : Ref sig .tc := ⟨.hbm, 763, rfl⟩
abbrev main_v631 : Ref sig .tc := ⟨.hbm, 764, rfl⟩
abbrev main_v632 : Ref sig .tc := ⟨.hbm, 765, rfl⟩
abbrev main_v633 : Ref sig .tc := ⟨.hbm, 766, rfl⟩
abbrev main_v634 : Ref sig .tc := ⟨.hbm, 767, rfl⟩
abbrev main_v635 : Ref sig .tc := ⟨.hbm, 768, rfl⟩
abbrev main_v636 : Ref sig .tc := ⟨.hbm, 769, rfl⟩
abbrev main_v637 : Ref sig .tc := ⟨.hbm, 770, rfl⟩
abbrev main_v638 : Ref sig .tc := ⟨.hbm, 771, rfl⟩
abbrev main_cst_87 : Ref sig .tc := ⟨.hbm, 772, rfl⟩
abbrev main_v639 : Ref sig .tc := ⟨.hbm, 773, rfl⟩
abbrev main_cst_88 : Ref sig .tc := ⟨.hbm, 774, rfl⟩
abbrev main_call10_v0 : Ref sig .tc := ⟨.hbm, 775, rfl⟩
abbrev main_call10_v1 : Ref sig .tc := ⟨.hbm, 776, rfl⟩
abbrev main_v640 : Ref sig .tc := ⟨.hbm, 777, rfl⟩
abbrev main_v641 : Ref sig .tc := ⟨.hbm, 778, rfl⟩
abbrev main_v642 : Ref sig .tc := ⟨.hbm, 779, rfl⟩
abbrev main_v643 : Ref sig .tc := ⟨.hbm, 780, rfl⟩
abbrev main_v644 : Ref sig .tc := ⟨.hbm, 781, rfl⟩
abbrev main_cst_89 : Ref sig .tc := ⟨.hbm, 782, rfl⟩
abbrev main_v645 : Ref sig .tc := ⟨.hbm, 783, rfl⟩
abbrev main_v646 : Ref sig .tc := ⟨.hbm, 784, rfl⟩
abbrev main_v647 : Ref sig .tc := ⟨.hbm, 785, rfl⟩
abbrev main_v648 : Ref sig .tc := ⟨.hbm, 786, rfl⟩

abbrev nD : Nat := 1
abbrev τ : Topo := Topo.v7x

variable {F : FTy → Type} [FloatOps F]
-- ==== Proof.Kernel.Frame.lean ====
/-
  The program as segments, and its frame.
-/
module

public import proofs.«01_k».proof.Proof.Kernel.Record

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .region (reg1 m ρ),
    .region (reg2 m ρ),
    .host (hseg hostOps3 hostOps3_sub hostOps3_fresh (W12 m ρ)) ]
/-- @main IS the run of the segments: `Gen.main_chain`, then the segments' run is that chain (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The frame: every execution of @main terminates, nothing faulting, with the argument arrays as launched and every
    semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨(fun c =>
      ⟨(h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h => h.1) (frame m ρ)

end Cert.Kernel.Gen

end
-- ==== Proof.KernelIdeal.Region0.lean ====
/-
  The query encoder's region, at any contents of the buffers when it is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- thirty windows: the body's obligation goes over each of them
set_option maxHeartbeats 2000000
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_encoder_s32` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
theorem before0_22_of {c : Dev nD} (dat : Dat τ (Elt F) Unit ℕ (UR sig nD τ) ℕ cfg0 c) (hA : dat.A 22 = V c (Pipeline.arrRef spec0 22))
    (hafter : ∀ t, dat.after 22 t = iblk0 V c 22 t) (t : Fin cfg0.N) (d) : dat.before 22 t d = iblk0 V c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)
theorem before0_23_of {c : Dev nD} (dat : Dat τ (Elt F) Unit ℕ (UR sig nD τ) ℕ cfg0 c) (hA : dat.A 23 = V c (Pipeline.arrRef spec0 23))
    (hafter : ∀ t, dat.after 23 t = iblk0 V c 23 t) (t : Fin cfg0.N) (d) : dat.before 23 t d = iblk0 V c 23 t :=
  (dat.before_in_eq_fetched 23 rfl (fun _ => rfl) (fun _ _ _ => rfl) (fun t => by rw [hafter]; unfold Dat.blockOf iblk0; rw [hA]; try rfl) t d).trans
    (by unfold Dat.fetched Dat.blockOf iblk0; rw [hA]; try rfl)
theorem before0_24_of {c : Dev nD} (dat : Dat τ (Elt F) Unit ℕ (UR sig nD τ) ℕ cfg0 c) (hA : dat.A 24 = V c (Pipeline.arrRef spec0 24))
    (hafter : ∀ t, dat.after 24 t = iblk0 V c 24 t) (t : Fin cfg0.N) (d) : dat.before 24 t d = iblk0 V c 24 t :=
  (dat.before_in_eq_fetched 24 rfl (fun _ => rfl) (fun _ _ _ => rfl) (fun t => by rw [hafter]; unfold Dat.blockOf iblk0; rw [hA]; try rfl) t d).trans
    (by unfold Dat.fetched Dat.blockOf iblk0; rw [hA]; try rfl)
theorem before0_25_of {c : Dev nD} (dat : Dat τ (Elt F) Unit ℕ (UR sig nD τ) ℕ cfg0 c) (hA : dat.A 25 = V c (Pipeline.arrRef spec0 25))
    (hafter : ∀ t, dat.after 25 t = iblk0 V c 25 t) (t : Fin cfg0.N) (d) : dat.before 25 t d = iblk0 V c 25 t :=
  (dat.before_in_eq_fetched 25 rfl (fun _ => rfl) (fun _ _ _ => rfl) (fun t => by rw [hafter]; unfold Dat.blockOf iblk0; rw [hA]; try rfl) t d).trans
    (by unfold Dat.fetched Dat.blockOf iblk0; rw [hA]; try rfl)
theorem before0_26_of {c : Dev nD} (dat : Dat τ (Elt F) Unit ℕ (UR sig nD τ) ℕ cfg0 c) (hA : dat.A 26 = V c (Pipeline.arrRef spec0 26))
    (hafter : ∀ t, dat.after 26 t = iblk0 V c 26 t) (t : Fin cfg0.N) (d) : dat.before 26 t d = iblk0 V c 26 t :=
  (dat.before_in_eq_fetched 26 rfl (fun _ => rfl) (fun _ _ _ => rfl) (fun t => by rw [hafter]; unfold Dat.blockOf iblk0; rw [hA]; try rfl) t d).trans
    (by unfold Dat.fetched Dat.blockOf iblk0; rw [hA]; try rfl)
theorem before0_27_of {c : Dev nD} (dat : Dat τ (Elt F) Unit ℕ (UR sig nD τ) ℕ cfg0 c) (hA : dat.A 27 = V c (Pipeline.arrRef spec0 27))
    (hafter : ∀ t, dat.after 27 t = iblk0 V c 27 t) (t : Fin cfg0.N) (d) : dat.before 27 t d = iblk0 V c 27 t :=
  (dat.before_in_eq_fetched 27 rfl (fun _ => rfl) (fun _ _ _ => rfl) (fun t => by rw [hafter]; unfold Dat.blockOf iblk0; rw [hA]; try rfl) t d).trans
    (by unfold Dat.fetched Dat.blockOf iblk0; rw [hA]; try rfl)
theorem before0_28_of {c : Dev nD} (dat : Dat τ (Elt F) Unit ℕ (UR sig nD τ) ℕ cfg0 c) (hA : dat.A 28 = V c (Pipeline.arrRef spec0 28))
    (hafter : ∀ t, dat.after 28 t = iblk0 V c 28 t) (t : Fin cfg0.N) (d) : dat.before 28 t d = iblk0 V c 28 t :=
  (dat.before_in_eq_fetched 28 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S8x32x512 := Rect.unit (s := S8x32x512) ![0, 0, 0] S8x32x512.size inb_S8x32x512_S8x32x512_0_0_0
abbrev r0_1 : Rect S32x512 := Rect.unit (s := S32x512) ![0, 0] S32x512.size inb_S32x512_S32x512_0_0
abbrev r0_2 : Rect S1x512 := Rect.unit (s := S1x512) ![0, 0] S1x512.size inb_S1x512_S1x512_0_0
abbrev r0_3 : Rect S1x1x256 := Rect.unit (s := S1x1x256) ![0, 0, 0] S1x1x256.size inb_S1x1x256_S1x1x256_0_0_0
abbrev r0_4 : Rect S512x1536 := Rect.unit (s := S512x1536) ![0, 0] S512x1536.size inb_S512x1536_S512x1536_0_0
abbrev r0_5 : Rect S1x1536 := Rect.unit (s := S1x1536) ![0, 0] S1x1536.size inb_S1x1536_S1x1536_0_0
abbrev r0_6 : Rect S512x512 := Rect.unit (s := S512x512) ![0, 0] S512x512.size inb_S512x512_S512x512_0_0
abbrev r0_7 : Rect S512x2048 := Rect.unit (s := S512x2048) ![0, 0] S512x2048.size inb_S512x2048_S512x2048_0_0
abbrev r0_8 : Rect S1x2048 := Rect.unit (s := S1x2048) ![0, 0] S1x2048.size inb_S1x2048_S1x2048_0_0
abbrev r0_9 : Rect S2048x512 := Rect.unit (s := S2048x512) ![0, 0] S2048x512.size inb_S2048x512_S2048x512_0_0

/-! ## What the body leaves in each output window's buffer -/

/-! ### Values of the body that the stores' payloads, spelt out, would write more than once

    Each is a vector the body binds (often a part call's result), stated over the input windows' blocks and
    numbered on from the skeleton's payload functions (`k0_pay53` …, after `k0_pay52`), so that
    `out0_W` and the values after it name it instead of spelling it out (`unfold_out out0_W` opens a canon
    with them, `unfold_payloads` opens them with the payloads); the comment after each is the printed function's
    name for the value (a count appended where that name is bound again). -/

def k0_pay53 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x512 .f32 :=
  k0_pay2 (View.ld x0 r0_0) (View.ld x2 r0_1) (View.ld x3 r0_2) (View.ld x4 r0_2) -- `v32`
def k0_pay54 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S1x256 .f32 :=
  k0_pay3 (View.ld x1 r0_3) -- `v35`
def k0_pay55 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : IVec S256x256 1 :=
  k0_pay6 (iota .tc S256x256 32 [0] iota_S256x256_d0_w32) 32#32 k0_pay4 k0_pay5 -- `v86`
def k0_pay56 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x256 .f32 :=
  k0_pay7 (k0_pay54 x0 x1 x2 x3 x4 x5 x6 x7 x8 x9 x10 x11 x12 x13 x14 x15 x16 x17 x18 x19 x20 x21 x22 x23 x24 x25 x26 x27 x28) (k0_pay55 x0 x1 x2 x3 x4 x5 x6 x7 x8 x9 x10 x11 x12 x13 x14 x15 x16 x17 x18 x19 x20 x21 x22 x23 x24 x25 x26 x27 x28) (Scalar.ofBits .f32 0x00000000#32) -- `v91`
def k0_pay57 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x1536 .f32 :=
  k0_pay8 (k0_pay53 x0 x1 x2 x3 x4 x5 x6 x7 x8 x9 x10 x11 x12 x13 x14 x15 x16 x17 x18 x19 x20 x21 x22 x23 x24 x25 x26 x27 x28) (View.ld x5 r0_4) (View.ld x6 r0_5) -- `v99`
def k0_pay58 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x512 .f32 :=
  k0_pay21 (k0_pay56 x0 x1 x2 x3 x4 x5 x6 x7 x8 x9 x10 x11 x12 x13 x14 x15 x16 x17 x18 x19 x20 x21 x22 x23 x24 x25 x26 x27 x28) (k0_pay57 x0 x1 x2 x3 x4 x5 x6 x7 x8 x9 x10 x11 x12 x13 x14 x15 x16 x17 x18 x19 x20 x21 x22 x23 x24 x25 x26 x27 x28) (k0_pay9 (k0_pay53 x0 x1 x2 x3 x4 x5 x6 x7 x8 x9 x10 x11 x12 x13 x14 x15 x16 x17 x18 x19 x20 x21 x22 x23 x24 x25 x26 x27 x28) (k0_pay54 x0 x1 x2 x3 x4 x5 x6 x7 x8 x9 x10 x11 x12 x13 x14 x15 x16 x17 x18 x19 x20 x21 x22 x23 x24 x25 x26 x27 x28) (k0_pay55 x0 x1 x2 x3 x4 x5 x6 x7 x8 x9 x10 x11 x12 x13 x14 x15 x16 x17 x18 x19 x20 x21 x22 x23 x24 x25 x26 x27 x28) (Scalar.ofBits .f32 0x00000000#32) (View.ld x5 r0_4) (View.ld x6 r0_5)) (k0_pay13 (k0_pay10 (k0_pay53 x0 x1 x2 x3 x4 x5 x6 x7 x8 x9 x10 x11 x12 x13 x14 x15 x16 x17 x18 x19 x20 x21 x22 x23 x24 x25 x26 x27 x28) (View.ld x5 r0_4) (View.ld x6 r0_5)) (k0_pay11 (k0_pay53 x0 x1 x2 x3 x4 x5 x6 x7 x8 x9 x10 x11 x12 x13 x14 x15 x16 x17 x18 x19 x20 x21 x22 x23 x24 x25 x26 x27 x28) (k0_pay54 x0 x1 x2 x3 x4 x5 x6 x7 x8 x9 x10 x11 x12 x13 x14 x15 x16 x17 x18 x19 x20 x21 x22 x23 x24 x25 x26 x27 x28) (k0_pay55 x0 x1 x2 x3 x4 x5 x6 x7 x8 x9 x10 x11 x12 x13 x14 x15 x16 x17 x18 x19 x20 x21 x22 x23 x24 x25 x26 x27 x28) (Scalar.ofBits .f32 0x00000000#32) (View.ld x5 r0_4) (View.ld x6 r0_5)) (k0_pay12 (k0_pay53 x0 x1 x2 x3 x4 x5 x6 x7 x8 x9 x10 x11 x12 x13 x14 x15 x16 x17 x18 x19 x20 x21 x22 x23 x24 x25 x26 x27 x28) (k0_pay54 x0 x1 x2 x3 x4 x5 x6 x7 x8 x9 x10 x11 x12 x13 x14 x15 x16 x17 x18 x19 x20 x21 x22 x23 x24 x25 x26 x27 x28) (k0_pay55 x0 x1 x2 x3 x4 x5 x6 x7 x8 x9 x10 x11 x12 x13 x14 x15 x16 x17 x18 x19 x20 x21 x22 x23 x24 x25 x26 x27 x28) (Scalar.ofBits .f32 0x00000000#32) (View.ld x5 r0_4) (View.ld x6 r0_5))) (k0_pay14 (k0_pay56 x0 x1 x2 x3 x4 x5 x6 x7 x8 x9 x10 x11 x12 x13 x14 x15 x16 x17 x18 x19 x20 x21 x22 x23 x24 x25 x26 x27 x28) (k0_pay57 x0 x1 x2 x3 x4 x5 x6 x7 x8 x9 x10 x11 x12 x13 x14 x15 x16 x17 x18 x19 x20 x21 x22 x23 x24 x25 x26 x27 x28)) (k0_pay17 (k0_pay15 (k0_pay57 x0 x1 x2 x3 x4 x5 x6 x7 x8 x9 x10 x11 x12 x13 x14 x15 x16 x17 x18 x19 x20 x21 x22 x23 x24 x25 x26 x27 x28)) (k0_pay16 (k0_pay56 x0 x1 x2 x3 x4 x5 x6 x7 x8 x9 x10 x11 x12 x13 x14 x15 x16 x17 x18 x19 x20 x21 x22 x23 x24 x25 x26 x27 x28) (k0_pay57 x0 x1 x2 x3 x4 x5 x6 x7 x8 x9 x10 x11 x12 x13 x14 x15 x16 x17 x18 x19 x20 x21 x22 x23 x24 x25 x26 x27 x28))) (k0_pay18 (k0_pay56 x0 x1 x2 x3 x4 x5 x6 x7 x8 x9 x10 x11 x12 x13 x14 x15 x16 x17 x18 x19 x20 x21 x22 x23 x24 x25 x26 x27 x28) (k0_pay57 x0 x1 x2 x3 x4 x5 x6 x7 x8 x9 x10 x11 x12 x13 x14 x15 x16 x17 x18 x19 x20 x21 x22 x23 x24 x25 x26 x27 x28)) (k0_pay19 (k0_pay56 x0 x1 x2 x3 x4 x5 x6 x7 x8 x9 x10 x11 x12 x13 x14 x15 x16 x17 x18 x19 x20 x21 x22 x23 x24 x25 x26 x27 x28) (k0_pay57 x0 x1 x2 x3 x4 x5 x6 x7 x8 x9 x10 x11 x12 x13 x14 x15 x16 x17 x18 x19 x20 x21 x22 x23 x24 x25 x26 x27 x28)) (k0_pay20 (k0_pay57 x0 x1 x2 x3 x4 x5 x6 x7 x8 x9 x10 x11 x12 x13 x14 x15 x16 x17 x18 x19 x20 x21 x22 x23 x24 x25 x26 x27 x28)) (View.ld x7 r0_6) -- `v272`
def k0_pay59 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x512 .f32 :=
  k0_pay22 (View.ld x8 r0_2) -- `v275`
def k0_pay60 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x512 .f32 :=
  k0_pay23 (k0_pay53 x0 x1 x2 x3 x4 x5 x6 x7 x8 x9 x10 x11 x12 x13 x14 x15 x16 x17 x18 x19 x20 x21 x22 x23 x24 x25 x26 x27 x28) (k0_pay58 x0 x1 x2 x3 x4 x5 x6 x7 x8 x9 x10 x11 x12 x13 x14 x15 x16 x17 x18 x19 x20 x21 x22 x23 x24 x25 x26 x27 x28) (k0_pay59 x0 x1 x2 x3 x4 x5 x6 x7 x8 x9 x10 x11 x12 x13 x14 x15 x16 x17 x18 x19 x20 x21 x22 x23 x24 x25 x26 x27 x28) (View.ld x13 r0_2) (View.ld x14 r0_2) -- `v303`
def k0_pay61 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x512 .f32 :=
  k0_pay24 (k0_pay53 x0 x1 x2 x3 x4 x5 x6 x7 x8 x9 x10 x11 x12 x13 x14 x15 x16 x17 x18 x19 x20 x21 x22 x23 x24 x25 x26 x27 x28) (k0_pay58 x0 x1 x2 x3 x4 x5 x6 x7 x8 x9 x10 x11 x12 x13 x14 x15 x16 x17 x18 x19 x20 x21 x22 x23 x24 x25 x26 x27 x28) (k0_pay59 x0 x1 x2 x3 x4 x5 x6 x7 x8 x9 x10 x11 x12 x13 x14 x15 x16 x17 x18 x19 x20 x21 x22 x23 x24 x25 x26 x27 x28) (View.ld x13 r0_2) (View.ld x14 r0_2) (View.ld x9 r0_7) (View.ld x10 r0_8) (View.ld x11 r0_9) -- `v317`
def k0_pay62 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x512 .f32 :=
  k0_pay25 (k0_pay60 x0 x1 x2 x3 x4 x5 x6 x7 x8 x9 x10 x11 x12 x13 x14 x15 x16 x17 x18 x19 x20 x21 x22 x23 x24 x25 x26 x27 x28) (k0_pay61 x0 x1 x2 x3 x4 x5 x6 x7 x8 x9 x10 x11 x12 x13 x14 x15 x16 x17 x18 x19 x20 x21 x22 x23 x24 x25 x26 x27 x28) (View.ld x12 r0_2) (View.ld x15 r0_2) (View.ld x16 r0_2) -- `v348`
def k0_pay63 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x1536 .f32 :=
  k0_pay26 (k0_pay60 x0 x1 x2 x3 x4 x5 x6 x7 x8 x9 x10 x11 x12 x13 x14 x15 x16 x17 x18 x19 x20 x21 x22 x23 x24 x25 x26 x27 x28) (k0_pay61 x0 x1 x2 x3 x4 x5 x6 x7 x8 x9 x10 x11 x12 x13 x14 x15 x16 x17 x18 x19 x20 x21 x22 x23 x24 x25 x26 x27 x28) (View.ld x12 r0_2) (View.ld x15 r0_2) (View.ld x16 r0_2) (View.ld x17 r0_4) (View.ld x18 r0_5) -- `v356`
def k0_pay64 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x64 .f32 :=
  k0_pay28 (k0_pay56 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28) (k0_pay27 (k0_pay60 x0 x1 x2 x3 x4 x5 x6 x7 x8 x9 x10 x11 x12 x13 x14 x15 x16 x17 x18 x19 x20 x21 x22 x23 x24 x25 x26 x27 x28) (k0_pay61 x0 x1 x2 x3 x4 x5 x6 x7 x8 x9 x10 x11 x12 x13 x14 x15 x16 x17 x18 x19 x20 x21 x22 x23 x24 x25 x26 x27 x28) (View.ld x12 r0_2) (View.ld x15 r0_2) (View.ld x16 r0_2) (View.ld x17 r0_4) (View.ld x18 r0_5)) -- `v377`
def k0_pay65 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x64 .f32 :=
  k0_pay29 (k0_pay56 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28) -- `v398`
def k0_pay66 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x64 .f32 :=
  k0_pay32 (k0_pay30 (k0_pay63 x0 x1 x2 x3 x4 x5 x6 x7 x8 x9 x10 x11 x12 x13 x14 x15 x16 x17 x18 x19 x20 x21 x22 x23 x24 x25 x26 x27 x28)) (k0_pay31 (k0_pay56 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28)) -- `v419`
def k0_pay67 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x64 .f32 :=
  k0_pay33 (k0_pay56 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28) -- `v440`
def k0_pay68 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x64 .f32 :=
  k0_pay37 (k0_pay34 (k0_pay63 x0 x1 x2 x3 x4 x5 x6 x7 x8 x9 x10 x11 x12 x13 x14 x15 x16 x17 x18 x19 x20 x21 x22 x23 x24 x25 x26 x27 x28)) (k0_pay35 (k0_pay56 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28)) (k0_pay36 (k0_pay56 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28)) -- `v461`
def k0_pay69 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x64 .f32 :=
  k0_pay38 (k0_pay56 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28) -- `v482`
def k0_pay70 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x64 .f32 :=
  k0_pay39 (k0_pay56 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28) -- `v503`
def k0_pay71 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x64 .f32 :=
  k0_pay40 (k0_pay63 x0 x1 x2 x3 x4 x5 x6 x7 x8 x9 x10 x11 x12 x13 x14 x15 x16 x17 x18 x19 x20 x21 x22 x23 x24 x25 x26 x27 x28) -- `v504`
def k0_pay72 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x64 .f32 :=
  k0_pay41 (F := F) -- `v505`
def k0_pay73 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x512 .f32 :=
  k0_pay42 (k0_pay56 x0 x1 x2 x3 x4 x5 x6 x7 x8 x9 x10 x11 x12 x13 x14 x15 x16 x17 x18 x19 x20 x21 x22 x23 x24 x25 x26 x27 x28) (k0_pay62 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28) (k0_pay64 x0 x1 x2 x3 x4 x5 x6 x7 x8 x9 x10 x11 x12 x13 x14 x15 x16 x17 x18 x19 x20 x21 x22 x23 x24 x25 x26 x27 x28) (k0_pay65 x0 x1 x2 x3 x4 x5 x6 x7 x8 x9 x10 x11 x12 x13 x14 x15 x16 x17 x18 x19 x20 x21 x22 x23 x24 x25 x26 x27 x28) (k0_pay66 x0 x1 x2 x3 x4 x5 x6 x7 x8 x9 x10 x11 x12 x13 x14 x15 x16 x17 x18 x19 x20 x21 x22 x23 x24 x25 x26 x27 x28) (k0_pay67 x0 x1 x2 x3 x4 x5 x6 x7 x8 x9 x10 x11 x12 x13 x14 x15 x16 x17 x18 x19 x20 x21 x22 x23 x24 x25 x26 x27 x28) (k0_pay68 x0 x1 x2 x3 x4 x5 x6 x7 x8 x9 x10 x11 x12 x13 x14 x15 x16 x17 x18 x19 x20 x21 x22 x23 x24 x25 x26 x27 x28) (k0_pay69 x0 x1 x2 x3 x4 x5 x6 x7 x8 x9 x10 x11 x12 x13 x14 x15 x16 x17 x18 x19 x20 x21 x22 x23 x24 x25 x26 x27 x28) (k0_pay70 x0 x1 x2 x3 x4 x5 x6 x7 x8 x9 x10 x11 x12 x13 x14 x15 x16 x17 x18 x19 x20 x21 x22 x23 x24 x25 x26 x27 x28) (k0_pay71 x0 x1 x2 x3 x4 x5 x6 x7 x8 x9 x10 x11 x12 x13 x14 x15 x16 x17 x18 x19 x20 x21 x22 x23 x24 x25 x26 x27 x28) (k0_pay72 x0 x1 x2 x3 x4 x5 x6 x7 x8 x9 x10 x11 x12 x13 x14 x15 x16 x17 x18 x19 x20 x21 x22 x23 x24 x25 x26 x27 x28) (View.ld x19 r0_6) (View.ld x20 r0_2) -- `v534`
def k0_pay74 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S1x512 .f32 :=
  k0_pay43 (View.ld x25 r0_2) -- `v536`
def k0_pay75 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S1x512 .f32 :=
  k0_pay44 (View.ld x26 r0_2) -- `v538`
def k0_pay76 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x1 .f32 :=
  k0_pay45 (k0_pay56 x0 x1 x2 x3 x4 x5 x6 x7 x8 x9 x10 x11 x12 x13 x14 x15 x16 x17 x18 x19 x20 x21 x22 x23 x24 x25 x26 x27 x28) (k0_pay62 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28) (k0_pay64 x0 x1 x2 x3 x4 x5 x6 x7 x8 x9 x10 x11 x12 x13 x14 x15 x16 x17 x18 x19 x20 x21 x22 x23 x24 x25 x26 x27 x28) (k0_pay65 x0 x1 x2 x3 x4 x5 x6 x7 x8 x9 x10 x11 x12 x13 x14 x15 x16 x17 x18 x19 x20 x21 x22 x23 x24 x25 x26 x27 x28) (k0_pay66 x0 x1 x2 x3 x4 x5 x6 x7 x8 x9 x10 x11 x12 x13 x14 x15 x16 x17 x18 x19 x20 x21 x22 x23 x24 x25 x26 x27 x28) (k0_pay67 x0 x1 x2 x3 x4 x5 x6 x7 x8 x9 x10 x11 x12 x13 x14 x15 x16 x17 x18 x19 x20 x21 x22 x23 x24 x25 x26 x27 x28) (k0_pay68 x0 x1 x2 x3 x4 x5 x6 x7 x8 x9 x10 x11 x12 x13 x14 x15 x16 x17 x18 x19 x20 x21 x22 x23 x24 x25 x26 x27 x28) (k0_pay69 x0 x1 x2 x3 x4 x5 x6 x7 x8 x9 x10 x11 x12 x13 x14 x15 x16 x17 x18 x19 x20 x21 x22 x23 x24 x25 x26 x27 x28) (k0_pay70 x0 x1 x2 x3 x4 x5 x6 x7 x8 x9 x10 x11 x12 x13 x14 x15 x16 x17 x18 x19 x20 x21 x22 x23 x24 x25 x26 x27 x28) (k0_pay71 x0 x1 x2 x3 x4 x5 x6 x7 x8 x9 x10 x11 x12 x13 x14 x15 x16 x17 x18 x19 x20 x21 x22 x23 x24 x25 x26 x27 x28) (k0_pay72 x0 x1 x2 x3 x4 x5 x6 x7 x8 x9 x10 x11 x12 x13 x14 x15 x16 x17 x18 x19 x20 x21 x22 x23 x24 x25 x26 x27 x28) (View.ld x19 r0_6) (View.ld x20 r0_2) -- `v542`
def k0_pay77 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x1 .f32 :=
  k0_pay46 (k0_pay56 x0 x1 x2 x3 x4 x5 x6 x7 x8 x9 x10 x11 x12 x13 x14 x15 x16 x17 x18 x19 x20 x21 x22 x23 x24 x25 x26 x27 x28) (k0_pay62 x0 x1 x2 x3 x4 x5 x6 x7 x8 x9 x10 x11 x12 x13 x14 x15 x16 x17 x18 x19 x20 x21 x22 x23 x24 x25 x26 x27 x28) (k0_pay63 x0 x1 x2 x3 x4 x5 x6 x7 x8 x9 x10 x11 x12 x13 x14 x15 x16 x17 x18 x19 x20 x21 x22 x23 x24 x25 x26 x27 x28) (k0_pay64 x0 x1 x2 x3 x4 x5 x6 x7 x8 x9 x10 x11 x12 x13 x14 x15 x16 x17 x18 x19 x20 x21 x22 x23 x24 x25 x26 x27 x28) (k0_pay65 x0 x1 x2 x3 x4 x5 x6 x7 x8 x9 x10 x11 x12 x13 x14 x15 x16 x17 x18 x19 x20 x21 x22 x23 x24 x25 x26 x27 x28) (k0_pay66 x0 x1 x2 x3 x4 x5 x6 x7 x8 x9 x10 x11 x12 x13 x14 x15 x16 x17 x18 x19 x20 x21 x22 x23 x24 x25 x26 x27 x28) (k0_pay67 x0 x1 x2 x3 x4 x5 x6 x7 x8 x9 x10 x11 x12 x13 x14 x15 x16 x17 x18 x19 x20 x21 x22 x23 x24 x25 x26 x27 x28) (k0_pay68 x0 x1 x2 x3 x4 x5 x6 x7 x8 x9 x10 x11 x12 x13 x14 x15 x16 x17 x18 x19 x20 x21 x22 x23 x24 x25 x26 x27 x28) (k0_pay69 x0 x1 x2 x3 x4 x5 x6 x7 x8 x9 x10 x11 x12 x13 x14 x15 x16 x17 x18 x19 x20 x21 x22 x23 x24 x25 x26 x27 x28) (k0_pay70 x0 x1 x2 x3 x4 x5 x6 x7 x8 x9 x10 x11 x12 x13 x14 x15 x16 x17 x18 x19 x20 x21 x22 x23 x24 x25 x26 x27 x28) (k0_pay71 x0 x1 x2 x3 x4 x5 x6 x7 x8 x9 x10 x11 x12 x13 x14 x15 x16 x17 x18 x19 x20 x21 x22 x23 x24 x25 x26 x27 x28) (k0_pay72 x0 x1 x2 x3 x4 x5 x6 x7 x8 x9 x10 x11 x12 x13 x14 x15 x16 x17 x18 x19 x20 x21 x22 x23 x24 x25 x26 x27 x28) (View.ld x19 r0_6) (View.ld x20 r0_2) -- `v547`
def k0_pay78 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S256x1 .f32 :=
  k0_pay47 (F := F) -- `v548`

/-- Window 29's staging buffer after the body, from the input windows' blocks: its 1 store as pieces, LAST
    FIRST (Lib/Pipeline/FrameBody.lean `View.canon`; the payloads are the skeleton's and the values stated above). -/
def out0_29 (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : Vec F S8x32x512 .f32 :=
  View.canon [⟨r0_0, k0_pay1 (k0_pay48 (k0_pay73 x0 x1 x2 x3 x4 x5 x6 x7 x8 x9 x10 x11 x12 x13 x14 x15 x16 x17 x18 x19 x20 x21 x22 x23 x24 x25 x26 x27 x28) (k0_pay74 x0 x1 x2 x3 x4 x5 x6 x7 x8 x9 x10 x11 x12 x13 x14 x15 x16 x17 x18 x19 x20 x21 x22 x23 x24 x25 x26 x27 x28) (k0_pay75 x0 x1 x2 x3 x4 x5 x6 x7 x8 x9 x10 x11 x12 x13 x14 x15 x16 x17 x18 x19 x20 x21 x22 x23 x24 x25 x26 x27 x28) (k0_pay76 x0 x1 x2 x3 x4 x5 x6 x7 x8 x9 x10 x11 x12 x13 x14 x15 x16 x17 x18 x19 x20 x21 x22 x23 x24 x25 x26 x27 x28) (k0_pay77 x0 x1 x2 x3 x4 x5 x6 x7 x8 x9 x10 x11 x12 x13 x14 x15 x16 x17 x18 x19 x20 x21 x22 x23 x24 x25 x26 x27 x28) (k0_pay78 x0 x1 x2 x3 x4 x5 x6 x7 x8 x9 x10 x11 x12 x13 x14 x15 x16 x17 x18 x19 x20 x21 x22 x23 x24 x25 x26 x27 x28) (View.ld x21 r0_7) (View.ld x22 r0_8) (View.ld x23 r0_9) (View.ld x24 r0_2)) (k0_pay49 (View.ld x27 r0_2)) (k0_pay50 (View.ld x28 r0_2)) (k0_pay51 (k0_pay73 x0 x1 x2 x3 x4 x5 x6 x7 x8 x9 x10 x11 x12 x13 x14 x15 x16 x17 x18 x19 x20 x21 x22 x23 x24 x25 x26 x27 x28) (k0_pay74 x0 x1 x2 x3 x4 x5 x6 x7 x8 x9 x10 x11 x12 x13 x14 x15 x16 x17 x18 x19 x20 x21 x22 x23 x24 x25 x26 x27 x28) (k0_pay75 x0 x1 x2 x3 x4 x5 x6 x7 x8 x9 x10 x11 x12 x13 x14 x15 x16 x17 x18 x19 x20 x21 x22 x23 x24 x25 x26 x27 x28) (k0_pay76 x0 x1 x2 x3 x4 x5 x6 x7 x8 x9 x10 x11 x12 x13 x14 x15 x16 x17 x18 x19 x20 x21 x22 x23 x24 x25 x26 x27 x28) (k0_pay77 x0 x1 x2 x3 x4 x5 x6 x7 x8 x9 x10 x11 x12 x13 x14 x15 x16 x17 x18 x19 x20 x21 x22 x23 x24 x25 x26 x27 x28) (k0_pay78 x0 x1 x2 x3 x4 x5 x6 x7 x8 x9 x10 x11 x12 x13 x14 x15 x16 x17 x18 x19 x20 x21 x22 x23 x24 x25 x26 x27 x28) (View.ld x21 r0_7) (View.ld x22 r0_8) (View.ld x23 r0_9) (View.ld x24 r0_2)) (k0_pay52 (k0_pay73 x0 x1 x2 x3 x4 x5 x6 x7 x8 x9 x10 x11 x12 x13 x14 x15 x16 x17 x18 x19 x20 x21 x22 x23 x24 x25 x26 x27 x28) (k0_pay74 x0 x1 x2 x3 x4 x5 x6 x7 x8 x9 x10 x11 x12 x13 x14 x15 x16 x17 x18 x19 x20 x21 x22 x23 x24 x25 x26 x27 x28) (k0_pay75 x0 x1 x2 x3 x4 x5 x6 x7 x8 x9 x10 x11 x12 x13 x14 x15 x16 x17 x18 x19 x20 x21 x22 x23 x24 x25 x26 x27 x28) (k0_pay76 x0 x1 x2 x3 x4 x5 x6 x7 x8 x9 x10 x11 x12 x13 x14 x15 x16 x17 x18 x19 x20 x21 x22 x23 x24 x25 x26 x27 x28) (k0_pay77 x0 x1 x2 x3 x4 x5 x6 x7 x8 x9 x10 x11 x12 x13 x14 x15 x16 x17 x18 x19 x20 x21 x22 x23 x24 x25 x26 x27 x28) (k0_pay78 x0 x1 x2 x3 x4 x5 x6 x7 x8 x9 x10 x11 x12 x13 x14 x15 x16 x17 x18 x19 x20 x21 x22 x23 x24 x25 x26 x27 x28) (View.ld x21 r0_7) (View.ld x22 r0_8) (View.ld x23 r0_9) (View.ld x24 r0_2))⟩]

/-- Its stores tile the buffer (checked by evaluation), so they cover it. -/
theorem cover0_29 (p0 : Vec F S8x32x512 .f32) (y : S8x32x512.Idx) :
    ∃ pc ∈ ([⟨r0_0, p0⟩] : List (View.Piece (Elt F) S8x32x512 .f32)), y ∈ pc.1.set :=
  View.cover_of_tiled [⟨r0_0, p0⟩] S8x32x512.size (by rfl) y

/-! ## The body's triple -/

set_option maxHeartbeats 38060250 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S8x32x512 .f32) (harg1 : arg1.IsWhole) (arg2 : Memref sig .tc .vmem S1x1x256 .f32) (harg2 : arg2.IsWhole) (arg3 : Memref sig .tc .vmem S32x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x1536 .bf16) (harg6 : arg6.IsWhole) (arg7 : Memref sig .tc .vmem S1x1536 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S2048x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S1x1536 .f32) (harg19 : arg19.IsWhole) (arg20 : Memref sig .tc .vmem S512x512 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S2048x512 .bf16) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S8x32x512 .f32) (harg30 : arg30.IsWhole)
    (x0 : Vec F S8x32x512 .f32) (x1 : Vec F S1x1x256 .f32) (x2 : Vec F S32x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare (out0_29 x0 x1 x2 x3 x4 x5 x6 x7 x8 x9 x10 x11 x12 x13 x14 x15 x16 x17 x18 x19 x20 x21 x22 x23 x24 x25 x26 x27 x28)) -∗ K ⟨⟩))
      ⊢ wp frame (wpE (defs₀ (F := F)) Variants.none c none) E (cc0_encoder_s32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_encoder_s32_eq_skeleton]; unfold cc0_encoder_s32_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  iexists _; isplitr
  swap; · iexact H29
  ipureintro
  refine (View.read_writes_eq_canon _ _ _ (cover0_29 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => iblk0 V c 24 t
    | ⟨25, _⟩ => iblk0 V c 25 t
    | ⟨26, _⟩ => iblk0 V c 26 t
    | ⟨27, _⟩ => iblk0 V c 27 t
    | ⟨28, _⟩ => iblk0 V c 28 t
    | ⟨29, _⟩ => out0_29 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) (iblk0 V c 27 t) (iblk0 V c 28 t)
    | ⟨_ + 30, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = iblk0 V c 23 t := by dsimp only [dat0]
theorem after0_24 (c : Dev nD) (t : Fin cfg0.N) : (dat0 V c).after 24 t = iblk0 V c 24 t := by dsimp only [dat0]
theorem after0_25 (c : Dev nD) (t : Fin cfg0.N) : (dat0 V c).after 25 t = iblk0 V c 25 t := by dsimp only [dat0]
theorem after0_26 (c : Dev nD) (t : Fin cfg0.N) : (dat0 V c).after 26 t = iblk0 V c 26 t := by dsimp only [dat0]
theorem after0_27 (c : Dev nD) (t : Fin cfg0.N) : (dat0 V c).after 27 t = iblk0 V c 27 t := by dsimp only [dat0]
theorem after0_28 (c : Dev nD) (t : Fin cfg0.N) : (dat0 V c).after 28 t = iblk0 V c 28 t := by dsimp only [dat0]
theorem after0_29 (c : Dev nD) (t : Fin cfg0.N) : (dat0 V c).after 29 t = out0_29 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) (iblk0 V c 27 t) (iblk0 V c 28 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d
theorem before0_22 (c : Dev nD) (t : Fin cfg0.N) (d) : (dat0 V c).before 22 t d = iblk0 V c 22 t :=
  before0_22_of V (dat0 V c) (A_eq0 V c 22) (after0_22 V c) t d
theorem before0_23 (c : Dev nD) (t : Fin cfg0.N) (d) : (dat0 V c).before 23 t d = iblk0 V c 23 t :=
  before0_23_of V (dat0 V c) (A_eq0 V c 23) (after0_23 V c) t d
theorem before0_24 (c : Dev nD) (t : Fin cfg0.N) (d) : (dat0 V c).before 24 t d = iblk0 V c 24 t :=
  before0_24_of V (dat0 V c) (A_eq0 V c 24) (after0_24 V c) t d
theorem before0_25 (c : Dev nD) (t : Fin cfg0.N) (d) : (dat0 V c).before 25 t d = iblk0 V c 25 t :=
  before0_25_of V (dat0 V c) (A_eq0 V c 25) (after0_25 V c) t d
theorem before0_26 (c : Dev nD) (t : Fin cfg0.N) (d) : (dat0 V c).before 26 t d = iblk0 V c 26 t :=
  before0_26_of V (dat0 V c) (A_eq0 V c 26) (after0_26 V c) t d
theorem before0_27 (c : Dev nD) (t : Fin cfg0.N) (d) : (dat0 V c).before 27 t d = iblk0 V c 27 t :=
  before0_27_of V (dat0 V c) (A_eq0 V c 27) (after0_27 V c) t d
theorem before0_28 (c : Dev nD) (t : Fin cfg0.N) (d) : (dat0 V c).before 28 t d = iblk0 V c 28 t :=
  before0_28_of V (dat0 V c) (A_eq0 V c 28) (after0_28 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d))
    ∗ (∃ d, owns (c : Thread nD τ) (st0_27 t) fullShare ((dat0 V c).before 27 t d))
    ∗ (∃ d, owns (c : Thread nD τ) (st0_28 t) fullShare ((dat0 V c).before 28 t d))
    ∗ (∃ d, owns (c : Thread nD τ) (st0_29 t) fullShare ((dat0 V c).before 29 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t)
    ∗ owns (c : Thread nD τ) (st0_27 t) fullShare ((dat0 V c).after 27 t)
    ∗ owns (c : Thread nD τ) (st0_28 t) fullShare ((dat0 V c).after 28 t)
    ∗ owns (c : Thread nD τ) (st0_29 t) fullShare ((dat0 V c).after 29 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) (iblk0 V c 27 t) (iblk0 V c 28 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdeal.Region1.lean ====
/-
  The document encoder's region, at any contents of the buffers when it is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- thirty windows: the body's obligation goes over each of them
set_option maxHeartbeats 2000000
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_encoder_s512` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)
theorem before1_25_of {c : Dev nD} (dat : Dat τ (Elt F) Unit ℕ (UR sig nD τ) ℕ cfg1 c) (hA : dat.A 25 = V c (Pipeline.arrRef spec1 25))
    (hafter : ∀ t, dat.after 25 t = iblk1 V c 25 t) (t : Fin cfg1.N) (d) : dat.before 25 t d = iblk1 V c 25 t :=
  (dat.before_in_eq_fetched 25 rfl (fun _ => rfl) (fun _ _ _ => rfl) (fun t => by rw [hafter]; unfold Dat.blockOf iblk1; rw [hA]; try rfl) t d).trans
    (by unfold Dat.fetched Dat.blockOf iblk1; rw [hA]; try rfl)
theorem before1_26_of {c : Dev nD} (dat : Dat τ (Elt F) Unit ℕ (UR sig nD τ) ℕ cfg1 c) (hA : dat.A 26 = V c (Pipeline.arrRef spec1 26))
    (hafter : ∀ t, dat.after 26 t = iblk1 V c 26 t) (t : Fin cfg1.N) (d) : dat.before 26 t d = iblk1 V c 26 t :=
  (dat.before_in_eq_fetched 26 rfl (fun _ => rfl) (fun _ _ _ => rfl) (fun t => by rw [hafter]; unfold Dat.blockOf iblk1; rw [hA]; try rfl) t d).trans
    (by unfold Dat.fetched Dat.blockOf iblk1; rw [hA]; try rfl)
theorem before1_27_of {c : Dev nD} (dat : Dat τ (Elt F) Unit ℕ (UR sig nD τ) ℕ cfg1 c) (hA : dat.A 27 = V c (Pipeline.arrRef spec1 27))
    (hafter : ∀ t, dat.after 27 t = iblk1 V c 27 t) (t : Fin cfg1.N) (d) : dat.before 27 t d = iblk1 V c 27 t :=
  (dat.before_in_eq_fetched 27 rfl (fun _ => rfl) (fun _ _ _ => rfl) (fun t => by rw [hafter]; unfold Dat.blockOf iblk1; rw [hA]; try rfl) t d).trans
    (by unfold Dat.fetched Dat.blockOf iblk1; rw [hA]; try rfl)
theorem before1_28_of {c : Dev nD} (dat : Dat τ (Elt F) Unit ℕ (UR sig nD τ) ℕ cfg1 c) (hA : dat.A 28 = V c (Pipeline.arrRef spec1 28))
    (hafter : ∀ t, dat.after 28 t = iblk1 V c 28 t) (t : Fin cfg1.N) (d) : dat.before 28 t d = iblk1 V c 28 t :=
  (dat.before_in_eq_fetched 28 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x512x512 := Rect.unit (s := S1x512x512) ![0, 0, 0] S1x512x512.size inb_S1x512x512_S1x512x512_0_0_0
abbrev r1_1 : Rect S512x512 := Rect.unit (s := S512x512) ![0, 0] S512x512.size inb_S512x512_S512x512_0_0
abbrev r1_2 : Rect S1x512 := Rect.unit (s := S1x512) ![0, 0] S1x512.size inb_S1x512_S1x512_0_0
abbrev r1_3 : Rect S1x1x512 := Rect.unit (s := S1x1x512) ![0, 0, 0] S1x1x512.size inb_S1x1x512_S1x1x512_0_0_0
abbrev r1_4 : Rect S512x1536 := Rect.unit (s := S512x1536) ![0, 0] S512x1536.size inb_S512x1536_S512x1536_0_0
abbrev r1_5 : Rect S1x1536 := Rect.unit (s := S1x1536) ![0, 0] S1x1536.size inb_S1x1536_S1x1536_0_0
abbrev r1_6 : Rect S512x2048 := Rect.unit (s := S512x2048) ![0, 0] S512x2048.size inb_S512x2048_S512x2048_0_0
abbrev r1_7 : Rect S1x2048 := Rect.unit (s := S1x2048) ![0, 0] S1x2048.size inb_S1x2048_S1x2048_0_0
abbrev r1_8 : Rect S2048x512 := Rect.unit (s := S2048x512) ![0, 0] S2048x512.size inb_S2048x512_S2048x512_0_0

/-! ## What the body leaves in each output window's buffer -/

/-! ### Values of the body that the stores' payloads, spelt out, would write more than once

    Each is a vector the body binds (often a part call's result), stated over the input windows' blocks and
    numbered on from the skeleton's payload functions (`k1_pay49` …, after `k1_pay48`), so that
    `out1_W` and the values after it name it instead of spelling it out (`unfold_out out1_W` opens a canon
    with them, `unfold_payloads` opens them with the payloads); the comment after each is the printed function's
    name for the value (a count appended where that name is bound again). -/

def k1_pay49 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S1x512 .f32 :=
  k1_pay3 (View.ld x1 r1_3) -- `v34`
def k1_pay50 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x1536 .f32 :=
  k1_pay4 (View.ld x0 r1_0) (View.ld x2 r1_1) (View.ld x3 r1_2) (View.ld x4 r1_2) (View.ld x5 r1_4) -- `v38`
def k1_pay51 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x1536 .f32 :=
  k1_pay5 (k1_pay50 x0 x1 x2 x3 x4 x5 x6 x7 x8 x9 x10 x11 x12 x13 x14 x15 x16 x17 x18 x19 x20 x21 x22 x23 x24 x25 x26 x27 x28) (View.ld x6 r1_5) -- `v42`
def k1_pay52 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x512 .f32 :=
  k1_pay17 (k1_pay2 (View.ld x0 r1_0) (View.ld x2 r1_1) (View.ld x3 r1_2) (View.ld x4 r1_2)) (k1_pay49 x0 x1 x2 x3 x4 x5 x6 x7 x8 x9 x10 x11 x12 x13 x14 x15 x16 x17 x18 x19 x20 x21 x22 x23 x24 x25 x26 x27 x28) (k1_pay51 x0 x1 x2 x3 x4 x5 x6 x7 x8 x9 x10 x11 x12 x13 x14 x15 x16 x17 x18 x19 x20 x21 x22 x23 x24 x25 x26 x27 x28) (k1_pay6 (k1_pay49 x0 x1 x2 x3 x4 x5 x6 x7 x8 x9 x10 x11 x12 x13 x14 x15 x16 x17 x18 x19 x20 x21 x22 x23 x24 x25 x26 x27 x28) (k1_pay50 x0 x1 x2 x3 x4 x5 x6 x7 x8 x9 x10 x11 x12 x13 x14 x15 x16 x17 x18 x19 x20 x21 x22 x23 x24 x25 x26 x27 x28) (View.ld x6 r1_5)) (k1_pay7 (k1_pay49 x0 x1 x2 x3 x4 x5 x6 x7 x8 x9 x10 x11 x12 x13 x14 x15 x16 x17 x18 x19 x20 x21 x22 x23 x24 x25 x26 x27 x28) (k1_pay50 x0 x1 x2 x3 x4 x5 x6 x7 x8 x9 x10 x11 x12 x13 x14 x15 x16 x17 x18 x19 x20 x21 x22 x23 x24 x25 x26 x27 x28) (View.ld x6 r1_5)) (k1_pay8 (k1_pay49 x0 x1 x2 x3 x4 x5 x6 x7 x8 x9 x10 x11 x12 x13 x14 x15 x16 x17 x18 x19 x20 x21 x22 x23 x24 x25 x26 x27 x28) (k1_pay51 x0 x1 x2 x3 x4 x5 x6 x7 x8 x9 x10 x11 x12 x13 x14 x15 x16 x17 x18 x19 x20 x21 x22 x23 x24 x25 x26 x27 x28)) (k1_pay9 (k1_pay49 x0 x1 x2 x3 x4 x5 x6 x7 x8 x9 x10 x11 x12 x13 x14 x15 x16 x17 x18 x19 x20 x21 x22 x23 x24 x25 x26 x27 x28) (k1_pay51 x0 x1 x2 x3 x4 x5 x6 x7 x8 x9 x10 x11 x12 x13 x14 x15 x16 x17 x18 x19 x20 x21 x22 x23 x24 x25 x26 x27 x28)) (k1_pay12 (k1_pay49 x0 x1 x2 x3 x4 x5 x6 x7 x8 x9 x10 x11 x12 x13 x14 x15 x16 x17 x18 x19 x20 x21 x22 x23 x24 x25 x26 x27 x28) (k1_pay51 x0 x1 x2 x3 x4 x5 x6 x7 x8 x9 x10 x11 x12 x13 x14 x15 x16 x17 x18 x19 x20 x21 x22 x23 x24 x25 x26 x27 x28) (k1_pay10 (k1_pay51 x0 x1 x2 x3 x4 x5 x6 x7 x8 x9 x10 x11 x12 x13 x14 x15 x16 x17 x18 x19 x20 x21 x22 x23 x24 x25 x26 x27 x28)) (k1_pay11 (k1_pay51 x0 x1 x2 x3 x4 x5 x6 x7 x8 x9 x10 x11 x12 x13 x14 x15 x16 x17 x18 x19 x20 x21 x22 x23 x24 x25 x26 x27 x28))) (k1_pay13 (k1_pay49 x0 x1 x2 x3 x4 x5 x6 x7 x8 x9 x10 x11 x12 x13 x14 x15 x16 x17 x18 x19 x20 x21 x22 x23 x24 x25 x26 x27 x28) (k1_pay51 x0 x1 x2 x3 x4 x5 x6 x7 x8 x9 x10 x11 x12 x13 x14 x15 x16 x17 x18 x19 x20 x21 x22 x23 x24 x25 x26 x27 x28)) (k1_pay14 (k1_pay51 x0 x1 x2 x3 x4 x5 x6 x7 x8 x9 x10 x11 x12 x13 x14 x15 x16 x17 x18 x19 x20 x21 x22 x23 x24 x25 x26 x27 x28)) (k1_pay15 (k1_pay51 x0 x1 x2 x3 x4 x5 x6 x7 x8 x9 x10 x11 x12 x13 x14 x15 x16 x17 x18 x19 x20 x21 x22 x23 x24 x25 x26 x27 x28)) (k1_pay16 (k1_pay49 x0 x1 x2 x3 x4 x5 x6 x7 x8 x9 x10 x11 x12 x13 x14 x15 x16 x17 x18 x19 x20 x21 x22 x23 x24 x25 x26 x27 x28)) (View.ld x7 r1_1) (View.ld x8 r1_2) -- `v228`
def k1_pay53 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x512 .f32 :=
  k1_pay18 (k1_pay52 x0 x1 x2 x3 x4 x5 x6 x7 x8 x9 x10 x11 x12 x13 x14 x15 x16 x17 x18 x19 x20 x21 x22 x23 x24 x25 x26 x27 x28) (View.ld x13 r1_2) (View.ld x14 r1_2) -- `v254`
def k1_pay54 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x512 .f32 :=
  k1_pay19 (k1_pay52 x0 x1 x2 x3 x4 x5 x6 x7 x8 x9 x10 x11 x12 x13 x14 x15 x16 x17 x18 x19 x20 x21 x22 x23 x24 x25 x26 x27 x28) (View.ld x13 r1_2) (View.ld x14 r1_2) (View.ld x9 r1_6) (View.ld x10 r1_7) (View.ld x11 r1_8) -- `v268`
def k1_pay55 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x512 .f32 :=
  k1_pay20 (View.ld x12 r1_2) -- `v271`
def k1_pay56 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x512 .f32 :=
  k1_pay21 (k1_pay53 x0 x1 x2 x3 x4 x5 x6 x7 x8 x9 x10 x11 x12 x13 x14 x15 x16 x17 x18 x19 x20 x21 x22 x23 x24 x25 x26 x27 x28) (k1_pay54 x0 x1 x2 x3 x4 x5 x6 x7 x8 x9 x10 x11 x12 x13 x14 x15 x16 x17 x18 x19 x20 x21 x22 x23 x24 x25 x26 x27 x28) (k1_pay55 x0 x1 x2 x3 x4 x5 x6 x7 x8 x9 x10 x11 x12 x13 x14 x15 x16 x17 x18 x19 x20 x21 x22 x23 x24 x25 x26 x27 x28) (View.ld x15 r1_2) (View.ld x16 r1_2) -- `v299`
def k1_pay57 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x1536 .f32 :=
  k1_pay22 (k1_pay53 x0 x1 x2 x3 x4 x5 x6 x7 x8 x9 x10 x11 x12 x13 x14 x15 x16 x17 x18 x19 x20 x21 x22 x23 x24 x25 x26 x27 x28) (k1_pay54 x0 x1 x2 x3 x4 x5 x6 x7 x8 x9 x10 x11 x12 x13 x14 x15 x16 x17 x18 x19 x20 x21 x22 x23 x24 x25 x26 x27 x28) (k1_pay55 x0 x1 x2 x3 x4 x5 x6 x7 x8 x9 x10 x11 x12 x13 x14 x15 x16 x17 x18 x19 x20 x21 x22 x23 x24 x25 x26 x27 x28) (View.ld x15 r1_2) (View.ld x16 r1_2) (View.ld x17 r1_4) (View.ld x18 r1_5) -- `v307`
def k1_pay58 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x64 .f32 :=
  k1_pay26 (k1_pay49 x0 x1 x2 x3 x4 x5 x6 x7 x8 x9 x10 x11 x12 x13 x14 x15 x16 x17 x18 x19 x20 x21 x22 x23 x24 x25 x26 x27 x28) (k1_pay23 (k1_pay53 x0 x1 x2 x3 x4 x5 x6 x7 x8 x9 x10 x11 x12 x13 x14 x15 x16 x17 x18 x19 x20 x21 x22 x23 x24 x25 x26 x27 x28) (k1_pay54 x0 x1 x2 x3 x4 x5 x6 x7 x8 x9 x10 x11 x12 x13 x14 x15 x16 x17 x18 x19 x20 x21 x22 x23 x24 x25 x26 x27 x28) (k1_pay55 x0 x1 x2 x3 x4 x5 x6 x7 x8 x9 x10 x11 x12 x13 x14 x15 x16 x17 x18 x19 x20 x21 x22 x23 x24 x25 x26 x27 x28) (View.ld x15 r1_2) (View.ld x16 r1_2) (View.ld x17 r1_4) (View.ld x18 r1_5)) (k1_pay24 (k1_pay53 x0 x1 x2 x3 x4 x5 x6 x7 x8 x9 x10 x11 x12 x13 x14 x15 x16 x17 x18 x19 x20 x21 x22 x23 x24 x25 x26 x27 x28) (k1_pay54 x0 x1 x2 x3 x4 x5 x6 x7 x8 x9 x10 x11 x12 x13 x14 x15 x16 x17 x18 x19 x20 x21 x22 x23 x24 x25 x26 x27 x28) (k1_pay55 x0 x1 x2 x3 x4 x5 x6 x7 x8 x9 x10 x11 x12 x13 x14 x15 x16 x17 x18 x19 x20 x21 x22 x23 x24 x25 x26 x27 x28) (View.ld x15 r1_2) (View.ld x16 r1_2) (View.ld x17 r1_4) (View.ld x18 r1_5)) (k1_pay25 (k1_pay53 x0 x1 x2 x3 x4 x5 x6 x7 x8 x9 x10 x11 x12 x13 x14 x15 x16 x17 x18 x19 x20 x21 x22 x23 x24 x25 x26 x27 x28) (k1_pay54 x0 x1 x2 x3 x4 x5 x6 x7 x8 x9 x10 x11 x12 x13 x14 x15 x16 x17 x18 x19 x20 x21 x22 x23 x24 x25 x26 x27 x28) (k1_pay55 x0 x1 x2 x3 x4 x5 x6 x7 x8 x9 x10 x11 x12 x13 x14 x15 x16 x17 x18 x19 x20 x21 x22 x23 x24 x25 x26 x27 x28) (View.ld x15 r1_2) (View.ld x16 r1_2) (View.ld x17 r1_4) (View.ld x18 r1_5)) (constant S512x512 .f32 0x00000000#32) -- `v329`
def k1_pay59 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x64 .f32 :=
  k1_pay27 (k1_pay49 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28) -- `v351`
def k1_pay60 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x64 .f32 :=
  k1_pay31 (k1_pay28 (k1_pay57 x0 x1 x2 x3 x4 x5 x6 x7 x8 x9 x10 x11 x12 x13 x14 x15 x16 x17 x18 x19 x20 x21 x22 x23 x24 x25 x26 x27 x28)) (k1_pay29 (k1_pay49 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28)) (k1_pay30 (k1_pay49 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28)) -- `v373`
def k1_pay61 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x64 .f32 :=
  k1_pay32 (k1_pay49 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28) -- `v395`
def k1_pay62 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x64 .f32 :=
  k1_pay36 (k1_pay33 (k1_pay57 x0 x1 x2 x3 x4 x5 x6 x7 x8 x9 x10 x11 x12 x13 x14 x15 x16 x17 x18 x19 x20 x21 x22 x23 x24 x25 x26 x27 x28)) (k1_pay34 (k1_pay49 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28)) (k1_pay35 (k1_pay49 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28)) -- `v417`
def k1_pay63 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x64 .f32 :=
  k1_pay37 (k1_pay49 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28) -- `v439`
def k1_pay64 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x64 .f32 :=
  k1_pay38 (k1_pay49 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28) -- `v461`
def k1_pay65 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x64 .f32 :=
  k1_pay39 (k1_pay57 x0 x1 x2 x3 x4 x5 x6 x7 x8 x9 x10 x11 x12 x13 x14 x15 x16 x17 x18 x19 x20 x21 x22 x23 x24 x25 x26 x27 x28) -- `v462`
def k1_pay66 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x512 .f32 :=
  k1_pay40 (k1_pay49 x0 x1 x2 x3 x4 x5 x6 x7 x8 x9 x10 x11 x12 x13 x14 x15 x16 x17 x18 x19 x20 x21 x22 x23 x24 x25 x26 x27 x28) (k1_pay56 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28) (k1_pay58 x0 x1 x2 x3 x4 x5 x6 x7 x8 x9 x10 x11 x12 x13 x14 x15 x16 x17 x18 x19 x20 x21 x22 x23 x24 x25 x26 x27 x28) (k1_pay59 x0 x1 x2 x3 x4 x5 x6 x7 x8 x9 x10 x11 x12 x13 x14 x15 x16 x17 x18 x19 x20 x21 x22 x23 x24 x25 x26 x27 x28) (k1_pay60 x0 x1 x2 x3 x4 x5 x6 x7 x8 x9 x10 x11 x12 x13 x14 x15 x16 x17 x18 x19 x20 x21 x22 x23 x24 x25 x26 x27 x28) (k1_pay61 x0 x1 x2 x3 x4 x5 x6 x7 x8 x9 x10 x11 x12 x13 x14 x15 x16 x17 x18 x19 x20 x21 x22 x23 x24 x25 x26 x27 x28) (k1_pay62 x0 x1 x2 x3 x4 x5 x6 x7 x8 x9 x10 x11 x12 x13 x14 x15 x16 x17 x18 x19 x20 x21 x22 x23 x24 x25 x26 x27 x28) (k1_pay63 x0 x1 x2 x3 x4 x5 x6 x7 x8 x9 x10 x11 x12 x13 x14 x15 x16 x17 x18 x19 x20 x21 x22 x23 x24 x25 x26 x27 x28) (k1_pay64 x0 x1 x2 x3 x4 x5 x6 x7 x8 x9 x10 x11 x12 x13 x14 x15 x16 x17 x18 x19 x20 x21 x22 x23 x24 x25 x26 x27 x28) (k1_pay65 x0 x1 x2 x3 x4 x5 x6 x7 x8 x9 x10 x11 x12 x13 x14 x15 x16 x17 x18 x19 x20 x21 x22 x23 x24 x25 x26 x27 x28) (View.ld x19 r1_1) (View.ld x20 r1_2) -- `v493`
def k1_pay67 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S1x512 .f32 :=
  k1_pay41 (View.ld x25 r1_2) -- `v495`
def k1_pay68 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S1x512 .f32 :=
  k1_pay42 (View.ld x26 r1_2) -- `v497`
def k1_pay69 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512x1 .f32 :=
  k1_pay43 (k1_pay49 x0 x1 x2 x3 x4 x5 x6 x7 x8 x9 x10 x11 x12 x13 x14 x15 x16 x17 x18 x19 x20 x21 x22 x23 x24 x25 x26 x27 x28) (k1_pay56 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28) (k1_pay58 x0 x1 x2 x3 x4 x5 x6 x7 x8 x9 x10 x11 x12 x13 x14 x15 x16 x17 x18 x19 x20 x21 x22 x23 x24 x25 x26 x27 x28) (k1_pay59 x0 x1 x2 x3 x4 x5 x6 x7 x8 x9 x10 x11 x12 x13 x14 x15 x16 x17 x18 x19 x20 x21 x22 x23 x24 x25 x26 x27 x28) (k1_pay60 x0 x1 x2 x3 x4 x5 x6 x7 x8 x9 x10 x11 x12 x13 x14 x15 x16 x17 x18 x19 x20 x21 x22 x23 x24 x25 x26 x27 x28) (k1_pay61 x0 x1 x2 x3 x4 x5 x6 x7 x8 x9 x10 x11 x12 x13 x14 x15 x16 x17 x18 x19 x20 x21 x22 x23 x24 x25 x26 x27 x28) (k1_pay62 x0 x1 x2 x3 x4 x5 x6 x7 x8 x9 x10 x11 x12 x13 x14 x15 x16 x17 x18 x19 x20 x21 x22 x23 x24 x25 x26 x27 x28) (k1_pay63 x0 x1 x2 x3 x4 x5 x6 x7 x8 x9 x10 x11 x12 x13 x14 x15 x16 x17 x18 x19 x20 x21 x22 x23 x24 x25 x26 x27 x28) (k1_pay64 x0 x1 x2 x3 x4 x5 x6 x7 x8 x9 x10 x11 x12 x13 x14 x15 x16 x17 x18 x19 x20 x21 x22 x23 x24 x25 x26 x27 x28) (k1_pay65 x0 x1 x2 x3 x4 x5 x6 x7 x8 x9 x10 x11 x12 x13 x14 x15 x16 x17 x18 x19 x20 x21 x22 x23 x24 x25 x26 x27 x28) (View.ld x19 r1_1) (View.ld x20 r1_2) -- `v501`
def k1_pay70 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : FVec F S512 .f32 :=
  k1_pay44 (k1_pay49 x0 x1 x2 x3 x4 x5 x6 x7 x8 x9 x10 x11 x12 x13 x14 x15 x16 x17 x18 x19 x20 x21 x22 x23 x24 x25 x26 x27 x28) (k1_pay56 x0 x1 x2 x3 x4 x5 x6 x7 x8 x9 x10 x11 x12 x13 x14 x15 x16 x17 x18 x19 x20 x21 x22 x23 x24 x25 x26 x27 x28) (k1_pay57 x0 x1 x2 x3 x4 x5 x6 x7 x8 x9 x10 x11 x12 x13 x14 x15 x16 x17 x18 x19 x20 x21 x22 x23 x24 x25 x26 x27 x28) (k1_pay58 x0 x1 x2 x3 x4 x5 x6 x7 x8 x9 x10 x11 x12 x13 x14 x15 x16 x17 x18 x19 x20 x21 x22 x23 x24 x25 x26 x27 x28) (k1_pay59 x0 x1 x2 x3 x4 x5 x6 x7 x8 x9 x10 x11 x12 x13 x14 x15 x16 x17 x18 x19 x20 x21 x22 x23 x24 x25 x26 x27 x28) (k1_pay60 x0 x1 x2 x3 x4 x5 x6 x7 x8 x9 x10 x11 x12 x13 x14 x15 x16 x17 x18 x19 x20 x21 x22 x23 x24 x25 x26 x27 x28) (k1_pay61 x0 x1 x2 x3 x4 x5 x6 x7 x8 x9 x10 x11 x12 x13 x14 x15 x16 x17 x18 x19 x20 x21 x22 x23 x24 x25 x26 x27 x28) (k1_pay62 x0 x1 x2 x3 x4 x5 x6 x7 x8 x9 x10 x11 x12 x13 x14 x15 x16 x17 x18 x19 x20 x21 x22 x23 x24 x25 x26 x27 x28) (k1_pay63 x0 x1 x2 x3 x4 x5 x6 x7 x8 x9 x10 x11 x12 x13 x14 x15 x16 x17 x18 x19 x20 x21 x22 x23 x24 x25 x26 x27 x28) (k1_pay64 x0 x1 x2 x3 x4 x5 x6 x7 x8 x9 x10 x11 x12 x13 x14 x15 x16 x17 x18 x19 x20 x21 x22 x23 x24 x25 x26 x27 x28) (k1_pay65 x0 x1 x2 x3 x4 x5 x6 x7 x8 x9 x10 x11 x12 x13 x14 x15 x16 x17 x18 x19 x20 x21 x22 x23 x24 x25 x26 x27 x28) (View.ld x19 r1_1) (View.ld x20 r1_2) -- `v505`

/-- Window 29's staging buffer after the body, from the input windows' blocks: its 1 store as pieces, LAST
    FIRST (Lib/Pipeline/FrameBody.lean `View.canon`; the payloads are the skeleton's and the values stated above). -/
def out1_29 (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) : Vec F S1x512x512 .f32 :=
  View.canon [⟨r1_0, k1_pay1 (k1_pay45 (k1_pay66 x0 x1 x2 x3 x4 x5 x6 x7 x8 x9 x10 x11 x12 x13 x14 x15 x16 x17 x18 x19 x20 x21 x22 x23 x24 x25 x26 x27 x28) (k1_pay67 x0 x1 x2 x3 x4 x5 x6 x7 x8 x9 x10 x11 x12 x13 x14 x15 x16 x17 x18 x19 x20 x21 x22 x23 x24 x25 x26 x27 x28) (k1_pay68 x0 x1 x2 x3 x4 x5 x6 x7 x8 x9 x10 x11 x12 x13 x14 x15 x16 x17 x18 x19 x20 x21 x22 x23 x24 x25 x26 x27 x28) (k1_pay69 x0 x1 x2 x3 x4 x5 x6 x7 x8 x9 x10 x11 x12 x13 x14 x15 x16 x17 x18 x19 x20 x21 x22 x23 x24 x25 x26 x27 x28) (k1_pay70 x0 x1 x2 x3 x4 x5 x6 x7 x8 x9 x10 x11 x12 x13 x14 x15 x16 x17 x18 x19 x20 x21 x22 x23 x24 x25 x26 x27 x28) (View.ld x21 r1_6) (View.ld x22 r1_7) (View.ld x23 r1_8) (View.ld x24 r1_2)) (k1_pay46 (View.ld x27 r1_2)) (k1_pay47 (View.ld x28 r1_2)) (k1_pay48 (k1_pay66 x0 x1 x2 x3 x4 x5 x6 x7 x8 x9 x10 x11 x12 x13 x14 x15 x16 x17 x18 x19 x20 x21 x22 x23 x24 x25 x26 x27 x28) (k1_pay67 x0 x1 x2 x3 x4 x5 x6 x7 x8 x9 x10 x11 x12 x13 x14 x15 x16 x17 x18 x19 x20 x21 x22 x23 x24 x25 x26 x27 x28) (k1_pay68 x0 x1 x2 x3 x4 x5 x6 x7 x8 x9 x10 x11 x12 x13 x14 x15 x16 x17 x18 x19 x20 x21 x22 x23 x24 x25 x26 x27 x28) (k1_pay69 x0 x1 x2 x3 x4 x5 x6 x7 x8 x9 x10 x11 x12 x13 x14 x15 x16 x17 x18 x19 x20 x21 x22 x23 x24 x25 x26 x27 x28) (k1_pay70 x0 x1 x2 x3 x4 x5 x6 x7 x8 x9 x10 x11 x12 x13 x14 x15 x16 x17 x18 x19 x20 x21 x22 x23 x24 x25 x26 x27 x28) (View.ld x21 r1_6) (View.ld x22 r1_7) (View.ld x23 r1_8) (View.ld x24 r1_2))⟩]

/-- Its stores tile the buffer (checked by evaluation), so they cover it. -/
theorem cover1_29 (p0 : Vec F S1x512x512 .f32) (y : S1x512x512.Idx) :
    ∃ pc ∈ ([⟨r1_0, p0⟩] : List (View.Piece (Elt F) S1x512x512 .f32)), y ∈ pc.1.set :=
  View.cover_of_tiled [⟨r1_0, p0⟩] S1x512x512.size (by rfl) y

/-! ## The body's triple -/

set_option maxHeartbeats 19300950 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1x512x512 .f32) (harg1 : arg1.IsWhole) (arg2 : Memref sig .tc .vmem S1x1x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x1536 .bf16) (harg6 : arg6.IsWhole) (arg7 : Memref sig .tc .vmem S1x1536 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S2048x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x1536 .bf16) (harg18 : arg18.IsWhole) (arg19 : Memref sig .tc .vmem S1x1536 .f32) (harg19 : arg19.IsWhole) (arg20 : Memref sig .tc .vmem S512x512 .bf16) (harg20 : arg20.IsWhole) (arg21 : Memref sig .tc .vmem S1x512 .f32) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S2048x512 .bf16) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x512x512 .f32) (harg30 : arg30.IsWhole)
    (x0 : Vec F S1x512x512 .f32) (x1 : Vec F S1x1x512 .f32) (x2 : Vec F S512x512 .f32) (x3 : Vec F S1x512 .f32) (x4 : Vec F S1x512 .f32) (x5 : Vec F S512x1536 .bf16) (x6 : Vec F S1x1536 .f32) (x7 : Vec F S512x512 .bf16) (x8 : Vec F S1x512 .f32) (x9 : Vec F S512x2048 .bf16) (x10 : Vec F S1x2048 .f32) (x11 : Vec F S2048x512 .bf16) (x12 : Vec F S1x512 .f32) (x13 : Vec F S1x512 .f32) (x14 : Vec F S1x512 .f32) (x15 : Vec F S1x512 .f32) (x16 : Vec F S1x512 .f32) (x17 : Vec F S512x1536 .bf16) (x18 : Vec F S1x1536 .f32) (x19 : Vec F S512x512 .bf16) (x20 : Vec F S1x512 .f32) (x21 : Vec F S512x2048 .bf16) (x22 : Vec F S1x2048 .f32) (x23 : Vec F S2048x512 .bf16) (x24 : Vec F S1x512 .f32) (x25 : Vec F S1x512 .f32) (x26 : Vec F S1x512 .f32) (x27 : Vec F S1x512 .f32) (x28 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare (out1_29 x0 x1 x2 x3 x4 x5 x6 x7 x8 x9 x10 x11 x12 x13 x14 x15 x16 x17 x18 x19 x20 x21 x22 x23 x24 x25 x26 x27 x28)) -∗ K ⟨⟩))
      ⊢ wp frame (wpE (defs₀ (F := F)) Variants.none c none) E (cc1_encoder_s512 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc1_encoder_s512_eq_skeleton]; unfold cc1_encoder_s512_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  iexists _; isplitr
  swap; · iexact H29
  ipureintro
  refine (View.read_writes_eq_canon _ _ _ (cover1_29 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => iblk1 V c 26 t
    | ⟨27, _⟩ => iblk1 V c 27 t
    | ⟨28, _⟩ => iblk1 V c 28 t
    | ⟨29, _⟩ => out1_29 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) (iblk1 V c 28 t)
    | ⟨_ + 30, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = iblk1 V c 25 t := by dsimp only [dat1]
theorem after1_26 (c : Dev nD) (t : Fin cfg1.N) : (dat1 V c).after 26 t = iblk1 V c 26 t := by dsimp only [dat1]
theorem after1_27 (c : Dev nD) (t : Fin cfg1.N) : (dat1 V c).after 27 t = iblk1 V c 27 t := by dsimp only [dat1]
theorem after1_28 (c : Dev nD) (t : Fin cfg1.N) : (dat1 V c).after 28 t = iblk1 V c 28 t := by dsimp only [dat1]
theorem after1_29 (c : Dev nD) (t : Fin cfg1.N) : (dat1 V c).after 29 t = out1_29 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) (iblk1 V c 28 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d
theorem before1_25 (c : Dev nD) (t : Fin cfg1.N) (d) : (dat1 V c).before 25 t d = iblk1 V c 25 t :=
  before1_25_of V (dat1 V c) (A_eq1 V c 25) (after1_25 V c) t d
theorem before1_26 (c : Dev nD) (t : Fin cfg1.N) (d) : (dat1 V c).before 26 t d = iblk1 V c 26 t :=
  before1_26_of V (dat1 V c) (A_eq1 V c 26) (after1_26 V c) t d
theorem before1_27 (c : Dev nD) (t : Fin cfg1.N) (d) : (dat1 V c).before 27 t d = iblk1 V c 27 t :=
  before1_27_of V (dat1 V c) (A_eq1 V c 27) (after1_27 V c) t d
theorem before1_28 (c : Dev nD) (t : Fin cfg1.N) (d) : (dat1 V c).before 28 t d = iblk1 V c 28 t :=
  before1_28_of V (dat1 V c) (A_eq1 V c 28) (after1_28 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d))
    ∗ (∃ d, owns (c : Thread nD τ) (st1_27 t) fullShare ((dat1 V c).before 27 t d))
    ∗ (∃ d, owns (c : Thread nD τ) (st1_28 t) fullShare ((dat1 V c).before 28 t d))
    ∗ (∃ d, owns (c : Thread nD τ) (st1_29 t) fullShare ((dat1 V c).before 29 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t)
    ∗ owns (c : Thread nD τ) (st1_27 t) fullShare ((dat1 V c).after 27 t)
    ∗ owns (c : Thread nD τ) (st1_28 t) fullShare ((dat1 V c).after 28 t)
    ∗ owns (c : Thread nD τ) (st1_29 t) fullShare ((dat1 V c).after 29 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25, before1_26, before1_27, before1_28]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28, after1_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel1 c Set.univ (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) (iblk1 V c 28 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.Fold.lean ====
/-
  What the buffers hold at each boundary of the program, from the launch to the end.
-/
module

public import proofs.«01_k».proof.Proof.KernelIdeal.Region0
public import proofs.«01_k».proof.Proof.KernelIdeal.Region1
public import proofs.«01_k».proof.Proof.Gen.KernelIdeal.Frame.Region2
public import proofs.«01_k».proof.Proof.Gen.KernelIdeal.Frame.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8` (region 0's entry). -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- The same read at the TensorCore's references (what region 0's proof data take). -/
abbrev V9 : (c : Dev nD) → (b : Ref sig .tc) → Buf (Elt F) ((c : Thread nD τ).loc b) := fun c b => W9 m ρ c b
/-- At region 0's exit: its arrays at what the pipeline leaves (the inputs as entered, each output's write-backs
    folded: `Dat.arrAt … N`), every other buffer as entered (Lib/Pipeline/FrameSuffix.lean `withArrays`) (region 1's entry). -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
/-- A reference that is none of region 0's OUTPUT arrays keeps its entry contents across it: an input window's
    array is never written back (`Dat.arrAt_in`, `A_eq0`); any other buffer is left as is. -/
theorem W10_of (c : Dev nD) (r : Ref sig .tc) (h : ∀ w : Fin cfg0.W, Pipeline.arrRef spec0 w = r → (cfg0.win w).isOut = false) :
    W10 m ρ c (Proc.devRef .tc r) = W9 m ρ c (Proc.devRef .tc r) := by
  by_cases hw : ∃ w : Fin cfg0.W, Pipeline.arrRef spec0 w = r
  · obtain ⟨w, rfl⟩ := hw
    exact (W10_arr m ρ c w).trans (((dat0 (V9 m ρ) c).arrAt_in w (h w rfl) _).trans (A_eq0 (V9 m ρ) c w))
  · exact W10_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn0 a ha)).trans (W9_args m ρ c a ha)
/-- The same read at the TensorCore's references (region 0's exit contents). -/
abbrev V10 : (c : Dev nD) → (b : Ref sig .tc) → Buf (Elt F) ((c : Thread nD τ).loc b) := fun c b => W10 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W11 (c : Dev nD) : Valuation τ sig (Elt F) :=
  Pipeline.withArrays spec1 c (W10 m ρ c) fun w => (dat1 (V10 m ρ) c).arrAt w cfg1.N
theorem W11_arr (c : Dev nD) (w : Fin cfg1.W) :
    W11 m ρ c (Proc.devRef .tc (Pipeline.arrRef spec1 w)) = (dat1 (V10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
/-- A reference that is none of region 1's OUTPUT arrays keeps its entry contents across it: an input window's
    array is never written back (`Dat.arrAt_in`, `A_eq1`); any other buffer is left as is. -/
theorem W11_of (c : Dev nD) (r : Ref sig .tc) (h : ∀ w : Fin cfg1.W, Pipeline.arrRef spec1 w = r → (cfg1.win w).isOut = false) :
    W11 m ρ c (Proc.devRef .tc r) = W10 m ρ c (Proc.devRef .tc r) := by
  by_cases hw : ∃ w : Fin cfg1.W, Pipeline.arrRef spec1 w = r
  · obtain ⟨w, rfl⟩ := hw
    exact (W11_arr m ρ c w).trans (((dat1 (V10 m ρ) c).arrAt_in w (h w rfl) _).trans (A_eq1 (V10 m ρ) c w))
  · exact W11_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn1 a ha)).trans (W10_args m ρ c a ha)
/-- The same read at the TensorCore's references (region 1's exit contents). -/
abbrev V11 : (c : Dev nD) → (b : Ref sig .tc) → Buf (Elt F) ((c : Thread nD τ).loc b) := fun c b => W11 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V10 m ρ) c).arrAt w cfg1.N = V11 m ρ c (Pipeline.arrRef spec1 w) :=
  (W11_arr m ρ c w).symm
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- A reference that is none of region 2's OUTPUT arrays keeps its entry contents across it: an input window's
    array is never written back (`Dat.arrAt_in`, `A_eq2`); any other buffer is left as is. -/
theorem W12_of (c : Dev nD) (r : Ref sig .tc) (h : ∀ w : Fin cfg2.W, Pipeline.arrRef spec2 w = r → (cfg2.win w).isOut = false) :
    W12 m ρ c (Proc.devRef .tc r) = W11 m ρ c (Proc.devRef .tc r) := by
  by_cases hw : ∃ w : Fin cfg2.W, Pipeline.arrRef spec2 w = r
  · obtain ⟨w, rfl⟩ := hw
    exact (W12_arr m ρ c w).trans (((dat2 (V11 m ρ) c).arrAt_in w (h w rfl) _).trans (A_eq2 (V11 m ρ) c w))
  · exact W12_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn2 a ha)).trans (W11_args m ρ c a ha)
/-- The same read at the TensorCore's references (region 2's exit contents). -/
abbrev V12 : (c : Dev nD) → (b : Ref sig .tc) → Buf (Elt F) ((c : Thread nD τ).loc b) := fun c b => W12 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

/-- After `hostOps3`. -/
abbrev W13 : Dev nD → Valuation τ sig (Elt F) := fun c => StableHlo.after hostOps3 (W12 m ρ c)
/-- A reference `hostOps3` does not write keeps its contents across it. -/
theorem W13_of (c : Dev nD) (r : Ref sig .tc) (h : r ∉ hostOps3_W) : W13 m ρ c (Proc.devRef .tc r) = W12 m ρ c (Proc.devRef .tc r) :=
  StableHlo.after_of_writes_sub hostOps3 _ hostOps3_writes h
theorem W13_args (c : Dev nD) : ∀ a ∈ argRefs, W13 m ρ c (Proc.devRef .tc a) = m ((c : Thread nD τ).loc a) :=
  fun a ha => (W13_of m ρ c a (hostOps3_args a ha)).trans (W12_args m ρ c a ha)

/-! ### The arguments end as launched: no host stretch writes one and no region may change one (a region reads it
    through an input window or bypasses it) -/

theorem W13_main_arg0 (c : Dev nD) : W13 m ρ c (Proc.devRef .tc main_arg0) = m ((c : Thread nD τ).loc main_arg0) :=
  W13_args m ρ c main_arg0 (by decide)
theorem W13_main_arg1 (c : Dev nD) : W13 m ρ c (Proc.devRef .tc main_arg1) = m ((c : Thread nD τ).loc main_arg1) :=
  W13_args m ρ c main_arg1 (by decide)
theorem W13_main_arg2 (c : Dev nD) : W13 m ρ c (Proc.devRef .tc main_arg2) = m ((c : Thread nD τ).loc main_arg2) :=
  W13_args m ρ c main_arg2 (by decide)
theorem W13_main_arg3 (c : Dev nD) : W13 m ρ c (Proc.devRef .tc main_arg3) = m ((c : Thread nD τ).loc main_arg3) :=
  W13_args m ρ c main_arg3 (by decide)
theorem W13_main_arg4 (c : Dev nD) : W13 m ρ c (Proc.devRef .tc main_arg4) = m ((c : Thread nD τ).loc main_arg4) :=
  W13_args m ρ c main_arg4 (by decide)
theorem W13_main_arg5 (c : Dev nD) : W13 m ρ c (Proc.devRef .tc main_arg5) = m ((c : Thread nD τ).loc main_arg5) :=
  W13_args m ρ c main_arg5 (by decide)
theorem W13_main_arg6 (c : Dev nD) : W13 m ρ c (Proc.devRef .tc main_arg6) = m ((c : Thread nD τ).loc main_arg6) :=
  W13_args m ρ c main_arg6 (by decide)
theorem W13_main_arg7 (c : Dev nD) : W13 m ρ c (Proc.devRef .tc main_arg7) = m ((c : Thread nD τ).loc main_arg7) :=
  W13_args m ρ c main_arg7 (by decide)
theorem W13_main_arg8 (c : Dev nD) : W13 m ρ c (Proc.devRef .tc main_arg8) = m ((c : Thread nD τ).loc main_arg8) :=
  W13_args m ρ c main_arg8 (by decide)
theorem W13_main_arg9 (c : Dev nD) : W13 m ρ c (Proc.devRef .tc main_arg9) = m ((c : Thread nD τ).loc main_arg9) :=
  W13_args m ρ c main_arg9 (by decide)
theorem W13_main_arg10 (c : Dev nD) : W13 m ρ c (Proc.devRef .tc main_arg10) = m ((c : Thread nD τ).loc main_arg10) :=
  W13_args m ρ c main_arg10 (by decide)
theorem W13_main_arg11 (c : Dev nD) : W13 m ρ c (Proc.devRef .tc main_arg11) = m ((c : Thread nD τ).loc main_arg11) :=
  W13_args m ρ c main_arg11 (by decide)
theorem W13_main_arg12 (c : Dev nD) : W13 m ρ c (Proc.devRef .tc main_arg12) = m ((c : Thread nD τ).loc main_arg12) :=
  W13_args m ρ c main_arg12 (by decide)
theorem W13_main_arg13 (c : Dev nD) : W13 m ρ c (Proc.devRef .tc main_arg13) = m ((c : Thread nD τ).loc main_arg13) :=
  W13_args m ρ c main_arg13 (by decide)
theorem W13_main_arg14 (c : Dev nD) : W13 m ρ c (Proc.devRef .tc main_arg14) = m ((c : Thread nD τ).loc main_arg14) :=
  W13_args m ρ c main_arg14 (by decide)
theorem W13_main_arg15 (c : Dev nD) : W13 m ρ c (Proc.devRef .tc main_arg15) = m ((c : Thread nD τ).loc main_arg15) :=
  W13_args m ρ c main_arg15 (by decide)
theorem W13_main_arg16 (c : Dev nD) : W13 m ρ c (Proc.devRef .tc main_arg16) = m ((c : Thread nD τ).loc main_arg16) :=
  W13_args m ρ c main_arg16 (by decide)
theorem W13_main_arg17 (c : Dev nD) : W13 m ρ c (Proc.devRef .tc main_arg17) = m ((c : Thread nD τ).loc main_arg17) :=
  W13_args m ρ c main_arg17 (by decide)
theorem W13_main_arg18 (c : Dev nD) : W13 m ρ c (Proc.devRef .tc main_arg18) = m ((c : Thread nD τ).loc main_arg18) :=
  W13_args m ρ c main_arg18 (by decide)
theorem W13_main_arg19 (c : Dev nD) : W13 m ρ c (Proc.devRef .tc main_arg19) = m ((c : Thread nD τ).loc main_arg19) :=
  W13_args m ρ c main_arg19 (by decide)
theorem W13_main_arg20 (c : Dev nD) : W13 m ρ c (Proc.devRef .tc main_arg20) = m ((c : Thread nD τ).loc main_arg20) :=
  W13_args m ρ c main_arg20 (by decide)
theorem W13_main_arg21 (c : Dev nD) : W13 m ρ c (Proc.devRef .tc main_arg21) = m ((c : Thread nD τ).loc main_arg21) :=
  W13_args m ρ c main_arg21 (by decide)
end Cert.KernelIdeal.Gen

end
-- ==== Proof.KernelIdeal.State.lean ====
/-
  What the thread holds between the program's regions.
-/
module

public import proofs.«01_k».proof.Proof.KernelIdeal.Fold

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V10 m ρ) c
  | ⟨2, _⟩ => fun c => dat2 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W13`, the generator register at some state. -/
abbrev Tₙ (c : Dev nD) : sProp 𝕄 := iprop(StableHlo.held (c : Thread nD τ) (Pipeline.ucRefs τ sig) (W13 m ρ c) ∗ ∃ r, prngReg c r)

end Cert.KernelIdeal.Gen

end
-- ==== Proof.KernelIdeal.Record.lean ====
/-
  The three regions as segments of the program.
-/
module

public import proofs.«01_k».proof.Proof.KernelIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- REGION 0 (custom_call 0) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) (A_eq0 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) (A_eq1 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) (A_eq2 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Frame.lean ====
/-
  The program as segments, and its frame.
-/
module

public import proofs.«01_k».proof.Proof.KernelIdeal.Record

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .region (reg1 m ρ),
    .region (reg2 m ρ),
    .host (hseg hostOps3 hostOps3_sub hostOps3_fresh (W12 m ρ)) ]
/-- @main IS the run of the segments: `Gen.main_chain`, then the segments' run is that chain (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- At the compiled mesh, from any memory with zero counters, every weakly fair execution of @main terminates with every
    unscoped buffer at the last boundary's contents and every counter at zero: the launch over the segments, the last
    thread state read against the final state. -/
theorem ends : θ_run defs (onTc (τ := τ) (main (F := F))) ⟨m, fun _ => 0, ρ⟩ (fun r => (∀ c : Dev nD,
      ∀ b ∈ Pipeline.ucRefs τ sig, r.2.mem (((c : Thread nD τ)).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- The frame: every execution terminates, nothing faulting, with the argument arrays as launched and every semaphore
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun r h => ⟨fun c =>
      ⟨(h.1 c _ (mem_uc main_arg0 (by decide))).trans (W13_main_arg0 m ρ c),
       (h.1 c _ (mem_uc main_arg1 (by decide))).trans (W13_main_arg1 m ρ c),
       (h.1 c _ (mem_uc main_arg2 (by decide))).trans (W13_main_arg2 m ρ c),
       (h.1 c _ (mem_uc main_arg3 (by decide))).trans (W13_main_arg3 m ρ c),
       (h.1 c _ (mem_uc main_arg4 (by decide))).trans (W13_main_arg4 m ρ c),
       (h.1 c _ (mem_uc main_arg5 (by decide))).trans (W13_main_arg5 m ρ c),
       (h.1 c _ (mem_uc main_arg6 (by decide))).trans (W13_main_arg6 m ρ c),
       (h.1 c _ (mem_uc main_arg7 (by decide))).trans (W13_main_arg7 m ρ c),
       (h.1 c _ (mem_uc main_arg8 (by decide))).trans (W13_main_arg8 m ρ c),
       (h.1 c _ (mem_uc main_arg9 (by decide))).trans (W13_main_arg9 m ρ c),
       (h.1 c _ (mem_uc main_arg10 (by decide))).trans (W13_main_arg10 m ρ c),
       (h.1 c _ (mem_uc main_arg11 (by decide))).trans (W13_main_arg11 m ρ c),
       (h.1 c _ (mem_uc main_arg12 (by decide))).trans (W13_main_arg12 m ρ c),
       (h.1 c _ (mem_uc main_arg13 (by decide))).trans (W13_main_arg13 m ρ c),
       (h.1 c _ (mem_uc main_arg14 (by decide))).trans (W13_main_arg14 m ρ c),
       (h.1 c _ (mem_uc main_arg15 (by decide))).trans (W13_main_arg15 m ρ c),
       (h.1 c _ (mem_uc main_arg16 (by decide))).trans (W13_main_arg16 m ρ c),
       (h.1 c _ (mem_uc main_arg17 (by decide))).trans (W13_main_arg17 m ρ c),
       (h.1 c _ (mem_uc main_arg18 (by decide))).trans (W13_main_arg18 m ρ c),
       (h.1 c _ (mem_uc main_arg19 (by decide))).trans (W13_main_arg19 m ρ c),
       (h.1 c _ (mem_uc main_arg20 (by decide))).trans (W13_main_arg20 m ρ c),
       (h.1 c _ (mem_uc main_arg21 (by decide))).trans (W13_main_arg21 m ρ c)⟩, h.2⟩) (ends m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h => h.1) (frame m ρ)

end Cert.KernelIdeal.Gen

end
-- ==== Proof.Frames.lean ====
/-
  The frames of the three programs, and the named constants.
-/
module

public import proofs.«01_k».proof.Defs
public import proofs.«01_k».proof.Proof.Gen.Kernel
public import proofs.«01_k».proof.Proof.Kernel.Frame
public import proofs.«01_k».proof.Proof.Gen.KernelIdeal
public import proofs.«01_k».proof.Proof.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

/-- The printed program's frame. -/
theorem frame_kernel : Cert.quiescent_Kernel := fun m ρ _ => Cert.Kernel.Gen.frame m ρ

/-- The frame of the program over the extended reals. -/
theorem frame_ideal : Cert.quiescent_KernelIdeal := fun m ρ _ => Cert.KernelIdeal.Gen.frame m ρ

/-- The reference's frame: no operation writes an argument, and it declares no semaphore. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The three named constants. -/
theorem named : Cert.preserves_Kernel_KernelIdeal :=
  ⟨IdealRules.named_const.statement Cert.KernelIdeal.κ "mask" .f32 0xCEEE6B28#32 ⊥ rfl,
   IdealRules.named_const.statement Cert.KernelIdeal.κ "narrow" .f32 0xC8F42400#32 ((-4398046511104 / 8796093 : ℝ) : EReal) rfl,
   IdealRules.named_const.statement Cert.KernelIdeal.κ "wide" .f32 0xC2480000#32 ((-268435456 / 5368709 : ℝ) : EReal) rfl⟩

end Cert.Proof

end
-- ==== Proof.Spec.lean ====
/-
  The mathematics of one encoder layer, on plain functions.
-/
module

public import Idealize.ShloMosaic.Lib.Pointwise

@[expose] public section

noncomputable section

namespace Cert.Proof.Spec

open Idealize.ShloMosaic

/-- The width of a row, 512. -/
def width : EReal := Ideal.ofBits .f32 0x44000000#32

/-- What layer normalisation adds to the variance. -/
def small : EReal := Ideal.ofBits .f32 0x3727C5AC#32

/-- The scale of the queries, one eighth. -/
def eighth : EReal := Ideal.ofBits .f32 0x3E000000#32

/-- The mean of a row. -/
def mean (x : Fin 512 → EReal) : EReal := Ideal.div (∑ k, x k) width

/-- Layer normalisation of a row. -/
def norm (x g b : Fin 512 → EReal) (j : Fin 512) : EReal :=
  Ideal.div (x j - mean x) (Ideal.sqrt (mean (fun k => (x k - mean x) * (x k - mean x)) + small)) * g j + b j

/-- A row through a matrix, plus a vector. -/
def lin {K N : ℕ} (x : Fin K → EReal) (w : Fin K → Fin N → EReal) (b : Fin N → EReal) (j : Fin N) : EReal :=
  (∑ k, x k * w k j) + b j

/-- The values `v` weighted by the softmax of the scores `s`. -/
def att {ι : Type} [Fintype ι] (s v : ι → EReal) : EReal :=
  ∑ k, Ideal.div (Ideal.exp (s k - Finset.univ.fold max ⊥ s))
    (∑ l, Ideal.exp (s l - Finset.univ.fold max ⊥ s)) * v k

/-- The score of the key row `k` for the query row `i`, the head's columns starting at `oq` and `ok`. -/
def score {ι : Type} (Y : ι → Fin 1536 → EReal) (bias : ι → ι → EReal) (oq ok : ℕ) (hq : oq ≤ 1472) (hk : ok ≤ 1472)
    (i k : ι) : EReal :=
  (∑ d : Fin 64, Y i ⟨oq + d, by omega⟩ * eighth * Y k ⟨ok + d, by omega⟩) + bias i k

/-- One head of the attention. -/
def head {ι : Type} [Fintype ι] (Y : ι → Fin 1536 → EReal) (bias : ι → ι → EReal) (oq ok ov : ℕ) (hq : oq ≤ 1472)
    (hk : ok ≤ 1472) (hv : ov ≤ 1472) (i : ι) (e : Fin 64) : EReal :=
  att (score Y bias oq ok hq hk i) (fun k => Y k ⟨ov + e, by omega⟩)

/-- The eight heads side by side. -/
def heads {ι : Type} [Fintype ι] (Y : ι → Fin 1536 → EReal) (bias : ι → ι → EReal) (i : ι) (j : Fin 512) : EReal :=
  head Y bias (64 * (j / 64)) (512 + 64 * (j / 64)) (1024 + 64 * (j / 64)) (by omega) (by omega) (by omega) i
    ⟨j % 64, by omega⟩

theorem head_congr {ι : Type} [Fintype ι] {Y : ι → Fin 1536 → EReal} {bias : ι → ι → EReal} {oq ok ov oq' ok' ov' : ℕ}
    {hq : oq ≤ 1472} {hk : ok ≤ 1472} {hv : ov ≤ 1472} {hq' : oq' ≤ 1472} {hk' : ok' ≤ 1472} {hv' : ov' ≤ 1472} {i : ι}
    {e e' : Fin 64} (h1 : oq = oq') (h2 : ok = ok') (h3 : ov = ov') (h4 : e.val = e'.val) :
    head Y bias oq ok ov hq hk hv i e = head Y bias oq' ok' ov' hq' hk' hv' i e' := by
  subst h1 h2 h3; rw [Fin.ext h4]

/-- The parameters of one layer. -/
structure Par where
  iw : Fin 512 → Fin 1536 → EReal
  ib : Fin 1536 → EReal
  ow : Fin 512 → Fin 512 → EReal
  ob : Fin 512 → EReal
  fw : Fin 512 → Fin 2048 → EReal
  fb : Fin 2048 → EReal
  hw : Fin 2048 → Fin 512 → EReal
  hb : Fin 512 → EReal
  g1 : Fin 512 → EReal
  b1 : Fin 512 → EReal
  g2 : Fin 512 → EReal
  b2 : Fin 512 → EReal

/-- The rows after the attention, its residual and the first normalisation. -/
def mid {ι : Type} [Fintype ι] (P : Par) (bias : ι → ι → EReal) (X : ι → Fin 512 → EReal) (i : ι) : Fin 512 → EReal :=
  norm (fun j => X i j + lin (heads (fun k => lin (X k) P.iw P.ib) bias i) P.ow P.ob j) P.g1 P.b1

/-- The feed-forward part of a row, its residual and the second normalisation. -/
def feed (P : Par) (x : Fin 512 → EReal) : Fin 512 → EReal :=
  norm (fun j => x j + lin (fun k => max (lin x P.fw P.fb k) 0) P.hw P.hb j) P.g2 P.b2

/-- One layer. -/
def layer {ι : Type} [Fintype ι] (P : Par) (bias : ι → ι → EReal) (X : ι → Fin 512 → EReal) (i : ι) : Fin 512 → EReal :=
  feed P (mid P bias X i)

/-- The parameters of both encoders, as the argument arrays hold them. -/
structure Weights where
  pos : (⟨3, ![1, 512, 512]⟩ : Shape).Idx → EReal
  g : (⟨1, ![512]⟩ : Shape).Idx → EReal
  b : (⟨1, ![512]⟩ : Shape).Idx → EReal
  iw : (⟨3, ![2, 1536, 512]⟩ : Shape).Idx → EReal
  ib : (⟨2, ![2, 1536]⟩ : Shape).Idx → EReal
  ow : (⟨3, ![2, 512, 512]⟩ : Shape).Idx → EReal
  ob : (⟨2, ![2, 512]⟩ : Shape).Idx → EReal
  fw : (⟨3, ![2, 2048, 512]⟩ : Shape).Idx → EReal
  fb : (⟨2, ![2, 2048]⟩ : Shape).Idx → EReal
  hw : (⟨3, ![2, 512, 2048]⟩ : Shape).Idx → EReal
  hb : (⟨2, ![2, 512]⟩ : Shape).Idx → EReal
  g1 : (⟨2, ![2, 512]⟩ : Shape).Idx → EReal
  b1 : (⟨2, ![2, 512]⟩ : Shape).Idx → EReal
  g2 : (⟨2, ![2, 512]⟩ : Shape).Idx → EReal
  b2 : (⟨2, ![2, 512]⟩ : Shape).Idx → EReal

namespace Weights

variable (W : Weights)

/-- The parameters of layer `l`. -/
def par (l : Fin 2) : Par where
  iw k j := W.iw (ix3 l j k)
  ib j := W.ib (ix2 l j)
  ow k j := W.ow (ix3 l j k)
  ob j := W.ob (ix2 l j)
  fw k j := W.fw (ix3 l j k)
  fb j := W.fb (ix2 l j)
  hw k j := W.hw (ix3 l j k)
  hb j := W.hb (ix2 l j)
  g1 j := W.g1 (ix2 l j)
  b1 j := W.b1 (ix2 l j)
  g2 j := W.g2 (ix2 l j)
  b2 j := W.b2 (ix2 l j)

/-- A row at position `p`, before the layers. -/
def first (p : Fin 512) (x : Fin 512 → EReal) : Fin 512 → EReal :=
  norm (fun k => x k + W.pos (ix3 0 p k)) (fun k => W.g (ix1 k)) (fun k => W.b (ix1 k))

/-- The encoder: the rows `X` at the positions `p`. -/
def encode {ι : Type} [Fintype ι] (bias : ι → ι → EReal) (p : ι → Fin 512) (X : ι → Fin 512 → EReal) :
    ι → Fin 512 → EReal :=
  layer (W.par 1) bias (layer (W.par 0) bias (fun i => W.first (p i) (X i)))

end Weights

/-- The bias of a key, from its mask. -/
def keyBias (m : EReal) : EReal := if 0 < m then 0 else Ideal.ofBits .f32 0xCE6E6B28#32

/-- A row over its length. -/
def unit (x : Fin 512 → EReal) (k : Fin 512) : EReal :=
  Ideal.div (x k) (Ideal.sqrt (∑ l, x l * x l) + Ideal.ofBits .f32 0x29E12E13#32)

/-- The cosine of two rows. -/
def cosine (x y : Fin 512 → EReal) : EReal := ∑ k, unit x k * unit y k

/-- One bin of the soft histogram of the cosines `c`: centre `μ`, factor `w`. -/
def bin (μ w : EReal) (c cm : Fin 512 → EReal) : EReal := ∑ j, Ideal.exp ((c j - μ) * (c j - μ) * w) * cm j

/-- The centres. -/
def centre : Fin 11 → EReal :=
  ![1, Ideal.ofBits .f32 0x3F666666#32, Ideal.ofBits .f32 0x3F333333#32,
    Ideal.ofBits .f32 0x3F000000#32, Ideal.ofBits .f32 0x3E99999A#32, Ideal.ofBits .f32 0x3DCCCCCD#32,
    Ideal.ofBits .f32 0xBDCCCCCD#32, Ideal.ofBits .f32 0xBE99999A#32, Ideal.ofBits .f32 0xBF000000#32,
    Ideal.ofBits .f32 0xBF333333#32, Ideal.ofBits .f32 0xBF666666#32]

/-- The factor of a bin, from that of the first and that of the others. -/
def factor (n w : EReal) (k : Fin 11) : EReal := if k = 0 then n else w

/-- The weighted logarithms of the bins. -/
def total (n w : EReal) (c : Fin 32 → Fin 512 → EReal) (cm : Fin 512 → EReal) (wq : Fin 32 → Fin 11 → EReal) : EReal :=
  ∑ i, ∑ k, Ideal.log (max (bin (centre k) (factor n w k) (c i) cm) (Ideal.ofBits .f32 0x2EDBE6FF#32)) * wq i k

end Cert.Proof.Spec

end
-- ==== Proof.Block.lean ====
/-
  One encoder layer as the kernels compute it, on `n` rows of 512.
-/
module

public import proofs.«01_k».proof.Proof.Spec

@[expose] public section

set_option maxRecDepth 16384

noncomputable section

namespace Cert.Proof.Block

open Idealize.ShloMosaic

/-- The side conditions of a layer's operations at `n` rows. -/
class Rows (n : ℕ) : Prop where
  redE : (⟨2, ![n, 512]⟩ : Shape).Reduces [1] ⟨1, ![n]⟩
  redN : (⟨2, ![n, n]⟩ : Shape).Reduces [1] ⟨1, ![n]⟩
  col : (⟨1, ![n]⟩ : Shape).ShapeCasts ⟨2, ![n, 1]⟩
  colE : (⟨2, ![n, 1]⟩ : Shape).Broadcasts ⟨2, ![n, 512]⟩
  colN : (⟨2, ![n, 1]⟩ : Shape).Broadcasts ⟨2, ![n, n]⟩
  rowE : (⟨2, ![1, 512]⟩ : Shape).Broadcasts ⟨2, ![n, 512]⟩
  rowQ : (⟨2, ![1, 1536]⟩ : Shape).Broadcasts ⟨2, ![n, 1536]⟩
  rowF : (⟨2, ![1, 2048]⟩ : Shape).Broadcasts ⟨2, ![n, 2048]⟩
  cut : ∀ o : ℕ, o ≤ 1472 → (⟨2, ![n, 1536]⟩ : Shape).Slices ![0, o] ⟨2, ![n, 64]⟩
  cat : Shape.Concatenates [⟨2, ![n, 64]⟩, ⟨2, ![n, 64]⟩, ⟨2, ![n, 64]⟩, ⟨2, ![n, 64]⟩, ⟨2, ![n, 64]⟩, ⟨2, ![n, 64]⟩,
    ⟨2, ![n, 64]⟩, ⟨2, ![n, 64]⟩] (⟨2, ![n, 512]⟩ : Shape) 1

open Rows

variable {F : FTy → Type} [FloatOps F] {n : ℕ} [Rows n]

/-- Layer normalisation of the rows. -/
def norm (x : FVec F ⟨2, ![n, 512]⟩ .f32) (g b : FVec F ⟨2, ![1, 512]⟩ .f32) : FVec F ⟨2, ![n, 512]⟩ .f32 :=
  have m : FVec F ⟨2, ![n, 1]⟩ .f32 :=
    divf (shapeCast ⟨2, ![n, 1]⟩ (multiReduction .add [1] ⟨1, ![n]⟩ x 0x00000000#32 redE (.inl rfl) rfl) col)
      (broadcast ⟨2, ![n, 1]⟩ (Scalar.ofBits .f32 0x44000000#32))
  have d : FVec F ⟨2, ![n, 512]⟩ .f32 := subf x (broadcastTo ⟨2, ![n, 512]⟩ m colE)
  have v : FVec F ⟨2, ![n, 1]⟩ .f32 :=
    divf (shapeCast ⟨2, ![n, 1]⟩ (multiReduction .add [1] ⟨1, ![n]⟩ (mulf d d) 0x00000000#32 redE (.inl rfl) rfl) col)
      (broadcast ⟨2, ![n, 1]⟩ (Scalar.ofBits .f32 0x44000000#32))
  have s : FVec F ⟨2, ![n, 1]⟩ .f32 :=
    sqrt (addf v (broadcast ⟨2, ![n, 1]⟩ (Scalar.ofBits .f32 0x3727C5AC#32)))
  addf (mulf (divf d (broadcastTo ⟨2, ![n, 512]⟩ s colE))
    (broadcastTo ⟨2, ![n, 512]⟩ (shapeCast ⟨2, ![1, 512]⟩ g) rowE))
    (broadcastTo ⟨2, ![n, 512]⟩ (shapeCast ⟨2, ![1, 512]⟩ b) rowE)

/-- Queries, keys and values. -/
def qkv (x : FVec F ⟨2, ![n, 512]⟩ .f32) (w : FVec F ⟨2, ![512, 1536]⟩ .bf16) (b : FVec F ⟨2, ![1, 1536]⟩ .f32) :
    FVec F ⟨2, ![n, 1536]⟩ .f32 :=
  addf (matmul (DotDims.plain n 512 1536) none (truncf .bf16 x (by decide)) (shapeCast ⟨2, ![512, 1536]⟩ w)
      (constant ⟨2, ![n, 1536]⟩ .f32 0x00000000#32))
    (broadcastTo ⟨2, ![n, 1536]⟩ (shapeCast ⟨2, ![1, 1536]⟩ b) rowQ)

/-- Head `h` of the attention. -/
def head (bias : FVec F ⟨2, ![n, n]⟩ .f32) (y : FVec F ⟨2, ![n, 1536]⟩ .f32) (oq ok ov : ℕ) (hq : oq ≤ 1472) (hk : ok ≤ 1472)
    (hv : ov ≤ 1472) : FVec F ⟨2, ![n, 64]⟩ .f32 :=
  have q : FVec F ⟨2, ![n, 64]⟩ .bf16 :=
    truncf .bf16 (mulf (extractStridedSlice ⟨2, ![n, 64]⟩ ![0, oq] y (cut oq hq))
      (broadcast ⟨2, ![n, 64]⟩ (Scalar.ofBits .f32 0x3E000000#32))) (by decide)
  have k : FVec F ⟨2, ![n, 64]⟩ .bf16 := truncf .bf16 (extractStridedSlice ⟨2, ![n, 64]⟩ ![0, ok] y (cut ok hk)) (by decide)
  have v : FVec F ⟨2, ![n, 64]⟩ .bf16 := truncf .bf16 (extractStridedSlice ⟨2, ![n, 64]⟩ ![0, ov] y (cut ov hv)) (by decide)
  have s : FVec F ⟨2, ![n, n]⟩ .f32 :=
    addf (matmul (DotDims.transposedRhs n 64 n) none q k (constant ⟨2, ![n, n]⟩ .f32 0x00000000#32)) bias
  have e : FVec F ⟨2, ![n, n]⟩ .f32 := exp (subf s (broadcastTo ⟨2, ![n, n]⟩
    (shapeCast ⟨2, ![n, 1]⟩ (multiReduction .maximumf [1] ⟨1, ![n]⟩ s 0xFF800000#32 redN (.inl rfl) rfl) col) colN))
  have a : FVec F ⟨2, ![n, n]⟩ .bf16 := truncf .bf16 (divf e (broadcastTo ⟨2, ![n, n]⟩
    (shapeCast ⟨2, ![n, 1]⟩ (multiReduction .add [1] ⟨1, ![n]⟩ e 0x00000000#32 redN (.inl rfl) rfl) col) colN)) (by decide)
  matmul (DotDims.plain n n 64) none a v (constant ⟨2, ![n, 64]⟩ .f32 0x00000000#32)

/-- The heads side by side. -/
def heads (bias : FVec F ⟨2, ![n, n]⟩ .f32) (y : FVec F ⟨2, ![n, 1536]⟩ .f32) : FVec F ⟨2, ![n, 512]⟩ .f32 :=
  concatenate ⟨2, ![n, 512]⟩ 1
    [⟨⟨2, ![n, 64]⟩, head bias y 0 512 1024 (by decide) (by decide) (by decide)⟩,
     ⟨⟨2, ![n, 64]⟩, head bias y 64 576 1088 (by decide) (by decide) (by decide)⟩,
     ⟨⟨2, ![n, 64]⟩, head bias y 128 640 1152 (by decide) (by decide) (by decide)⟩,
     ⟨⟨2, ![n, 64]⟩, head bias y 192 704 1216 (by decide) (by decide) (by decide)⟩,
     ⟨⟨2, ![n, 64]⟩, head bias y 256 768 1280 (by decide) (by decide) (by decide)⟩,
     ⟨⟨2, ![n, 64]⟩, head bias y 320 832 1344 (by decide) (by decide) (by decide)⟩,
     ⟨⟨2, ![n, 64]⟩, head bias y 384 896 1408 (by decide) (by decide) (by decide)⟩,
     ⟨⟨2, ![n, 64]⟩, head bias y 448 960 1472 (by decide) (by decide) (by decide)⟩] cat

/-- The heads through the output matrix. -/
def out (c : FVec F ⟨2, ![n, 512]⟩ .f32) (w : FVec F ⟨2, ![512, 512]⟩ .bf16) : FVec F ⟨2, ![n, 512]⟩ .f32 :=
  matmul (DotDims.plain n 512 512) none (truncf .bf16 c (by decide)) (shapeCast ⟨2, ![512, 512]⟩ w)
    (constant ⟨2, ![n, 512]⟩ .f32 0x00000000#32)

/-- The two products of the feed-forward part. -/
def ff (x : FVec F ⟨2, ![n, 512]⟩ .f32) (w1 : FVec F ⟨2, ![512, 2048]⟩ .bf16) (b1 : FVec F ⟨2, ![1, 2048]⟩ .f32)
    (w2 : FVec F ⟨2, ![2048, 512]⟩ .bf16) : FVec F ⟨2, ![n, 512]⟩ .f32 :=
  have h : FVec F ⟨2, ![n, 2048]⟩ .f32 :=
    maximumf (addf (matmul (DotDims.plain n 512 2048) none (truncf .bf16 x (by decide))
        (shapeCast ⟨2, ![512, 2048]⟩ w1) (constant ⟨2, ![n, 2048]⟩ .f32 0x00000000#32))
      (broadcastTo ⟨2, ![n, 2048]⟩ (shapeCast ⟨2, ![1, 2048]⟩ b1) rowF))
      (broadcast ⟨2, ![n, 2048]⟩ (Scalar.ofBits .f32 0x00000000#32))
  matmul (DotDims.plain n 2048 512) none (truncf .bf16 h (by decide)) (shapeCast ⟨2, ![2048, 512]⟩ w2)
    (constant ⟨2, ![n, 512]⟩ .f32 0x00000000#32)

/-- A row vector added to every row, and the residual. -/
def res (x y : FVec F ⟨2, ![n, 512]⟩ .f32) (b : FVec F ⟨2, ![1, 512]⟩ .f32) : FVec F ⟨2, ![n, 512]⟩ .f32 :=
  addf x (addf y (broadcastTo ⟨2, ![n, 512]⟩ (shapeCast ⟨2, ![1, 512]⟩ b) rowE))

/-- The layer. -/
def layer (bias : FVec F ⟨2, ![n, n]⟩ .f32) (x : FVec F ⟨2, ![n, 512]⟩ .f32)
    (iw : FVec F ⟨2, ![512, 1536]⟩ .bf16) (ib : FVec F ⟨2, ![1, 1536]⟩ .f32) (ow : FVec F ⟨2, ![512, 512]⟩ .bf16)
    (ob : FVec F ⟨2, ![1, 512]⟩ .f32) (fw : FVec F ⟨2, ![512, 2048]⟩ .bf16) (fb : FVec F ⟨2, ![1, 2048]⟩ .f32)
    (hw : FVec F ⟨2, ![2048, 512]⟩ .bf16) (hb g1 b1 g2 b2 : FVec F ⟨2, ![1, 512]⟩ .f32) : FVec F ⟨2, ![n, 512]⟩ .f32 :=
  have y : FVec F ⟨2, ![n, 512]⟩ .f32 := norm (res x (out (heads bias (qkv x iw ib)) ow) ob) g1 b1
  norm (res y (ff y fw fb hw) hb) g2 b2

omit [Rows n] in
/-- The side conditions hold at the two row counts. -/
theorem rows (hn : n = 256 ∨ n = 512) : Rows n := by
  rcases hn with rfl | rfl <;>
  exact ⟨by decide, by decide, by decide, by decide, by decide, by decide, by decide, by decide,
    fun o h => ⟨rfl, fun a => by fin_cases a <;> simp <;> omega⟩, by decide⟩

section Values

variable (hn : n = 256 ∨ n = 512)
include hn

theorem norm_apply (x : FVec Ideal ⟨2, ![n, 512]⟩ .f32) (g b : FVec Ideal ⟨2, ![1, 512]⟩ .f32) (i : Fin n) (j : Fin 512) :
    norm x g b (ix2 i j)
      = Spec.norm (fun k => x (ix2 i k)) (fun k => g (ix2 0 k)) (fun k => b (ix2 0 k)) j := by
  rcases hn with rfl | rfl <;> (pointwise [norm]; rfl)

theorem qkv_apply (x : FVec Ideal ⟨2, ![n, 512]⟩ .f32) (w : FVec Ideal ⟨2, ![512, 1536]⟩ .bf16)
    (b : FVec Ideal ⟨2, ![1, 1536]⟩ .f32) (i : Fin n) (j : Fin 1536) :
    qkv x w b (ix2 i j) = Spec.lin (fun k => x (ix2 i k)) (fun k j => w (ix2 k j)) (fun j => b (ix2 0 j)) j := by
  rcases hn with rfl | rfl <;> (pointwise [qkv]; rfl)

theorem head_apply (bias : FVec Ideal ⟨2, ![n, n]⟩ .f32) (y : FVec Ideal ⟨2, ![n, 1536]⟩ .f32) (oq ok ov : ℕ)
    (hq : oq ≤ 1472) (hk : ok ≤ 1472) (hv : ov ≤ 1472) (i : Fin n) (j : Fin 64) :
    head bias y oq ok ov hq hk hv (ix2 i j)
      = Spec.head (fun i j => y (ix2 i j)) (fun i k => bias (ix2 i k)) oq ok ov hq hk hv i j := by
  have hb : Ideal.ofBits .f32 0xFF800000#32 = (⊥ : EReal) := by simp [Ideal.ofBits, Ideal.ieee]
  rcases hn with rfl | rfl <;> (pointwise [head]; rw [hb]; rfl)

theorem heads_apply (bias : FVec Ideal ⟨2, ![n, n]⟩ .f32) (y : FVec Ideal ⟨2, ![n, 1536]⟩ .f32) (i : Fin n)
    (j : Fin 512) :
    heads bias y (ix2 i j) = Spec.heads (fun i j => y (ix2 i j)) (fun i k => bias (ix2 i k)) i j := by
  have key : ∀ (oq ok ov : ℕ) (hq : oq ≤ 1472) (hk : ok ≤ 1472) (hv : ov ≤ 1472) (e : Fin 64), oq = 64 * (j / 64) →
      ok = 512 + 64 * (j / 64) → ov = 1024 + 64 * (j / 64) → e.val = j % 64 →
      head bias y oq ok ov hq hk hv (ix2 i e) = Spec.heads (fun i j => y (ix2 i j)) (fun i k => bias (ix2 i k)) i j :=
    fun _ _ _ _ _ _ _ h1 h2 h3 h4 => (head_apply hn ..).trans (Spec.head_congr h1 h2 h3 h4)
  rcases hn with rfl | rfl <;> (pointwise [heads]; split_ifs <;> (apply key <;> (try simp only []) <;> omega))

theorem out_apply (x : FVec Ideal ⟨2, ![n, 512]⟩ .f32) (w : FVec Ideal ⟨2, ![512, 512]⟩ .bf16) (i : Fin n)
    (j : Fin 512) : out x w (ix2 i j) = ∑ k : Fin 512, x (ix2 i k) * w (ix2 k j) := by
  rcases hn with rfl | rfl <;> pointwise [out]

theorem ff_apply (x : FVec Ideal ⟨2, ![n, 512]⟩ .f32) (w1 : FVec Ideal ⟨2, ![512, 2048]⟩ .bf16)
    (b1 : FVec Ideal ⟨2, ![1, 2048]⟩ .f32) (w2 : FVec Ideal ⟨2, ![2048, 512]⟩ .bf16) (i : Fin n) (j : Fin 512) :
    ff x w1 b1 w2 (ix2 i j) = ∑ k : Fin 2048,
      max (Spec.lin (fun k => x (ix2 i k)) (fun k j => w1 (ix2 k j)) (fun j => b1 (ix2 0 j)) k) 0 * w2 (ix2 k j) := by
  rcases hn with rfl | rfl <;> (pointwise [ff]; rfl)

theorem res_apply (x y : FVec Ideal ⟨2, ![n, 512]⟩ .f32) (b : FVec Ideal ⟨2, ![1, 512]⟩ .f32) (i : Fin n)
    (j : Fin 512) : res x y b (ix2 i j) = x (ix2 i j) + (y (ix2 i j) + b (ix2 0 j)) := by
  rcases hn with rfl | rfl <;> pointwise [res]

/-- The layer at an index. -/
theorem layer_apply (bias : FVec Ideal ⟨2, ![n, n]⟩ .f32) (x : FVec Ideal ⟨2, ![n, 512]⟩ .f32)
    (iw : FVec Ideal ⟨2, ![512, 1536]⟩ .bf16) (ib : FVec Ideal ⟨2, ![1, 1536]⟩ .f32)
    (ow : FVec Ideal ⟨2, ![512, 512]⟩ .bf16) (ob : FVec Ideal ⟨2, ![1, 512]⟩ .f32)
    (fw : FVec Ideal ⟨2, ![512, 2048]⟩ .bf16) (fb : FVec Ideal ⟨2, ![1, 2048]⟩ .f32)
    (hw : FVec Ideal ⟨2, ![2048, 512]⟩ .bf16) (hb g1 b1 g2 b2 : FVec Ideal ⟨2, ![1, 512]⟩ .f32) (i : Fin n)
    (j : Fin 512) :
    layer bias x iw ib ow ob fw fb hw hb g1 b1 g2 b2 (ix2 i j)
      = Spec.layer ⟨fun k j => iw (ix2 k j), fun j => ib (ix2 0 j), fun k j => ow (ix2 k j), fun j => ob (ix2 0 j),
          fun k j => fw (ix2 k j), fun j => fb (ix2 0 j), fun k j => hw (ix2 k j), fun j => hb (ix2 0 j),
          fun j => g1 (ix2 0 j), fun j => b1 (ix2 0 j), fun j => g2 (ix2 0 j), fun j => b2 (ix2 0 j)⟩
        (fun i k => bias (ix2 i k)) (fun i k => x (ix2 i k)) i j := by
  simp only [layer, norm_apply hn, res_apply hn, out_apply hn, heads_apply hn, ff_apply hn, qkv_apply hn]
  rfl

end Values

end Cert.Proof.Block

end
-- ==== Proof.KerEncoders.lean ====
/-
  What the two encoder kernels leave in their output buffers.
-/
module

public import proofs.«01_k».proof.Proof.KernelIdeal.Region0
public import proofs.«01_k».proof.Proof.KernelIdeal.Region1
public import proofs.«01_k».proof.Proof.Block

@[expose] public section

set_option maxRecDepth 16384

noncomputable section

namespace Cert.Proof.Ker

open Idealize.ShloMosaic Cert.KernelIdeal Cert.KernelIdeal.Gen

instance : Block.Rows 256 := Block.rows (.inl rfl)
instance : Block.Rows 512 := Block.rows (.inr rfl)

/-- The rows of a block of eight queries with the positions added. -/
def queryRows (x : Vec Ideal S8x32x512 .f32) (p : Vec Ideal S32x512 .f32) : FVec Ideal S256x512 .f32 :=
  shapeCast S256x512 (addf x (broadcastTo S8x32x512 (shapeCast S1x32x512 (shapeCast S32x512 p shapeCasts_S32x512_S32x512)
    shapeCasts_S32x512_S1x32x512) broadcasts_S1x32x512_S8x32x512)) shapeCasts_S8x32x512_S256x512

/-- The bias of a block of eight queries. -/
def queryBias (kb : Vec Ideal S1x1x256 .f32) : FVec Ideal S256x256 .f32 :=
  k0_pay7 (k0_pay3 kb) (k0_pay6 (iota .tc S256x256 32 [0] iota_S256x256_d0_w32) 32#32 k0_pay4 k0_pay5)
    (Scalar.ofBits .f32 0x00000000#32)

/-- The rows of a document with the positions added. -/
def docRows (x : Vec Ideal S1x512x512 .f32) (p : Vec Ideal S512x512 .f32) : FVec Ideal S512x512 .f32 :=
  shapeCast S512x512 (addf x (shapeCast S1x512x512 (shapeCast S512x512 p shapeCasts_S512x512_S512x512)
    shapeCasts_S512x512_S1x512x512)) shapeCasts_S1x512x512_S512x512

/-- The bias of a document. -/
def docBias (kb : Vec Ideal S1x1x512 .f32) : FVec Ideal S512x512 .f32 :=
  broadcastTo S512x512 (k1_pay3 kb) broadcasts_S1x512_S512x512

theorem queryRows_apply (x : Vec Ideal S8x32x512 .f32) (p : Vec Ideal S32x512 .f32) (i : Fin 256) (j : Fin 512) :
    queryRows x p (ix2 i j) = x (ix3 ⟨i / 32, by omega⟩ ⟨i % 32, by omega⟩ j) + p (ix2 ⟨i % 32, by omega⟩ j) := by
  pointwise [queryRows]

theorem docRows_apply (x : Vec Ideal S1x512x512 .f32) (p : Vec Ideal S512x512 .f32) (i j : Fin 512) :
    docRows x p (ix2 i j) = x (ix3 0 i j) + p (ix2 i j) := by
  pointwise [docRows]

theorem docBias_apply (kb : Vec Ideal S1x1x512 .f32) (i j : Fin 512) : docBias kb (ix2 i j) = kb (ix3 0 0 j) := by
  pointwise [docBias, k1_pay3]

/-- The quotient of a row number by 32, as the kernel computes it. -/
def blockOf (i : BitVec 32) : BitVec 32 :=
  Scalar.select
    (IntOp.andi
      (IntOp.cmpi .ne
        (IntOp.subi (BitVec.setWidth 32 (IntOp.cmpi .sgt i 0#32)) (BitVec.setWidth 32 (IntOp.cmpi .slt i 0#32)))
        (Scalar.subi (Scalar.extui (Scalar.cmpi .sgt 32#32 0#32)) (Scalar.extui (Scalar.cmpi .slt 32#32 0#32))))
      (IntOp.cmpi .ne (IntOp.remsi .vector i 32#32) 0#32))
    (IntOp.subi (IntOp.divsi .vector i 32#32) 1#32) (IntOp.divsi .vector i 32#32)

theorem blockOf_eq : ∀ i : Fin 256, blockOf (BitVec.ofNat 32 i) = BitVec.ofNat 32 (i / 32) := by decide +kernel

theorem queryBias_apply (kb : Vec Ideal S1x1x256 .f32) (i j : Fin 256) :
    queryBias kb (ix2 i j) = kb (ix3 0 0 j) + (if i.val / 32 = j.val / 32 then 0 else ⊥) := by
  have hm : Named.named (F := Ideal) (φ := .f32) κ "mask" 0xCEEE6B28#32 = (⊥ : EReal) :=
    IdealRules.named_const.ideal_named_scalar _ _ _ _ rfl
  pointwise [queryBias, k0_pay7, k0_pay3, k0_pay6, k0_pay4, k0_pay5]
  rw [hm]
  change _ + Scalar.select (IntOp.cmpi .eq (blockOf (BitVec.ofNat 32 i)) (blockOf (BitVec.ofNat 32 j))) _ _ = _
  rw [blockOf_eq, blockOf_eq]
  have : IntOp.cmpi .eq (BitVec.ofNat 32 (i.val / 32)) (BitVec.ofNat 32 (j.val / 32))
      = if i.val / 32 = j.val / 32 then 1#1 else 0#1 := by
    have : (BitVec.ofNat 32 (i.val / 32) = BitVec.ofNat 32 (j.val / 32)) ↔ i.val / 32 = j.val / 32 := by
      constructor
      · intro h; have := congrArg BitVec.toNat h; simp only [BitVec.toNat_ofNat] at this; omega
      · exact fun h => by rw [h]
    unfold IntOp.cmpi
    by_cases h : i.val / 32 = j.val / 32
    · rw [if_pos h, this.2 h]; simp
    · rw [if_neg h]; simp [beq_eq_false_iff_ne.2 (fun e => h (this.1 e))]
  rw [this]
  split_ifs <;> rfl

/-- The buffers hold layer `l` of the parameters. -/
structure Holds (W : Spec.Weights) (l : Fin 2) (iw : Vec Ideal S512x1536 .bf16) (ib : Vec Ideal S1x1536 .f32)
    (ow : Vec Ideal S512x512 .bf16) (ob : Vec Ideal S1x512 .f32) (fw : Vec Ideal S512x2048 .bf16)
    (fb : Vec Ideal S1x2048 .f32) (hw : Vec Ideal S2048x512 .bf16) (hb g1 b1 g2 b2 : Vec Ideal S1x512 .f32) : Prop where
  iw k j : iw (ix2 k j) = W.iw (ix3 l j k)
  ib j : ib (ix2 0 j) = W.ib (ix2 l j)
  ow k j : ow (ix2 k j) = W.ow (ix3 l j k)
  ob j : ob (ix2 0 j) = W.ob (ix2 l j)
  fw k j : fw (ix2 k j) = W.fw (ix3 l j k)
  fb j : fb (ix2 0 j) = W.fb (ix2 l j)
  hw k j : hw (ix2 k j) = W.hw (ix3 l j k)
  hb j : hb (ix2 0 j) = W.hb (ix2 l j)
  g1 j : g1 (ix2 0 j) = W.g1 (ix2 l j)
  b1 j : b1 (ix2 0 j) = W.b1 (ix2 l j)
  g2 j : g2 (ix2 0 j) = W.g2 (ix2 l j)
  b2 j : b2 (ix2 0 j) = W.b2 (ix2 l j)

/-- A layer on those buffers. -/
theorem Holds.layer {W : Spec.Weights} {l : Fin 2} {iw ib ow ob fw fb hw hb g1 b1 g2 b2}
    (H : Holds W l iw ib ow ob fw fb hw hb g1 b1 g2 b2) {n : ℕ} (hn : n = 256 ∨ n = 512) [Block.Rows n]
    (B : FVec Ideal ⟨2, ![n, n]⟩ .f32) (X : FVec Ideal ⟨2, ![n, 512]⟩ .f32) (i : Fin n) (j : Fin 512) :
    Block.layer B X iw ib ow ob fw fb hw hb g1 b1 g2 b2 (ix2 i j)
      = Spec.layer (W.par l) (fun i k => B (ix2 i k)) (fun i k => X (ix2 i k)) i j := by
  refine (Block.layer_apply hn ..).trans ?_
  refine congrArg (fun P => Spec.layer P (fun i k => B (ix2 i k)) (fun i k => X (ix2 i k)) i j) ?_
  unfold Spec.Weights.par
  congr 1 <;> ext <;> first
    | exact H.iw _ _ | exact H.ib _ | exact H.ow _ _ | exact H.ob _ | exact H.fw _ _ | exact H.fb _ | exact H.hw _ _
    | exact H.hb _ | exact H.g1 _ | exact H.b1 _ | exact H.g2 _ | exact H.b2 _

/-- Both layers, after the normalised embedding. -/
theorem encode {W : Spec.Weights} {iw ib ow ob fw fb hw hb g1 b1 g2 b2 iw' ib' ow' ob' fw' fb' hw' hb' g1' b1' g2' b2'}
    (H : Holds W 0 iw ib ow ob fw fb hw hb g1 b1 g2 b2) (H' : Holds W 1 iw' ib' ow' ob' fw' fb' hw' hb' g1' b1' g2' b2')
    {g b : Vec Ideal S1x512 .f32} (hlg : ∀ k, g (ix2 0 k) = W.g (ix1 k)) (hlb : ∀ k, b (ix2 0 k) = W.b (ix1 k))
    {n : ℕ} (hn : n = 256 ∨ n = 512) [Block.Rows n] (B : FVec Ideal ⟨2, ![n, n]⟩ .f32) (X : FVec Ideal ⟨2, ![n, 512]⟩ .f32)
    (p : Fin n → Fin 512) (Y : Fin n → Fin 512 → EReal) (hX : ∀ i k, X (ix2 i k) = Y i k + W.pos (ix3 0 (p i) k))
    (i : Fin n) (j : Fin 512) :
    Block.layer B (Block.layer B (Block.norm X g b) iw ib ow ob fw fb hw hb g1 b1 g2 b2)
        iw' ib' ow' ob' fw' fb' hw' hb' g1' b1' g2' b2' (ix2 i j)
      = W.encode (fun i k => B (ix2 i k)) p Y i j := by
  refine (H'.layer hn B _ i j).trans ?_
  unfold Spec.Weights.encode
  refine congrArg (fun Z => Spec.layer (W.par 1) (fun i k => B (ix2 i k)) Z i j) ?_
  funext i k
  refine (H.layer hn B _ i k).trans ?_
  refine congrArg (fun Z => Spec.layer (W.par 0) (fun i k => B (ix2 i k)) Z i k) ?_
  funext i k
  refine (Block.norm_apply hn ..).trans ?_
  simp only [hX, hlg, hlb]
  rfl

section query

variable (x0 : Vec Ideal S8x32x512 .f32) (x1 : Vec Ideal S1x1x256 .f32) (x2 : Vec Ideal S32x512 .f32) (x3 x4 : Vec Ideal S1x512 .f32)
  (x5 : Vec Ideal S512x1536 .bf16) (x6 : Vec Ideal S1x1536 .f32) (x7 : Vec Ideal S512x512 .bf16) (x8 : Vec Ideal S1x512 .f32)
  (x9 : Vec Ideal S512x2048 .bf16) (x10 : Vec Ideal S1x2048 .f32) (x11 : Vec Ideal S2048x512 .bf16)
  (x12 x13 x14 x15 x16 : Vec Ideal S1x512 .f32)
  (x17 : Vec Ideal S512x1536 .bf16) (x18 : Vec Ideal S1x1536 .f32) (x19 : Vec Ideal S512x512 .bf16) (x20 : Vec Ideal S1x512 .f32)
  (x21 : Vec Ideal S512x2048 .bf16) (x22 : Vec Ideal S1x2048 .f32) (x23 : Vec Ideal S2048x512 .bf16)
  (x24 x25 x26 x27 x28 : Vec Ideal S1x512 .f32)

/-- The value stored, as two layers. -/
theorem query_out : out0_29 x0 x1 x2 x3 x4 x5 x6 x7 x8 x9 x10 x11 x12 x13 x14 x15 x16 x17 x18 x19 x20 x21 x22 x23 x24 x25 x26 x27 x28
    = shapeCast S8x32x512 (Block.layer (queryBias x1) (Block.layer (queryBias x1) (Block.norm (queryRows x0 x2) x3 x4)
        x5 x6 x7 x8 x9 x10 x11 x12 x13 x14 x15 x16) x17 x18 x19 x20 x21 x22 x23 x24 x25 x26 x27 x28) shapeCasts_S256x512_S8x32x512 := by
  have z2 : (![0, 0] : Fin 2 → ℕ) = fun _ => 0 := by funext a; fin_cases a <;> rfl
  have z3 : (![0, 0, 0] : Fin 3 → ℕ) = fun _ => 0 := by funext a; fin_cases a <;> rfl
  have h0 : k0_pay53 x0 x1 x2 x3 x4 x5 x6 x7 x8 x9 x10 x11 x12 x13 x14 x15 x16 x17 x18 x19 x20 x21 x22 x23 x24 x25 x26 x27 x28
      = Block.norm (queryRows (View.ld x0 r0_0) (View.ld x2 r0_1)) (View.ld x3 r0_2) (View.ld x4 r0_2) := rfl
  have h1 : k0_pay62 x0 x1 x2 x3 x4 x5 x6 x7 x8 x9 x10 x11 x12 x13 x14 x15 x16 x17 x18 x19 x20 x21 x22 x23 x24 x25 x26 x27 x28
      = Block.layer (queryBias (View.ld x1 r0_3)) (k0_pay53 x0 x1 x2 x3 x4 x5 x6 x7 x8 x9 x10 x11 x12 x13 x14 x15 x16 x17 x18 x19 x20 x21 x22 x23 x24 x25 x26 x27 x28)
        (View.ld x5 r0_4) (View.ld x6 r0_5) (View.ld x7 r0_6) (View.ld x8 r0_2) (View.ld x9 r0_7) (View.ld x10 r0_8)
        (View.ld x11 r0_9) (View.ld x12 r0_2) (View.ld x13 r0_2) (View.ld x14 r0_2) (View.ld x15 r0_2) (View.ld x16 r0_2) := rfl
  have h2 : out0_29 x0 x1 x2 x3 x4 x5 x6 x7 x8 x9 x10 x11 x12 x13 x14 x15 x16 x17 x18 x19 x20 x21 x22 x23 x24 x25 x26 x27 x28
      = View.canon [⟨r0_0, shapeCast S8x32x512 (Block.layer (queryBias (View.ld x1 r0_3)) (k0_pay62 x0 x1 x2 x3 x4 x5 x6 x7 x8 x9 x10 x11 x12 x13 x14 x15 x16 x17 x18 x19 x20 x21 x22 x23 x24 x25 x26 x27 x28)
        (View.ld x17 r0_4) (View.ld x18 r0_5) (View.ld x19 r0_6) (View.ld x20 r0_2) (View.ld x21 r0_7) (View.ld x22 r0_8)
        (View.ld x23 r0_9) (View.ld x24 r0_2) (View.ld x25 r0_2) (View.ld x26 r0_2) (View.ld x27 r0_2) (View.ld x28 r0_2)) shapeCasts_S256x512_S8x32x512⟩] := rfl
  rw [h2, h1, h0, View.canon_unit_zero z3]
  simp only [View.ld_unit_zero (S := S8x32x512) z3, View.ld_unit_zero (S := S1x1x256) z3,
    View.ld_unit_zero (S := S32x512) z2, View.ld_unit_zero (S := S1x512) z2, View.ld_unit_zero (S := S512x1536) z2,
    View.ld_unit_zero (S := S1x1536) z2, View.ld_unit_zero (S := S512x512) z2, View.ld_unit_zero (S := S512x2048) z2,
    View.ld_unit_zero (S := S1x2048) z2, View.ld_unit_zero (S := S2048x512) z2]

/-- The value stored, at an index. -/
theorem query_apply {W : Spec.Weights} (H : Holds W 0 x5 x6 x7 x8 x9 x10 x11 x12 x13 x14 x15 x16) (H' : Holds W 1 x17 x18 x19 x20 x21 x22 x23 x24 x25 x26 x27 x28)
    (hp : ∀ i k, x2 (ix2 i k) = W.pos (ix3 0 ⟨i.val, by omega⟩ k)) (hlg : ∀ k, x3 (ix2 0 k) = W.g (ix1 k))
    (hlb : ∀ k, x4 (ix2 0 k) = W.b (ix1 k)) (b : Fin 8) (i : Fin 32) (j : Fin 512) :
    (out0_29 x0 x1 x2 x3 x4 x5 x6 x7 x8 x9 x10 x11 x12 x13 x14 x15 x16 x17 x18 x19 x20 x21 x22 x23 x24 x25 x26 x27 x28 : Shape.Idx S8x32x512 → EReal) (ix3 b i j)
      = W.encode (fun i k => x1 (ix3 0 0 k) + (if i.val / 32 = k.val / 32 then 0 else ⊥)) (fun i => ⟨i.val % 32, by omega⟩) (fun i k => x0 (ix3 ⟨i.val / 32, by omega⟩ ⟨i.val % 32, by omega⟩ k)) ⟨b.val * 32 + i.val, by omega⟩ j := by
  rw [query_out]
  have e : ∀ a : FVec Ideal S256x512 .f32, shapeCast S8x32x512 a shapeCasts_S256x512_S8x32x512 (ix3 b i j)
      = a (ix2 ⟨b.val * 32 + i.val, by omega⟩ j) := fun a => by pointwise []
  refine (e _).trans ?_
  refine (encode H H' hlg hlb (.inl rfl) _ _ (fun i => ⟨i.val % 32, by omega⟩)
    (fun i k => x0 (ix3 ⟨i.val / 32, by omega⟩ ⟨i.val % 32, by omega⟩ k)) (fun i k => ?_) _ j).trans ?_
  · rw [queryRows_apply, hp]
  · simp only [queryBias_apply]

end query

section doc

variable (x0 : Vec Ideal S1x512x512 .f32) (x1 : Vec Ideal S1x1x512 .f32) (x2 : Vec Ideal S512x512 .f32) (x3 x4 : Vec Ideal S1x512 .f32)
  (x5 : Vec Ideal S512x1536 .bf16) (x6 : Vec Ideal S1x1536 .f32) (x7 : Vec Ideal S512x512 .bf16) (x8 : Vec Ideal S1x512 .f32)
  (x9 : Vec Ideal S512x2048 .bf16) (x10 : Vec Ideal S1x2048 .f32) (x11 : Vec Ideal S2048x512 .bf16)
  (x12 x13 x14 x15 x16 : Vec Ideal S1x512 .f32)
  (x17 : Vec Ideal S512x1536 .bf16) (x18 : Vec Ideal S1x1536 .f32) (x19 : Vec Ideal S512x512 .bf16) (x20 : Vec Ideal S1x512 .f32)
  (x21 : Vec Ideal S512x2048 .bf16) (x22 : Vec Ideal S1x2048 .f32) (x23 : Vec Ideal S2048x512 .bf16)
  (x24 x25 x26 x27 x28 : Vec Ideal S1x512 .f32)

/-- The value stored, as two layers. -/
theorem doc_out : out1_29 x0 x1 x2 x3 x4 x5 x6 x7 x8 x9 x10 x11 x12 x13 x14 x15 x16 x17 x18 x19 x20 x21 x22 x23 x24 x25 x26 x27 x28
    = shapeCast S1x512x512 (Block.layer (docBias x1) (Block.layer (docBias x1) (Block.norm (docRows x0 x2) x3 x4)
        x5 x6 x7 x8 x9 x10 x11 x12 x13 x14 x15 x16) x17 x18 x19 x20 x21 x22 x23 x24 x25 x26 x27 x28) shapeCasts_S512x512_S1x512x512 := by
  have z2 : (![0, 0] : Fin 2 → ℕ) = fun _ => 0 := by funext a; fin_cases a <;> rfl
  have z3 : (![0, 0, 0] : Fin 3 → ℕ) = fun _ => 0 := by funext a; fin_cases a <;> rfl
  have h1 : k1_pay56 x0 x1 x2 x3 x4 x5 x6 x7 x8 x9 x10 x11 x12 x13 x14 x15 x16 x17 x18 x19 x20 x21 x22 x23 x24 x25 x26 x27 x28
      = Block.layer (docBias (View.ld x1 r1_3)) (Block.norm (docRows (View.ld x0 r1_0) (View.ld x2 r1_1)) (View.ld x3 r1_2) (View.ld x4 r1_2))
        (View.ld x5 r1_4) (View.ld x6 r1_5) (View.ld x7 r1_1) (View.ld x8 r1_2) (View.ld x9 r1_6) (View.ld x10 r1_7)
        (View.ld x11 r1_8) (View.ld x12 r1_2) (View.ld x13 r1_2) (View.ld x14 r1_2) (View.ld x15 r1_2) (View.ld x16 r1_2) := rfl
  have h2 : out1_29 x0 x1 x2 x3 x4 x5 x6 x7 x8 x9 x10 x11 x12 x13 x14 x15 x16 x17 x18 x19 x20 x21 x22 x23 x24 x25 x26 x27 x28
      = View.canon [⟨r1_0, shapeCast S1x512x512 (Block.layer (docBias (View.ld x1 r1_3)) (k1_pay56 x0 x1 x2 x3 x4 x5 x6 x7 x8 x9 x10 x11 x12 x13 x14 x15 x16 x17 x18 x19 x20 x21 x22 x23 x24 x25 x26 x27 x28)
        (View.ld x17 r1_4) (View.ld x18 r1_5) (View.ld x19 r1_1) (View.ld x20 r1_2) (View.ld x21 r1_6) (View.ld x22 r1_7)
        (View.ld x23 r1_8) (View.ld x24 r1_2) (View.ld x25 r1_2) (View.ld x26 r1_2) (View.ld x27 r1_2) (View.ld x28 r1_2)) shapeCasts_S512x512_S1x512x512⟩] := rfl
  rw [h2, h1, View.canon_unit_zero z3]
  simp only [View.ld_unit_zero (S := S1x512x512) z3, View.ld_unit_zero (S := S1x1x512) z3,
    View.ld_unit_zero (S := S1x512) z2, View.ld_unit_zero (S := S512x1536) z2,
    View.ld_unit_zero (S := S1x1536) z2, View.ld_unit_zero (S := S512x512) z2, View.ld_unit_zero (S := S512x2048) z2,
    View.ld_unit_zero (S := S1x2048) z2, View.ld_unit_zero (S := S2048x512) z2]

/-- The value stored, at an index. -/
theorem doc_apply {W : Spec.Weights} (H : Holds W 0 x5 x6 x7 x8 x9 x10 x11 x12 x13 x14 x15 x16) (H' : Holds W 1 x17 x18 x19 x20 x21 x22 x23 x24 x25 x26 x27 x28)
    (hp : ∀ i k, x2 (ix2 i k) = W.pos (ix3 0 i k)) (hlg : ∀ k, x3 (ix2 0 k) = W.g (ix1 k))
    (hlb : ∀ k, x4 (ix2 0 k) = W.b (ix1 k)) (i : Fin 512) (j : Fin 512) :
    (out1_29 x0 x1 x2 x3 x4 x5 x6 x7 x8 x9 x10 x11 x12 x13 x14 x15 x16 x17 x18 x19 x20 x21 x22 x23 x24 x25 x26 x27 x28 : Shape.Idx S1x512x512 → EReal) (ix3 0 i j)
      = W.encode (fun i k => x1 (ix3 0 0 k)) (fun i => i) (fun i k => x0 (ix3 0 i k)) i j := by
  rw [doc_out]
  have e : ∀ a : FVec Ideal S512x512 .f32, shapeCast S1x512x512 a shapeCasts_S512x512_S1x512x512 (ix3 0 i j)
      = a (ix2 i j) := fun a => by pointwise []
  refine (e _).trans ?_
  refine (encode H H' hlg hlb (.inr rfl) _ _ (fun i => i) (fun i k => x0 (ix3 0 i k)) (fun i k => ?_) _ j).trans ?_
  · rw [docRows_apply, hp]
  · simp only [docBias_apply]

end doc

end Cert.Proof.Ker

end
-- ==== Proof.Batch.lean ====
/-
  One encoder layer as the reference computes it, on 128 batches of `L` rows of 512.
-/
module

public import proofs.«01_k».proof.Proof.Spec
public import Idealize.ShloMosaic.Lib.Pointwise.IndexVar

@[expose] public section

set_option maxRecDepth 16384

noncomputable section

namespace Cert.Proof.Batch

open Idealize.ShloMosaic

/-- The side conditions of a layer's operations at `L` rows. -/
class Rows (L : ℕ) : Prop where
  red : (⟨3, ![128, L, 512]⟩ : Shape).ReducesTo [2] ⟨2, ![128, L]⟩
  red4 : (⟨4, ![128, 8, L, L]⟩ : Shape).ReducesTo [3] ⟨3, ![128, 8, L]⟩
  col : (⟨2, ![128, L]⟩ : Shape).BroadcastsInDim ⟨3, ![128, L, 1]⟩ ![0, 1]
  all : (⟨0, ![]⟩ : Shape).BroadcastsInDim ⟨3, ![128, L, 1]⟩ ![]
  allF : (⟨0, ![]⟩ : Shape).BroadcastsInDim ⟨3, ![128, L, 2048]⟩ ![]
  all3 : (⟨0, ![]⟩ : Shape).BroadcastsInDim ⟨3, ![128, 8, L]⟩ ![]
  all4 : (⟨0, ![]⟩ : Shape).BroadcastsInDim ⟨4, ![128, 8, L, L]⟩ ![]
  colE : (⟨3, ![128, L, 1]⟩ : Shape).BroadcastsInDim ⟨3, ![128, L, 512]⟩ ![0, 1, 2]
  rowE : (⟨3, ![1, 1, 512]⟩ : Shape).BroadcastsInDim ⟨3, ![128, L, 512]⟩ ![0, 1, 2]
  rowQ : (⟨3, ![1, 1, 1536]⟩ : Shape).BroadcastsInDim ⟨3, ![128, L, 1536]⟩ ![0, 1, 2]
  rowF : (⟨3, ![1, 1, 2048]⟩ : Shape).BroadcastsInDim ⟨3, ![128, L, 2048]⟩ ![0, 1, 2]
  vecE : (⟨1, ![512]⟩ : Shape).BroadcastsInDim ⟨3, ![1, 1, 512]⟩ ![2]
  vecQ : (⟨1, ![1536]⟩ : Shape).BroadcastsInDim ⟨3, ![1, 1, 1536]⟩ ![2]
  vecF : (⟨1, ![2048]⟩ : Shape).BroadcastsInDim ⟨3, ![1, 1, 2048]⟩ ![2]
  cut : ∀ o : ℕ, o ≤ 1024 → (⟨3, ![128, L, 1536]⟩ : Shape).Slices ![0, 0, o] ⟨3, ![128, L, 512]⟩
  split : (⟨3, ![128, L, 512]⟩ : Shape).ShapeCasts ⟨4, ![128, L, 8, 64]⟩
  join : (⟨4, ![128, L, 8, 64]⟩ : Shape).ShapeCasts ⟨3, ![128, L, 512]⟩
  bias : (⟨4, ![128, 1, 1, L]⟩ : Shape).BroadcastsInDim ⟨4, ![128, 8, L, L]⟩ ![0, 1, 2, 3]
  col4 : (⟨3, ![128, 8, L]⟩ : Shape).BroadcastsInDim ⟨4, ![128, 8, L, 1]⟩ ![0, 1, 2]
  colL : (⟨4, ![128, 8, L, 1]⟩ : Shape).BroadcastsInDim ⟨4, ![128, 8, L, L]⟩ ![0, 1, 2, 3]
  turn : (⟨4, ![128, 8, 64, L]⟩ : Shape).Transposes [0, 3, 1, 2] ⟨4, ![128, L, 8, 64]⟩
  turnQ : (⟨2, ![1536, 512]⟩ : Shape).Transposes [1, 0] ⟨2, ![512, 1536]⟩
  turnE : (⟨2, ![512, 512]⟩ : Shape).Transposes [1, 0] ⟨2, ![512, 512]⟩
  turnF : (⟨2, ![2048, 512]⟩ : Shape).Transposes [1, 0] ⟨2, ![512, 2048]⟩
  turnH : (⟨2, ![512, 2048]⟩ : Shape).Transposes [1, 0] ⟨2, ![2048, 512]⟩
  dotQ : DotDims.WF ⟨3, ![128, L, 512]⟩ ⟨2, ![512, 1536]⟩ ⟨3, ![128, L, 1536]⟩ [2] [0] [0, 1] [1] [] []
  dotE : DotDims.WF ⟨3, ![128, L, 512]⟩ ⟨2, ![512, 512]⟩ ⟨3, ![128, L, 512]⟩ [2] [0] [0, 1] [1] [] []
  dotF : DotDims.WF ⟨3, ![128, L, 512]⟩ ⟨2, ![512, 2048]⟩ ⟨3, ![128, L, 2048]⟩ [2] [0] [0, 1] [1] [] []
  dotH : DotDims.WF ⟨3, ![128, L, 2048]⟩ ⟨2, ![2048, 512]⟩ ⟨3, ![128, L, 512]⟩ [2] [0] [0, 1] [1] [] []
  dotS : DotDims.WF ⟨4, ![128, L, 8, 64]⟩ ⟨4, ![128, L, 8, 64]⟩ ⟨4, ![128, 8, L, L]⟩ [3] [3] [1] [1] [0, 2] [0, 2]
  dotC : DotDims.WF ⟨4, ![128, L, 8, 64]⟩ ⟨4, ![128, 8, L, L]⟩ ⟨4, ![128, 8, 64, L]⟩ [1] [3] [3] [2] [0, 2] [0, 1]

open Rows

/-- The side conditions hold at the two row counts. -/
theorem rows {L : ℕ} (hL : L = 32 ∨ L = 512) : Rows L := by
  rcases hL with rfl | rfl <;>
  exact ⟨by decide, by decide, by decide, by decide, by decide, by decide, by decide, by decide, by decide,
    by decide, by decide, by decide, by decide, by decide,
    fun o h => ⟨rfl, fun a => by fin_cases a <;> simp <;> omega⟩, by decide, by decide, by decide, by decide, by decide,
    by decide, by decide, by decide, by decide, by decide, by decide, by decide, by decide, by decide, by decide,
    by decide⟩

variable {F : FTy → Type} [FloatOps F] {L : ℕ} [Rows L]

/-- A product of every row with a matrix. -/
def rowsDot {K N : ℕ} (w : DotDims.WF ⟨3, ![128, L, K]⟩ ⟨2, ![K, N]⟩ ⟨3, ![128, L, N]⟩ [2] [0] [0, 1] [1] [] []) :
    DotDims ⟨3, ![128, L, K]⟩ ⟨2, ![K, N]⟩ ⟨3, ![128, L, N]⟩ where
  lhsContracting := [2]
  rhsContracting := [0]
  lhsNonContracting := [0, 1]
  rhsNonContracting := [1]
  lhsBatch := []
  rhsBatch := []
  wf := w

/-- The products of queries and keys, per batch and head. -/
def scoreDot : DotDims ⟨4, ![128, L, 8, 64]⟩ ⟨4, ![128, L, 8, 64]⟩ ⟨4, ![128, 8, L, L]⟩ where
  lhsContracting := [3]
  rhsContracting := [3]
  lhsNonContracting := [1]
  rhsNonContracting := [1]
  lhsBatch := [0, 2]
  rhsBatch := [0, 2]
  wf := dotS

/-- The products of values and weights, per batch and head. -/
def valueDot : DotDims ⟨4, ![128, L, 8, 64]⟩ ⟨4, ![128, 8, L, L]⟩ ⟨4, ![128, 8, 64, L]⟩ where
  lhsContracting := [1]
  rhsContracting := [3]
  lhsNonContracting := [3]
  rhsNonContracting := [2]
  lhsBatch := [0, 2]
  rhsBatch := [0, 1]
  wf := dotC

/-- Layer normalisation of the rows. -/
def norm (x : FVec F ⟨3, ![128, L, 512]⟩ .f32) (g b : FVec F ⟨1, ![512]⟩ .f32) : FVec F ⟨3, ![128, L, 512]⟩ .f32 :=
  have m : FVec F ⟨3, ![128, L, 1]⟩ .f32 :=
    Host.divf (broadcastInDim ⟨3, ![128, L, 1]⟩ ![0, 1] col (Host.reduceAdd x (constant ⟨0, ![]⟩ .f32 0x00000000#32) red))
      (broadcastInDim ⟨3, ![128, L, 1]⟩ ![] all (constant ⟨0, ![]⟩ .f32 0x44000000#32))
  have d : FVec F ⟨3, ![128, L, 512]⟩ .f32 := subf x (broadcastInDim ⟨3, ![128, L, 512]⟩ ![0, 1, 2] colE m)
  have v : FVec F ⟨3, ![128, L, 1]⟩ .f32 :=
    Host.divf (broadcastInDim ⟨3, ![128, L, 1]⟩ ![0, 1] col
        (Host.reduceAdd (mulf d d) (constant ⟨0, ![]⟩ .f32 0x00000000#32) red))
      (broadcastInDim ⟨3, ![128, L, 1]⟩ ![] all (constant ⟨0, ![]⟩ .f32 0x44000000#32))
  have s : FVec F ⟨3, ![128, L, 1]⟩ .f32 :=
    Host.sqrt (addf v (broadcastInDim ⟨3, ![128, L, 1]⟩ ![] all (constant ⟨0, ![]⟩ .f32 0x3727C5AC#32)))
  addf (mulf (Host.divf d (broadcastInDim ⟨3, ![128, L, 512]⟩ ![0, 1, 2] colE s))
    (broadcastInDim ⟨3, ![128, L, 512]⟩ ![0, 1, 2] rowE (broadcastInDim ⟨3, ![1, 1, 512]⟩ ![2] (vecE L) g)))
    (broadcastInDim ⟨3, ![128, L, 512]⟩ ![0, 1, 2] rowE (broadcastInDim ⟨3, ![1, 1, 512]⟩ ![2] (vecE L) b))

/-- Queries, keys and values. -/
def qkv (x : FVec F ⟨3, ![128, L, 512]⟩ .f32) (w : FVec F ⟨2, ![1536, 512]⟩ .f32) (b : FVec F ⟨1, ![1536]⟩ .f32) :
    FVec F ⟨3, ![128, L, 1536]⟩ .f32 :=
  addf (Host.dotGeneral (rowsDot dotQ) none x (transpose ⟨2, ![512, 1536]⟩ [1, 0] w (turnQ L)))
    (broadcastInDim ⟨3, ![128, L, 1536]⟩ ![0, 1, 2] rowQ (broadcastInDim ⟨3, ![1, 1, 1536]⟩ ![2] (vecQ L) b))

/-- A third of the projections, by heads. -/
def part (y : FVec F ⟨3, ![128, L, 1536]⟩ .f32) (o : ℕ) (h : o ≤ 1024) : FVec F ⟨4, ![128, L, 8, 64]⟩ .f32 :=
  shapeCast _ (extractStridedSlice ⟨3, ![128, L, 512]⟩ ![0, 0, o] y (cut o h)) split

/-- The scores. -/
def score (kb : FVec F ⟨4, ![128, 1, 1, L]⟩ .f32) (y : FVec F ⟨3, ![128, L, 1536]⟩ .f32) :
    FVec F ⟨4, ![128, 8, L, L]⟩ .f32 :=
  addf (Host.divf (Host.dotGeneral scoreDot none (part y 0 (by decide)) (part y 512 (by decide)))
      (broadcastInDim ⟨4, ![128, 8, L, L]⟩ ![] all4 (constant ⟨0, ![]⟩ .f32 0x41000000#32)))
    (broadcastInDim ⟨4, ![128, 8, L, L]⟩ ![0, 1, 2, 3] bias (id kb))

/-- The exponentials of the scores less their maximum. -/
def expo (s : FVec F ⟨4, ![128, 8, L, L]⟩ .f32) : FVec F ⟨4, ![128, 8, L, L]⟩ .f32 :=
  Host.exp (subf s (broadcastInDim ⟨4, ![128, 8, L, L]⟩ ![0, 1, 2, 3] colL
    (broadcastInDim ⟨4, ![128, 8, L, 1]⟩ ![0, 1, 2] col4
      (maximumf (broadcastInDim ⟨3, ![128, 8, L]⟩ ![] all3 (constant ⟨0, ![]⟩ .f32 0xFF800000#32))
        (Host.reduce FloatOps.maximumf s (constant ⟨0, ![]⟩ .f32 0xFF800000#32) red4)))))

/-- The heads side by side. -/
def heads (y : FVec F ⟨3, ![128, L, 1536]⟩ .f32) (e : FVec F ⟨4, ![128, 8, L, L]⟩ .f32) :
    FVec F ⟨3, ![128, L, 512]⟩ .f32 :=
  shapeCast _ (transpose ⟨4, ![128, L, 8, 64]⟩ [0, 3, 1, 2]
    (Host.dotGeneral valueDot none (part y 1024 (by decide))
      (Host.divf e (broadcastInDim ⟨4, ![128, 8, L, L]⟩ ![0, 1, 2, 3] colL
        (broadcastInDim ⟨4, ![128, 8, L, 1]⟩ ![0, 1, 2] col4
          (Host.reduceAdd e (constant ⟨0, ![]⟩ .f32 0x00000000#32) red4))))) turn) join

/-- The attention's output and its residual. -/
def res (x c : FVec F ⟨3, ![128, L, 512]⟩ .f32) (w : FVec F ⟨2, ![512, 512]⟩ .f32) (b : FVec F ⟨1, ![512]⟩ .f32) :
    FVec F ⟨3, ![128, L, 512]⟩ .f32 :=
  addf (addf x (Host.dotGeneral (rowsDot dotE) none c (transpose ⟨2, ![512, 512]⟩ [1, 0] w (turnE L))))
    (broadcastInDim ⟨3, ![128, L, 512]⟩ ![0, 1, 2] rowE (broadcastInDim ⟨3, ![1, 1, 512]⟩ ![2] (vecE L) b))

/-- The feed-forward part and its residual. -/
def ff (x : FVec F ⟨3, ![128, L, 512]⟩ .f32) (w1 : FVec F ⟨2, ![2048, 512]⟩ .f32) (b1 : FVec F ⟨1, ![2048]⟩ .f32)
    (w2 : FVec F ⟨2, ![512, 2048]⟩ .f32) (b2 : FVec F ⟨1, ![512]⟩ .f32) : FVec F ⟨3, ![128, L, 512]⟩ .f32 :=
  addf x (addf (Host.dotGeneral (rowsDot dotH) none
      (maximumf (addf (Host.dotGeneral (rowsDot dotF) none x (transpose ⟨2, ![512, 2048]⟩ [1, 0] w1 (turnF L)))
          (broadcastInDim ⟨3, ![128, L, 2048]⟩ ![0, 1, 2] rowF (broadcastInDim ⟨3, ![1, 1, 2048]⟩ ![2] (vecF L) b1)))
        (broadcastInDim ⟨3, ![128, L, 2048]⟩ ![] allF (constant ⟨0, ![]⟩ .f32 0x00000000#32)))
      (transpose ⟨2, ![2048, 512]⟩ [1, 0] w2 (turnH L)))
    (broadcastInDim ⟨3, ![128, L, 512]⟩ ![0, 1, 2] rowE (broadcastInDim ⟨3, ![1, 1, 512]⟩ ![2] (vecE L) b2)))

/-- The layer. -/
def layer (kb : FVec F ⟨4, ![128, 1, 1, L]⟩ .f32) (x : FVec F ⟨3, ![128, L, 512]⟩ .f32)
    (iw : FVec F ⟨2, ![1536, 512]⟩ .f32) (ib : FVec F ⟨1, ![1536]⟩ .f32) (ow : FVec F ⟨2, ![512, 512]⟩ .f32)
    (ob : FVec F ⟨1, ![512]⟩ .f32) (fw : FVec F ⟨2, ![2048, 512]⟩ .f32) (fb : FVec F ⟨1, ![2048]⟩ .f32)
    (hw : FVec F ⟨2, ![512, 2048]⟩ .f32) (hb g1 b1 g2 b2 : FVec F ⟨1, ![512]⟩ .f32) : FVec F ⟨3, ![128, L, 512]⟩ .f32 :=
  have y : FVec F ⟨3, ![128, L, 1536]⟩ .f32 := qkv x iw ib
  norm (ff (norm (res x (heads y (expo (score kb y))) ow ob) g1 b1) fw fb hw hb) g2 b2

/-- Multiplication by a real, not negative, goes through any sum. -/
theorem mul_sum {ι : Type} (s : Finset ι) (c : ℝ) (hc : 0 ≤ c) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hc) (EReal.coe_ne_top c) _ _

section Values

variable (hL : L = 32 ∨ L = 512)
include hL

theorem norm_apply (x : FVec Ideal ⟨3, ![128, L, 512]⟩ .f32) (g b : FVec Ideal ⟨1, ![512]⟩ .f32) (n : Fin 128) (i : Fin L)
    (j : Fin 512) :
    norm x g b (ix3 n i j) = Spec.norm (fun k => x (ix3 n i k)) (fun k => g (ix1 k)) (fun k => b (ix1 k)) j := by
  rcases hL with rfl | rfl <;> (pointwise [norm]; rfl)

theorem qkv_apply (x : FVec Ideal ⟨3, ![128, L, 512]⟩ .f32) (w : FVec Ideal ⟨2, ![1536, 512]⟩ .f32)
    (b : FVec Ideal ⟨1, ![1536]⟩ .f32) (n : Fin 128) (i : Fin L) (j : Fin 1536) :
    qkv x w b (ix3 n i j) = Spec.lin (fun k => x (ix3 n i k)) (fun k j => w (ix2 j k)) (fun j => b (ix1 j)) j := by
  rcases hL with rfl | rfl <;> (pointwise [qkv, rowsDot]; rfl)

theorem score_apply (kb : FVec Ideal ⟨4, ![128, 1, 1, L]⟩ .f32) (y : FVec Ideal ⟨3, ![128, L, 1536]⟩ .f32) (n : Fin 128)
    (h : Fin 8) (i k : Fin L) :
    score kb y (ix4 n h i k) = Spec.score (fun i j => y (ix3 n i j)) (fun _ k => kb (ix4 n 0 0 k)) (64 * h) (512 + 64 * h)
      (by omega) (by omega) i k := by
  have h8 : Ideal.ofBits .f32 0x41000000#32 = ((8 : ℝ) : EReal) := by
    simp [Ideal.ofBits, Ideal.ieee, -EReal.coe_mul]; norm_num
  have he : Spec.eighth = ((1 / 8 : ℝ) : EReal) := by
    simp [Spec.eighth, Ideal.ofBits, Ideal.ieee, -EReal.coe_mul]; norm_num
  have hs : ∀ q k : Fin 64 → EReal, Ideal.div (∑ d, q d * k d) ((8 : ℝ) : EReal) = ∑ d, q d * ((1 / 8 : ℝ) : EReal) * k d := by
    intro q k
    rw [Ideal.div_coe (by norm_num), mul_sum _ _ (by norm_num)]
    exact Finset.sum_congr rfl fun d _ => mul_right_comm _ _ _
  have hm : ∀ d : Fin 64, h.val * 64 + d.val = 64 * h.val + d.val := fun d => by omega
  have hm' : ∀ d : Fin 64, 512 + (64 * h.val + d.val) = 512 + 64 * h.val + d.val := fun d => by omega
  unfold Spec.score
  rw [he]
  rcases hL with rfl | rfl <;>
  · pointwise [score, part, scoreDot]
    rw [h8, hs]
    simp only [hm, hm', id]

theorem expo_apply (s : FVec Ideal ⟨4, ![128, 8, L, L]⟩ .f32) (n : Fin 128) (h : Fin 8) (i k : Fin L) :
    expo s (ix4 n h i k)
      = Ideal.exp (s (ix4 n h i k) - Finset.univ.fold max ⊥ (fun x => s (ix4 n h i x))) := by
  have hb : Ideal.ofBits .f32 0xFF800000#32 = (⊥ : EReal) := by simp [Ideal.ofBits, Ideal.ieee]
  have h1 : ¬ L = 1 := by omega
  pointwise [expo]
  rw [hb, max_eq_right bot_le]
  refine congrArg (fun f => Ideal.exp (s (ix4 n h i k) - Finset.univ.fold max ⊥ f))
    (funext fun x => congrArg (fun z => s (ix4 n h z x)) ?_)
  exact (dif_neg h1).trans (dif_neg h1)

theorem heads_apply (y : FVec Ideal ⟨3, ![128, L, 1536]⟩ .f32) (e : FVec Ideal ⟨4, ![128, 8, L, L]⟩ .f32) (n : Fin 128)
    (i : Fin L) (j : Fin 512) :
    heads y e (ix3 n i j) = ∑ x, Ideal.div (e (ix4 n ⟨j / 64, by omega⟩ i x)) (∑ l, e (ix4 n ⟨j / 64, by omega⟩ i l))
      * y (ix3 n x ⟨1024 + j, by omega⟩) := by
  rcases hL with rfl | rfl <;>
  · pointwise [heads, part, valueDot]
    exact Finset.sum_congr rfl fun _ _ => mul_comm _ _

theorem res_apply (x c : FVec Ideal ⟨3, ![128, L, 512]⟩ .f32) (w : FVec Ideal ⟨2, ![512, 512]⟩ .f32)
    (b : FVec Ideal ⟨1, ![512]⟩ .f32) (n : Fin 128) (i : Fin L) (j : Fin 512) :
    res x c w b (ix3 n i j)
      = x (ix3 n i j) + Spec.lin (fun k => c (ix3 n i k)) (fun k j => w (ix2 j k)) (fun j => b (ix1 j)) j := by
  rcases hL with rfl | rfl <;> (pointwise [res, rowsDot]; exact add_assoc _ _ _)

theorem ff_apply (x : FVec Ideal ⟨3, ![128, L, 512]⟩ .f32) (w1 : FVec Ideal ⟨2, ![2048, 512]⟩ .f32)
    (b1 : FVec Ideal ⟨1, ![2048]⟩ .f32) (w2 : FVec Ideal ⟨2, ![512, 2048]⟩ .f32) (b2 : FVec Ideal ⟨1, ![512]⟩ .f32)
    (n : Fin 128) (i : Fin L) (j : Fin 512) :
    ff x w1 b1 w2 b2 (ix3 n i j) = x (ix3 n i j) + Spec.lin (fun k =>
        max (Spec.lin (fun k => x (ix3 n i k)) (fun k j => w1 (ix2 j k)) (fun j => b1 (ix1 j)) k) 0)
      (fun k j => w2 (ix2 j k)) (fun j => b2 (ix1 j)) j := by
  rcases hL with rfl | rfl <;> (pointwise [ff, rowsDot]; rfl)

/-- The layer at an index. -/
theorem layer_apply (kb : FVec Ideal ⟨4, ![128, 1, 1, L]⟩ .f32) (x : FVec Ideal ⟨3, ![128, L, 512]⟩ .f32)
    (iw : FVec Ideal ⟨2, ![1536, 512]⟩ .f32) (ib : FVec Ideal ⟨1, ![1536]⟩ .f32) (ow : FVec Ideal ⟨2, ![512, 512]⟩ .f32)
    (ob : FVec Ideal ⟨1, ![512]⟩ .f32) (fw : FVec Ideal ⟨2, ![2048, 512]⟩ .f32) (fb : FVec Ideal ⟨1, ![2048]⟩ .f32)
    (hw : FVec Ideal ⟨2, ![512, 2048]⟩ .f32) (hb g1 b1 g2 b2 : FVec Ideal ⟨1, ![512]⟩ .f32) (n : Fin 128) (i : Fin L)
    (j : Fin 512) :
    layer kb x iw ib ow ob fw fb hw hb g1 b1 g2 b2 (ix3 n i j)
      = Spec.layer ⟨fun k j => iw (ix2 j k), fun j => ib (ix1 j), fun k j => ow (ix2 j k), fun j => ob (ix1 j),
          fun k j => fw (ix2 j k), fun j => fb (ix1 j), fun k j => hw (ix2 j k), fun j => hb (ix1 j),
          fun j => g1 (ix1 j), fun j => b1 (ix1 j), fun j => g2 (ix1 j), fun j => b2 (ix1 j)⟩
        (fun _ k => kb (ix4 n 0 0 k)) (fun i k => x (ix3 n i k)) i j := by
  have key : ∀ (y : FVec Ideal ⟨3, ![128, L, 1536]⟩ .f32) (i : Fin L) (j : Fin 512),
      heads y (expo (score kb y)) (ix3 n i j)
        = Spec.heads (fun i j => y (ix3 n i j)) (fun _ k => kb (ix4 n 0 0 k)) i j := by
    intro y i j
    rw [heads_apply hL]
    simp only [expo_apply hL, score_apply hL]
    have hj : ∀ h : 1024 + j.val < 1536,
        (⟨1024 + j.val, h⟩ : Fin 1536) = ⟨1024 + 64 * (j.val / 64) + j.val % 64, by omega⟩ :=
      fun _ => Fin.ext (by simp only []; omega)
    simp only [hj]
    rfl
  simp only [layer, norm_apply hL, res_apply hL, ff_apply hL, key, qkv_apply hL]
  rfl

end Values

end Cert.Proof.Batch

end
-- ==== Proof.RefEncoders.lean ====
/-
  The reference's encoders, read at an index.
-/
module

public import proofs.«01_k».proof.Proof.Gen.ReferenceIdeal.Run
public import proofs.«01_k».proof.Proof.Batch

@[expose] public section

set_option maxRecDepth 16384

noncomputable section

namespace Cert.Proof.Ref

open Idealize.ShloMosaic Cert.ReferenceIdeal Cert.ReferenceIdeal.Gen Cert.ReferenceIdeal.Value

instance : Batch.Rows 32 := Batch.rows (.inl rfl)

instance : Batch.Rows 512 := Batch.rows (.inr rfl)

/-- Row `l` of a stack of two vectors. -/
def vec {N : ℕ} (l : ℕ) (h : (⟨2, ![2, N]⟩ : Shape).Slices ![l, 0] ⟨2, ![1, N]⟩)
    (h' : (⟨2, ![1, N]⟩ : Shape).ShapeCasts ⟨1, ![N]⟩) (a : FVec Ideal ⟨2, ![2, N]⟩ .f32) : FVec Ideal ⟨1, ![N]⟩ .f32 :=
  shapeCast _ (extractStridedSlice ⟨2, ![1, N]⟩ ![l, 0] a h) h'

/-- Matrix `l` of a stack of two. -/
def mat {M N : ℕ} (l : ℕ) (h : (⟨3, ![2, M, N]⟩ : Shape).Slices ![l, 0, 0] ⟨3, ![1, M, N]⟩)
    (h' : (⟨3, ![1, M, N]⟩ : Shape).ShapeCasts ⟨2, ![M, N]⟩) (a : FVec Ideal ⟨3, ![2, M, N]⟩ .f32) :
    FVec Ideal ⟨2, ![M, N]⟩ .f32 :=
  shapeCast _ (extractStridedSlice ⟨3, ![1, M, N]⟩ ![l, 0, 0] a h) h'

theorem sl2 {N l : ℕ} (h : l ≤ 1) : (⟨2, ![2, N]⟩ : Shape).Slices ![l, 0] ⟨2, ![1, N]⟩ :=
  ⟨rfl, fun a => by fin_cases a <;> simp <;> omega⟩

theorem sl3 {M N l : ℕ} (h : l ≤ 1) : (⟨3, ![2, M, N]⟩ : Shape).Slices ![l, 0, 0] ⟨3, ![1, M, N]⟩ :=
  ⟨rfl, fun a => by fin_cases a <;> simp <;> omega⟩

variable (V : Valuation τ sig (Elt Ideal))

/-- The parameters, read from the arguments. -/
def weights : Spec.Weights where
  pos := V (Proc.devRef .tc main_arg4)
  g := V (Proc.devRef .tc main_arg5)
  b := V (Proc.devRef .tc main_arg6)
  iw := V (Proc.devRef .tc main_arg7)
  ib := V (Proc.devRef .tc main_arg8)
  ow := V (Proc.devRef .tc main_arg9)
  ob := V (Proc.devRef .tc main_arg10)
  fw := V (Proc.devRef .tc main_arg11)
  fb := V (Proc.devRef .tc main_arg12)
  hw := V (Proc.devRef .tc main_arg13)
  hb := V (Proc.devRef .tc main_arg14)
  g1 := V (Proc.devRef .tc main_arg15)
  b1 := V (Proc.devRef .tc main_arg16)
  g2 := V (Proc.devRef .tc main_arg17)
  b2 := V (Proc.devRef .tc main_arg18)

/-- Layer `l` of the encoder of `L` rows. -/
def layer {L : ℕ} [Batch.Rows L] (l : ℕ) (hl : l ≤ 1) (kb : FVec Ideal ⟨4, ![128, 1, 1, L]⟩ .f32)
    (x : FVec Ideal ⟨3, ![128, L, 512]⟩ .f32) : FVec Ideal ⟨3, ![128, L, 512]⟩ .f32 :=
  Batch.layer kb x
    (mat l (sl3 hl) (by decide) (V (Proc.devRef .tc main_arg7)))
    (vec l (sl2 hl) (by decide) (V (Proc.devRef .tc main_arg8)))
    (mat l (sl3 hl) (by decide) (V (Proc.devRef .tc main_arg9)))
    (vec l (sl2 hl) (by decide) (V (Proc.devRef .tc main_arg10)))
    (mat l (sl3 hl) (by decide) (V (Proc.devRef .tc main_arg11)))
    (vec l (sl2 hl) (by decide) (V (Proc.devRef .tc main_arg12)))
    (mat l (sl3 hl) (by decide) (V (Proc.devRef .tc main_arg13)))
    (vec l (sl2 hl) (by decide) (V (Proc.devRef .tc main_arg14)))
    (vec l (sl2 hl) (by decide) (V (Proc.devRef .tc main_arg15)))
    (vec l (sl2 hl) (by decide) (V (Proc.devRef .tc main_arg16)))
    (vec l (sl2 hl) (by decide) (V (Proc.devRef .tc main_arg17)))
    (vec l (sl2 hl) (by decide) (V (Proc.devRef .tc main_arg18)))

theorem query_eq : res_main_v278 V
    = layer V 1 (by decide) (res_main_v36 V) (layer V 0 (by decide) (res_main_v36 V) (res_main_v32 V)) :=
  (show res_main_v278 V = layer V 1 (by decide) (res_main_v36 V) (res_main_v157 V) from rfl).trans
    (congrArg (layer V 1 (by decide) (res_main_v36 V))
      (show res_main_v157 V = layer V 0 (by decide) (res_main_v36 V) (res_main_v32 V) from rfl))

theorem doc_eq : res_main_v550 V
    = layer V 1 (by decide) (res_main_v308 V) (layer V 0 (by decide) (res_main_v308 V) (res_main_v304 V)) :=
  (show res_main_v550 V = layer V 1 (by decide) (res_main_v308 V) (res_main_v429 V) from rfl).trans
    (congrArg (layer V 1 (by decide) (res_main_v308 V))
      (show res_main_v429 V = layer V 0 (by decide) (res_main_v308 V) (res_main_v304 V) from rfl))

/-- A layer at an index. -/
theorem layer_apply {L : ℕ} (hL : L = 32 ∨ L = 512) [Batch.Rows L] (l : Fin 2) (kb : FVec Ideal ⟨4, ![128, 1, 1, L]⟩ .f32)
    (x : FVec Ideal ⟨3, ![128, L, 512]⟩ .f32) (n : Fin 128) (i : Fin L) (j : Fin 512) :
    layer V l.val (by omega) kb x (ix3 n i j) = Spec.layer ((weights V).par l) (fun _ k => kb (ix4 n 0 0 k))
      (fun i k => x (ix3 n i k)) i j := by
  refine (Batch.layer_apply hL ..).trans ?_
  refine congrArg (fun P => Spec.layer P (fun _ k => kb (ix4 n 0 0 k)) (fun i k => x (ix3 n i k)) i j) ?_
  fin_vals l with hl <;> (unfold weights Spec.Weights.par; congr 1 <;> (ext; pointwise [vec, mat]))

/-- The queries. -/
def query : S128x32x512.Idx → EReal := V (Proc.devRef .tc main_arg0)

/-- The documents. -/
def doc : S128x512x512.Idx → EReal := V (Proc.devRef .tc main_arg1)

/-- The mask of the queries. -/
def queryMask : S128x32.Idx → EReal := V (Proc.devRef .tc main_arg2)

/-- The mask of the documents. -/
def docMask : S128x512.Idx → EReal := V (Proc.devRef .tc main_arg3)

/-- The query encoder. -/
theorem query_apply (n : Fin 128) (i : Fin 32) (j : Fin 512) :
    (res_main_v278 V : S128x32x512.Idx → EReal) (ix3 n i j)
      = (weights V).encode (fun _ k => Spec.keyBias (queryMask V (ix2 n k))) (fun i => ⟨i, by omega⟩)
          (fun i k => query V (ix3 n i k)) i j := by
  have hb : ∀ k : Fin 32, (res_main_v36 V : S128x1x1x32.Idx → EReal) (ix4 n 0 0 k) = Spec.keyBias (queryMask V (ix2 n k)) := by
    intro k
    pointwise [res_main_v36, Spec.keyBias, queryMask]
  have h0 : ∀ (i : Fin 32) (k : Fin 512), (res_main_v8 V : S128x32x512.Idx → EReal) (ix3 n i k)
      = query V (ix3 n i k) + (weights V).pos (ix3 0 ((fun i => ⟨i, by omega⟩) i) k) := by
    intro i k
    pointwise [res_main_v8, query, weights]
  have hx : ∀ (i : Fin 32) (k : Fin 512), (res_main_v32 V : S128x32x512.Idx → EReal) (ix3 n i k)
      = (weights V).first ((fun i => ⟨i, by omega⟩) i) (fun k => query V (ix3 n i k)) k := by
    intro i k
    refine (Batch.norm_apply (.inl rfl) (res_main_v8 V) (V (Proc.devRef .tc main_arg5)) (V (Proc.devRef .tc main_arg6)) n i k).trans ?_
    simp only [h0]
    rfl
  rw [query_eq]
  refine (layer_apply V (.inl rfl) 1 _ _ n i j).trans ?_
  unfold Spec.Weights.encode
  have e : (fun (i : Fin 32) (k : Fin 512) => layer V 0 (by decide) (res_main_v36 V) (res_main_v32 V) (ix3 n i k))
      = Spec.layer ((weights V).par 0) (fun _ k => Spec.keyBias (queryMask V (ix2 n k)))
        (fun i => (weights V).first ((fun i => ⟨i, by omega⟩) i) (fun k => query V (ix3 n i k))) := by
    funext i k
    refine (layer_apply V (.inl rfl) 0 _ _ n i k).trans ?_
    rw [funext fun k => hb k, funext fun i => funext fun k => hx i k]
  rw [e, funext fun k => hb k]

/-- The doc encoder. -/
theorem doc_apply (n : Fin 128) (i : Fin 512) (j : Fin 512) :
    (res_main_v550 V : S128x512x512.Idx → EReal) (ix3 n i j)
      = (weights V).encode (fun _ k => Spec.keyBias (docMask V (ix2 n k))) (fun i => i)
          (fun i k => doc V (ix3 n i k)) i j := by
  have hb : ∀ k : Fin 512, (res_main_v308 V : S128x1x1x512.Idx → EReal) (ix4 n 0 0 k) = Spec.keyBias (docMask V (ix2 n k)) := by
    intro k
    pointwise [res_main_v308, Spec.keyBias, docMask]
  have h0 : ∀ (i : Fin 512) (k : Fin 512), (res_main_v280 V : S128x512x512.Idx → EReal) (ix3 n i k)
      = doc V (ix3 n i k) + (weights V).pos (ix3 0 ((fun i => i) i) k) := by
    intro i k
    pointwise [res_main_v280, doc, weights]
  have hx : ∀ (i : Fin 512) (k : Fin 512), (res_main_v304 V : S128x512x512.Idx → EReal) (ix3 n i k)
      = (weights V).first ((fun i => i) i) (fun k => doc V (ix3 n i k)) k := by
    intro i k
    refine (Batch.norm_apply (.inr rfl) (res_main_v280 V) (V (Proc.devRef .tc main_arg5)) (V (Proc.devRef .tc main_arg6)) n i k).trans ?_
    simp only [h0]
    rfl
  rw [doc_eq]
  refine (layer_apply V (.inr rfl) 1 _ _ n i j).trans ?_
  unfold Spec.Weights.encode
  have e : (fun (i : Fin 512) (k : Fin 512) => layer V 0 (by decide) (res_main_v308 V) (res_main_v304 V) (ix3 n i k))
      = Spec.layer ((weights V).par 0) (fun _ k => Spec.keyBias (docMask V (ix2 n k)))
        (fun i => (weights V).first ((fun i => i) i) (fun k => doc V (ix3 n i k))) := by
    funext i k
    refine (layer_apply V (.inr rfl) 0 _ _ n i k).trans ?_
    rw [funext fun k => hb k, funext fun i => funext fun k => hx i k]
  rw [e, funext fun k => hb k]

end Cert.Proof.Ref

end
-- ==== Proof.KerHost.lean ====
module

public import proofs.«01_k».proof.Proof.KernelIdeal.Fold
public import proofs.«01_k».proof.Proof.KerEncoders
public import proofs.«01_k».proof.Proof.RefEncoders

@[expose] public section

set_option maxRecDepth 16384
set_option maxHeartbeats 4000000

/-! # What the host passes to the three launches -/

noncomputable section

namespace Cert.Proof.Ker

open Idealize.ShloMosaic Idealize.ShloMosaic.StableHlo Cert.KernelIdeal Cert.KernelIdeal.Gen
open Idealize.ShloMosaic.TcCoe

/-- The encoder's weights among the buffers `V`. -/
def weights (V : Valuation τ sig (Elt Ideal)) : Spec.Weights where
  pos := V (Proc.devRef .tc main_arg4)
  g := V (Proc.devRef .tc main_arg5)
  b := V (Proc.devRef .tc main_arg6)
  iw := V (Proc.devRef .tc main_arg7)
  ib := V (Proc.devRef .tc main_arg8)
  ow := V (Proc.devRef .tc main_arg9)
  ob := V (Proc.devRef .tc main_arg10)
  fw := V (Proc.devRef .tc main_arg11)
  fb := V (Proc.devRef .tc main_arg12)
  hw := V (Proc.devRef .tc main_arg13)
  hb := V (Proc.devRef .tc main_arg14)
  g1 := V (Proc.devRef .tc main_arg15)
  b1 := V (Proc.devRef .tc main_arg16)
  g2 := V (Proc.devRef .tc main_arg17)
  b2 := V (Proc.devRef .tc main_arg18)

/-- A buffer after the last stretch of host operations before the launches. -/
abbrev staged (V : Valuation τ sig (Elt Ideal)) (r : Ref sig .tc) := StableHlo.after hostOps0_8 V (Proc.devRef .tc r)

/-- The first layer's buffers. -/
theorem holds_first (V : Valuation τ sig (Elt Ideal)) :
    Holds (weights V) 0 (staged V main_v82) (staged V main_v85) (staged V main_v89) (staged V main_v92)
      (staged V main_v96) (staged V main_v99) (staged V main_v103) (staged V main_v106) (staged V main_v109)
      (staged V main_v112) (staged V main_v115) (staged V main_v118) := by
  constructor <;> intros <;> unfold staged hostOps0_8 <;> after_results_simp <;> pointwise [weights]

/-- The second layer's buffers. -/
theorem holds_second (V : Valuation τ sig (Elt Ideal)) :
    Holds (weights V) 1 (staged V main_v122) (staged V main_v125) (staged V main_v129) (staged V main_v132)
      (staged V main_v136) (staged V main_v139) (staged V main_v143) (staged V main_v146) (staged V main_v149)
      (staged V main_v152) (staged V main_v155) (staged V main_v158) := by
  constructor <;> intros <;> unfold staged hostOps0_8 <;> after_results_simp <;> pointwise [weights]

/-- The scale of the first norm. -/
theorem gain_apply (V : Valuation τ sig (Elt Ideal)) (k : Fin 512) :
    (staged V main_v74 : S1x512.Idx → EReal) (ix2 0 k) = (weights V).g (ix1 k) := by
  unfold staged hostOps0_8; after_results_simp; pointwise [weights]

/-- The shift of the first norm. -/
theorem shift_apply (V : Valuation τ sig (Elt Ideal)) (k : Fin 512) :
    (staged V main_v75 : S1x512.Idx → EReal) (ix2 0 k) = (weights V).b (ix1 k) := by
  unfold staged hostOps0_8; after_results_simp; pointwise [weights]

/-- The document positions. -/
theorem docPos_apply (V : Valuation τ sig (Elt Ideal)) (i k : Fin 512) :
    (staged V main_v76 : S512x512.Idx → EReal) (ix2 i k) = (weights V).pos (ix3 0 i k) := by
  unfold staged hostOps0_8; after_results_simp; pointwise [weights]

/-- The query positions. -/
theorem queryPos_apply (V : Valuation τ sig (Elt Ideal)) (i : Fin 32) (k : Fin 512) :
    (staged V main_v78 : S32x512.Idx → EReal) (ix2 i k) = (weights V).pos (ix3 0 ⟨i.val, by omega⟩ k) := by
  unfold staged hostOps0_8; after_results_simp; pointwise [weights]

/-- The mask of the queries. -/
def queryMask (V : Valuation τ sig (Elt Ideal)) : S128x32.Idx → EReal := V (Proc.devRef .tc main_arg2)

/-- The mask of the documents. -/
def docMask (V : Valuation τ sig (Elt Ideal)) : S128x512.Idx → EReal := V (Proc.devRef .tc main_arg3)

/-- The weights of the eleven scores. -/
def dense (V : Valuation τ sig (Elt Ideal)) : S1x11.Idx → EReal := V (Proc.devRef .tc main_arg19)

/-- The weights of the pool over the queries. -/
theorem queryWeight_apply (V : Valuation τ sig (Elt Ideal)) (n : Fin 128) (i : Fin 32) (k : Fin 11) :
    (staged V main_v73 : S128x32x11.Idx → EReal) (ix3 n i k) = queryMask V (ix2 n i) * dense V (ix2 0 k) := by
  unfold staged hostOps0_8; after_results_simp; pointwise [queryMask, dense]

/-- The key bias of the queries. -/
theorem queryBias_staged (m : (ℓ : Loc nD τ sig) → Buf (Elt Ideal) ℓ) (ρ : Dev nD → PrngReg) (c : Dev nD) (n : Fin 128) (i : Fin 32) :
    (W9 m ρ c (Proc.devRef .tc main_v3) : S16x1x256.Idx → EReal) (ix3 ⟨n.val / 8, by omega⟩ 0 ⟨n.val % 8 * 32 + i.val, by omega⟩)
      = Spec.keyBias (queryMask (W0 m ρ c) (ix2 n i)) := by
  rw [W9_of m ρ c _ (by decide), W8_of m ρ c _ (by decide), W7_of m ρ c _ (by decide), W6_of m ρ c _ (by decide),
    W5_of m ρ c _ (by decide), W4_of m ρ c _ (by decide)]
  unfold W3 W2 W1 hostOps0_2 hostOps0_1 hostOps0
  simp only [TRef.unary, TRef.ternary, TRef.toBuf, TRef.ofBuf, cast_eq]
  after_results_simp
  pointwise [queryMask, Spec.keyBias]

/-- The key bias of the documents. -/
theorem docBias_staged (m : (ℓ : Loc nD τ sig) → Buf (Elt Ideal) ℓ) (ρ : Dev nD → PrngReg) (c : Dev nD) (n : Fin 128) (i : Fin 512) :
    (W9 m ρ c (Proc.devRef .tc main_v7) : S128x1x512.Idx → EReal) (ix3 n 0 i)
      = Spec.keyBias (docMask (W0 m ρ c) (ix2 n i)) := by
  rw [W9_of m ρ c _ (by decide), W8_of m ρ c _ (by decide), W7_of m ρ c _ (by decide), W6_of m ρ c _ (by decide)]
  unfold W5 W4 W3 hostOps0_4 hostOps0_3 hostOps0_2
  simp only [TRef.unary, TRef.ternary, TRef.toBuf, TRef.ofBuf, cast_eq]
  after_results_simp
  pointwise [docMask, Spec.keyBias]

end Cert.Proof.Ker

end
-- ==== Proof.Finite.lean ====
module

public import proofs.«01_k».proof.Proof.Spec

@[expose] public section

set_option maxRecDepth 16384

/-! # Normalised rows are finite, and a block of rows masked off from the others is encoded alone -/

noncomputable section

namespace Cert.Proof.Spec

open Idealize.ShloMosaic

/-- A real number. -/
def IsReal (x : EReal) : Prop := ∃ r : ℝ, x = r

theorem IsReal.coe (r : ℝ) : IsReal r := ⟨r, rfl⟩
theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.max {x y : EReal} (hx : IsReal x) (hy : IsReal y) : IsReal (max x y) := by
  rcases max_choice x y with h | h <;> rw [h] <;> assumption
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]
theorem IsReal.sum {ι : Type} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩
theorem IsReal.div {x : EReal} {r : ℝ} (hx : IsReal x) (hr : r ≠ 0) : IsReal (Ideal.div x r) := by
  rw [Ideal.div_coe hr]; exact hx.mul (.coe _)

theorem width_eq : width = ((512 : ℝ) : EReal) := by
  unfold width; simp [Ideal.ofBits, Ideal.ieee, -EReal.coe_mul]; norm_num
theorem small_eq : small = ((10995116 / 1099511627776 : ℝ) : EReal) := by
  unfold small; simp [Ideal.ofBits, Ideal.ieee, -EReal.coe_mul]; norm_num
theorem eighth_eq : eighth = ((1 / 8 : ℝ) : EReal) := by
  unfold eighth; simp [Ideal.ofBits, Ideal.ieee, -EReal.coe_mul]; norm_num
theorem mask_eq : Ideal.ofBits .f32 0xCE6E6B28#32 = ((-1000000000 : ℝ) : EReal) := by
  simp [Ideal.ofBits, Ideal.ieee, -EReal.coe_mul]; norm_num

theorem keyBias_real (m : EReal) : IsReal (keyBias m) := by
  unfold keyBias; split
  · exact .zero
  · exact ⟨_, mask_eq⟩

theorem IsReal.of_add {x y : EReal} (h : IsReal (x + y)) : IsReal x ∧ IsReal y := by
  obtain ⟨r, h⟩ := h
  induction x with
  | bot => rw [EReal.bot_add] at h; exact absurd h (EReal.bot_ne_coe r)
  | top =>
    induction y with
    | bot => rw [EReal.add_bot] at h; exact absurd h (EReal.bot_ne_coe r)
    | top => exact absurd h (EReal.top_ne_coe r)
    | coe y => rw [EReal.top_add_coe] at h; exact absurd h (EReal.top_ne_coe r)
  | coe x =>
    induction y with
    | bot => rw [EReal.add_bot] at h; exact absurd h (EReal.bot_ne_coe r)
    | top => rw [EReal.coe_add_top] at h; exact absurd h (EReal.top_ne_coe r)
    | coe y => exact ⟨.coe x, .coe y⟩

theorem IsReal.of_sum {ι : Type} {s : Finset ι} {f : ι → EReal} (h : IsReal (∑ i ∈ s, f i)) : ∀ i ∈ s, IsReal (f i) := by
  classical
  induction s using Finset.induction_on with
  | empty => simp
  | insert a s ha ih =>
    rw [Finset.sum_insert ha] at h
    intro i hi
    rcases Finset.mem_insert.mp hi with rfl | hi
    · exact h.of_add.1
    · exact ih h.of_add.2 i hi

theorem sum_top {ι : Type} {s : Finset ι} (hs : s.Nonempty) : (∑ _i ∈ s, (⊤ : EReal)) = ⊤ := by
  classical
  induction hs using Finset.Nonempty.cons_induction with
  | singleton a => simp
  | cons a s ha hs ih => rw [Finset.sum_cons, ih]; rfl

/-- A mean is infinite when an entry is. -/
theorem mean_infinite {x : Fin 512 → EReal} (h : ¬ ∀ k, IsReal (x k)) : mean x = ⊤ ∨ mean x = ⊥ := by
  unfold mean
  rw [width_eq, Ideal.div_coe (by norm_num)]
  have hs : ¬ IsReal (∑ k, x k) := fun hs => h fun k => hs.of_sum k (Finset.mem_univ k)
  generalize (∑ k, x k) = s at hs
  induction s with
  | bot => exact .inr (EReal.bot_mul_coe_of_pos (by norm_num))
  | top => exact .inl (EReal.top_mul_coe_of_pos (by norm_num))
  | coe r => exact absurd (.coe r) hs

/-- The distance to an infinity, squared. -/
theorem square_infinite (x : EReal) {m : EReal} (h : m = ⊤ ∨ m = ⊥) : (x - m) * (x - m) = ⊤ := by
  rcases h with rfl | rfl
  · rw [sub_eq_add_neg, EReal.neg_top, EReal.add_bot]; rfl
  · rw [sub_eq_add_neg, EReal.neg_bot]
    induction x with
    | bot => rw [EReal.bot_add]; rfl
    | top => rfl
    | coe x => rw [EReal.coe_add_top]; rfl

/-- A row with an infinite entry is normalised to the shift. -/
theorem norm_infinite {x g b : Fin 512 → EReal} (h : ¬ ∀ k, IsReal (x k)) (j : Fin 512) : norm x g b j = b j := by
  have hv : mean (fun k => (x k - mean x) * (x k - mean x)) = ⊤ := by
    simp only [square_infinite _ (mean_infinite h)]
    unfold mean
    rw [sum_top Finset.univ_nonempty, width_eq, Ideal.div_coe (by norm_num)]
    exact EReal.top_mul_coe_of_pos (by norm_num)
  unfold norm
  rw [hv, small_eq, EReal.top_add_coe, Ideal.sqrt_top, Ideal.div, if_neg EReal.top_ne_zero, EReal.inv_top, mul_zero, zero_mul, zero_add]

/-- A normalised row is finite. -/
theorem norm_real {x g b : Fin 512 → EReal} (hg : ∀ k, IsReal (g k)) (hb : ∀ k, IsReal (b k)) (j : Fin 512) :
    IsReal (norm x g b j) := by
  by_cases hx : ∀ k, IsReal (x k)
  swap
  · rw [norm_infinite hx]; exact hb j
  obtain ⟨a, ha⟩ : ∃ a : Fin 512 → ℝ, ∀ k, x k - mean x = a k := by
    have hm : IsReal (mean x) := by unfold mean; rw [width_eq]; exact (IsReal.sum hx).div (by norm_num)
    have h : ∀ k, IsReal (x k - mean x) := fun k => (hx k).sub hm
    choose a ha using h
    exact ⟨a, ha⟩
  have hv : mean (fun k => (x k - mean x) * (x k - mean x)) = ((∑ k, a k * a k) * (1 / 512) : ℝ) := by
    unfold mean
    simp only [show ∀ k, x k - Ideal.div (∑ k, x k) width = a k from ha, ← EReal.coe_mul]
    rw [coe_sum, width_eq, Ideal.div_coe (by norm_num), ← EReal.coe_mul]
  have hp : 0 < (∑ k, a k * a k) * (1 / 512) + (10995116 / 1099511627776 : ℝ) :=
    add_pos_of_nonneg_of_pos (mul_nonneg (Finset.sum_nonneg fun k _ => mul_self_nonneg _) (by norm_num)) (by norm_num)
  have hs : Ideal.sqrt (mean (fun k => (x k - mean x) * (x k - mean x)) + small)
      = (Real.sqrt ((∑ k, a k * a k) * (1 / 512) + (10995116 / 1099511627776 : ℝ)) : EReal) := by
    rw [hv, small_eq, ← EReal.coe_add]
    exact if_neg (not_lt.mpr hp.le)
  unfold norm
  rw [hs, ha]
  exact (((IsReal.coe _).div (Real.sqrt_pos.mpr hp).ne').mul (hg j)).add (hb j)

theorem lin_real {K N : ℕ} {x : Fin K → EReal} {w : Fin K → Fin N → EReal} {b : Fin N → EReal} {j : Fin N} (hx : ∀ k, IsReal (x k))
    (hw : ∀ k, IsReal (w k j)) (hb : IsReal (b j)) : IsReal (lin x w b j) :=
  (IsReal.sum fun k => (hx k).mul (hw k)).add hb

theorem top_real {κ : Type} [Fintype κ] [Nonempty κ] {s : κ → EReal} (hs : ∀ k, IsReal (s k)) : IsReal (Finset.univ.fold max ⊥ s) := by
  obtain ⟨k, -, hk⟩ := Finset.exists_mem_eq_sup Finset.univ Finset.univ_nonempty s
  rw [show Finset.univ.fold max ⊥ s = s k from hk]
  exact hs k

theorem soft_pos {κ : Type} [Fintype κ] [Nonempty κ] {s : κ → EReal} (hs : ∀ k, IsReal (s k)) {M : EReal} (hM : IsReal M) :
    ∃ r : ℝ, 0 < r ∧ (∑ l, Ideal.exp (s l - M)) = r := by
  have h : ∀ k, IsReal (s k - M) := fun k => (hs k).sub hM
  choose a ha using h
  refine ⟨∑ l, Real.exp (a l), Finset.sum_pos (fun l _ => Real.exp_pos _) Finset.univ_nonempty, ?_⟩
  rw [← coe_sum]
  exact Finset.sum_congr rfl fun l _ => by rw [ha]; rfl

section block

variable {ι κ : Type} [Fintype ι] [Fintype κ] [Nonempty κ] (e : κ → ι) (he : Function.Injective e)

include he in
/-- Keys scored ⊥ do not count. -/
theorem att_block {s v : ι → EReal} (hs : ∀ k, IsReal (s (e k))) (h : ∀ i, i ∉ Set.range e → s i = ⊥) :
    att s v = att (fun k => s (e k)) (fun k => v (e k)) := by
  have hM : Finset.univ.fold max ⊥ s = Finset.univ.fold max ⊥ (fun k => s (e k)) := by
    refine le_antisymm (Finset.sup_le fun i _ => ?_) (Finset.sup_le fun k _ => ?_)
    · by_cases hi : i ∈ Set.range e
      · obtain ⟨k, rfl⟩ := hi
        exact Finset.le_sup (f := fun k => s (e k)) (Finset.mem_univ k)
      · rw [h i hi]; exact bot_le
    · exact Finset.le_sup (f := s) (Finset.mem_univ (e k))
  have hR := top_real hs
  obtain ⟨r, hr, hD⟩ := soft_pos hs hR
  have hz : ∀ i, i ∉ Set.range e → Ideal.exp (s i - Finset.univ.fold max ⊥ (fun k => s (e k))) = 0 := by
    intro i hi
    rw [h i hi, sub_eq_add_neg, EReal.bot_add]; rfl
  have hS : (∑ l, Ideal.exp (s l - Finset.univ.fold max ⊥ (fun k => s (e k)))) = r := by
    rw [← hD]
    exact (Fintype.sum_of_injective e he _ _ hz fun _ => rfl).symm
  unfold att
  rw [hM, hS, hD]
  refine (Fintype.sum_of_injective e he _ _ (fun i hi => ?_) fun _ => rfl).symm
  rw [hz i hi, Ideal.div_coe hr.ne', zero_mul, zero_mul]

/-- What the scores of a layer read of its parameters is finite. -/
structure Par.Finite (P : Par) : Prop where
  iw k (j : Fin 1536) (h : j.val < 1024) : IsReal (P.iw k j)
  ib (j : Fin 1536) (h : j.val < 1024) : IsReal (P.ib j)

theorem score_real {Y : κ → Fin 1536 → EReal} {bias : κ → κ → EReal} (hY : ∀ k (j : Fin 1536), j.val < 1024 → IsReal (Y k j))
    (hb : ∀ i k, IsReal (bias i k)) {oq ok : ℕ} {hq : oq ≤ 1472} {hk : ok ≤ 1472} (hq' : oq ≤ 960) (hk' : ok ≤ 960) (i k : κ) :
    IsReal (score Y bias oq ok hq hk i k) :=
  (IsReal.sum fun d => ((hY _ _ (by have := d.isLt; simp only []; omega)).mul ⟨_, eighth_eq⟩).mul
    (hY _ _ (by have := d.isLt; simp only []; omega))).add (hb _ _)

include he in
theorem heads_block {Y : ι → Fin 1536 → EReal} {bias : ι → ι → EReal} {bias' : κ → κ → EReal}
    (hY : ∀ k (j : Fin 1536), j.val < 1024 → IsReal (Y (e k) j)) (hb : ∀ i k, IsReal (bias' i k)) (h : ∀ a k, bias (e a) (e k) = bias' a k) (h' : ∀ a i, i ∉ Set.range e → bias (e a) i = ⊥) (a : κ) :
    heads Y bias (e a) = heads (fun k => Y (e k)) bias' a := by
  funext j
  refine (att_block e he (fun k => ?_) fun i hi => ?_).trans ?_
  · show IsReal (score Y bias _ _ _ _ (e a) (e k))
    unfold score; rw [h]
    exact score_real (Y := fun k => Y (e k)) hY hb (hq := by omega) (hk := by omega) (by omega) (by omega) a k
  · show score Y bias _ _ _ _ (e a) i = ⊥
    unfold score; rw [h' a i hi, EReal.add_bot]
  · unfold heads head
    refine congrArg (fun s => att s _) (funext fun k => ?_)
    show score Y bias _ _ _ _ (e a) (e k) = _
    unfold score; rw [h]

include he in
theorem layer_block {P : Par} (hP : P.Finite) {bias : ι → ι → EReal} {bias' : κ → κ → EReal} {X : ι → Fin 512 → EReal}
    (hX : ∀ k j, IsReal (X (e k) j)) (hb : ∀ i k, IsReal (bias' i k)) (h : ∀ a k, bias (e a) (e k) = bias' a k)
    (h' : ∀ a i, i ∉ Set.range e → bias (e a) i = ⊥) (a : κ) :
    layer P bias X (e a) = layer P bias' (fun k => X (e k)) a := by
  unfold layer mid
  rw [heads_block e he (fun k j hj => lin_real (hX k) (fun l => hP.iw l j hj) (hP.ib j hj)) hb h h']

/-- What the scores of the encoder read is finite: the last normalisation before each layer, and the part of its first matrix that
makes queries and keys. -/
structure Weights.Finite (W : Weights) : Prop where
  g i : IsReal (W.g i)
  b i : IsReal (W.b i)
  iw l (j : Fin 1536) k (h : j.val < 1024) : IsReal (W.iw (ix3 l j k))
  ib l (j : Fin 1536) (h : j.val < 1024) : IsReal (W.ib (ix2 l j))
  g2 j : IsReal (W.g2 (ix2 0 j))
  b2 j : IsReal (W.b2 (ix2 0 j))

theorem Weights.Finite.par {W : Weights} (h : W.Finite) (l : Fin 2) : (W.par l).Finite :=
  ⟨fun _ _ hj => h.iw _ _ _ hj, fun _ hj => h.ib _ _ hj⟩

include he in
/-- A block of rows whose keys outside the block are biased by ⊥ is encoded alone. -/
theorem encode_block {W : Weights} (hW : W.Finite) {bias : ι → ι → EReal} {kb : κ → EReal} {p : ι → Fin 512} {X : ι → Fin 512 → EReal}
    (hb : ∀ k, IsReal (kb k)) (h : ∀ a k, bias (e a) (e k) = kb k)
    (h' : ∀ a i, i ∉ Set.range e → bias (e a) i = ⊥) (a : κ) :
    W.encode bias p X (e a) = W.encode (fun _ k => kb k) (fun k => p (e k)) (fun k => X (e k)) a := by
  have h0 : ∀ k j, IsReal (W.first (p (e k)) (X (e k)) j) := fun k j =>
    norm_real (fun _ => hW.g _) (fun _ => hW.b _) j
  have hl : ∀ k, layer (W.par 0) bias (fun i => W.first (p i) (X i)) (e k)
      = layer (W.par 0) (fun _ k => kb k) (fun k => W.first (p (e k)) (X (e k))) k := fun k =>
    layer_block e he (hW.par 0) (X := fun i => W.first (p i) (X i)) h0 (fun _ k => hb k) h h' k
  unfold Weights.encode
  rw [layer_block e he (hW.par 1) (bias' := fun _ k => kb k) (fun k j => ?_) (fun _ k => hb k) h h' a]
  · simp only [hl]
  · rw [hl]
    exact norm_real (fun _ => hW.g2 _) (fun _ => hW.b2 _) j

end block

end Cert.Proof.Spec

end
-- ==== Proof.KerArrays.lean ====
module

public import proofs.«01_k».proof.Proof.KerHost
public import proofs.«01_k».proof.Proof.Finite
public import Idealize.ShloMosaic.Lib.Pipeline.ValueKit

@[expose] public section

set_option maxRecDepth 16384
set_option maxHeartbeats 4000000

/-! # The arrays the two encoder launches leave -/

noncomputable section

namespace Cert.Proof.Ker

open Idealize.ShloMosaic Idealize.ShloMosaic.StableHlo Cert.KernelIdeal Cert.KernelIdeal.Gen
open Idealize.ShloMosaic.TcCoe

theorem Holds.congr {W : Spec.Weights} {l : Fin 2} {iw ib ow ob fw fb hw hb g1 b1 g2 b2 iw' ib' ow' ob' fw' fb' hw' hb' g1' b1' g2' b2'}
    (H : Holds W l iw ib ow ob fw fb hw hb g1 b1 g2 b2) (e1 : iw' = iw) (e2 : ib' = ib) (e3 : ow' = ow) (e4 : ob' = ob)
    (e5 : fw' = fw) (e6 : fb' = fb) (e7 : hw' = hw) (e8 : hb' = hb) (e9 : g1' = g1) (e10 : b1' = b1) (e11 : g2' = g2) (e12 : b2' = b2) :
    Holds W l iw' ib' ow' ob' fw' fb' hw' hb' g1' b1' g2' b2' := by
  subst e1 e2 e3 e4 e5 e6 e7 e8 e9 e10 e11 e12; exact H

variable (m : (ℓ : Loc nD τ sig) → Buf (Elt Ideal) ℓ) (ρ : Dev nD → PrngReg) (c : Dev nD)
  (V : (c : Dev nD) → (b : Ref sig .tc) → Buf (Elt Ideal) ((c : Thread nD τ).loc b))

/-- A launch's entry contents are the host's, up to the encoders' own results. -/
def Enters : Prop := ∀ r : Ref sig .tc, r ∉ [main_v159, main_v160] → V c r = W9 m ρ c (Proc.devRef .tc r)

/-- The queries. -/
def query (V : Valuation τ sig (Elt Ideal)) : S128x32x512.Idx → EReal := V (Proc.devRef .tc main_arg0)

/-- The documents. -/
def doc (V : Valuation τ sig (Elt Ideal)) : S128x512x512.Idx → EReal := V (Proc.devRef .tc main_arg1)

variable {m ρ c V}

/-- The blocks of launch 1 that move with the point. -/
theorem moving1 : ∀ t : Fin grid1.N, win1_0.index t = ![t.val, 0, 0] ∧ win1_1.index t = ![t.val, 0, 0] ∧ win1_29.index t = ![t.val, 0, 0] := by
  decide +kernel

/-- The other input blocks of launch 1 are whole arrays. -/
theorem rest1 : ∀ w : Fin 30, 2 ≤ w → w < 29 → ∀ t : Fin grid1.N, ∀ a, (cfg1.win w).index t a = 0 := by
  decide +kernel

theorem whole1 (t : Fin cfg1.N) :
    (iblk1 V c 2 t : S512x512.Idx → EReal) = V c main_v76 ∧ (iblk1 V c 3 t : S1x512.Idx → EReal) = V c main_v74 ∧
    (iblk1 V c 4 t : S1x512.Idx → EReal) = V c main_v75 ∧ (iblk1 V c 5 t : S512x1536.Idx → EReal) = V c main_v82 ∧
    (iblk1 V c 6 t : S1x1536.Idx → EReal) = V c main_v85 ∧ (iblk1 V c 7 t : S512x512.Idx → EReal) = V c main_v89 ∧
    (iblk1 V c 8 t : S1x512.Idx → EReal) = V c main_v92 ∧ (iblk1 V c 9 t : S512x2048.Idx → EReal) = V c main_v96 ∧
    (iblk1 V c 10 t : S1x2048.Idx → EReal) = V c main_v99 ∧ (iblk1 V c 11 t : S2048x512.Idx → EReal) = V c main_v103 ∧
    (iblk1 V c 12 t : S1x512.Idx → EReal) = V c main_v106 ∧ (iblk1 V c 13 t : S1x512.Idx → EReal) = V c main_v109 ∧
    (iblk1 V c 14 t : S1x512.Idx → EReal) = V c main_v112 ∧ (iblk1 V c 15 t : S1x512.Idx → EReal) = V c main_v115 ∧
    (iblk1 V c 16 t : S1x512.Idx → EReal) = V c main_v118 ∧ (iblk1 V c 17 t : S512x1536.Idx → EReal) = V c main_v122 ∧
    (iblk1 V c 18 t : S1x1536.Idx → EReal) = V c main_v125 ∧ (iblk1 V c 19 t : S512x512.Idx → EReal) = V c main_v129 ∧
    (iblk1 V c 20 t : S1x512.Idx → EReal) = V c main_v132 ∧ (iblk1 V c 21 t : S512x2048.Idx → EReal) = V c main_v136 ∧
    (iblk1 V c 22 t : S1x2048.Idx → EReal) = V c main_v139 ∧ (iblk1 V c 23 t : S2048x512.Idx → EReal) = V c main_v143 ∧
    (iblk1 V c 24 t : S1x512.Idx → EReal) = V c main_v146 ∧ (iblk1 V c 25 t : S1x512.Idx → EReal) = V c main_v149 ∧
    (iblk1 V c 26 t : S1x512.Idx → EReal) = V c main_v152 ∧ (iblk1 V c 27 t : S1x512.Idx → EReal) = V c main_v155 ∧
    (iblk1 V c 28 t : S1x512.Idx → EReal) = V c main_v158 := by
  refine ⟨?_, ?_, ?_, ?_, ?_, ?_, ?_, ?_, ?_, ?_, ?_, ?_, ?_, ?_, ?_, ?_, ?_, ?_, ?_, ?_, ?_, ?_, ?_, ?_, ?_, ?_, ?_⟩ <;>
    funext y <;>
    blk_ext [iblk1,
      rest1 2 (by decide) (by decide), rest1 3 (by decide) (by decide), rest1 4 (by decide) (by decide),
      rest1 5 (by decide) (by decide), rest1 6 (by decide) (by decide), rest1 7 (by decide) (by decide),
      rest1 8 (by decide) (by decide), rest1 9 (by decide) (by decide), rest1 10 (by decide) (by decide),
      rest1 11 (by decide) (by decide), rest1 12 (by decide) (by decide), rest1 13 (by decide) (by decide),
      rest1 14 (by decide) (by decide), rest1 15 (by decide) (by decide), rest1 16 (by decide) (by decide),
      rest1 17 (by decide) (by decide), rest1 18 (by decide) (by decide), rest1 19 (by decide) (by decide),
      rest1 20 (by decide) (by decide), rest1 21 (by decide) (by decide), rest1 22 (by decide) (by decide),
      rest1 23 (by decide) (by decide), rest1 24 (by decide) (by decide), rest1 25 (by decide) (by decide),
      rest1 26 (by decide) (by decide), rest1 27 (by decide) (by decide), rest1 28 (by decide) (by decide)]

/-- The encoded documents. -/
def docs (W : Valuation τ sig (Elt Ideal)) (i : S128x512x512.Idx) : EReal :=
  (weights W).encode (fun _ k => Spec.keyBias (docMask W (ix2 (i 0) k))) (fun a => a) (fun a k => doc W (ix3 (i 0) a k)) (i 1) (i 2)

/-- What launch 1 leaves. -/
theorem docs_left (hW : weights (W8 m ρ c) = weights (W0 m ρ c)) (hV : Enters m ρ c V) :
    ((dat1 V c).arrAt 29 cfg1.N : S128x512x512.Idx → EReal) = docs (W0 m ρ c) := by
  refine (dat1 V c).arrAt_eq_of_covers 29 _ (by decide +kernel) fun t hf y => ?_
  blk_simp
  rw [after1_29]
  obtain ⟨e2, e3, e4, e5, e6, e7, e8, e9, e10, e11, e12, e13, e14, e15, e16, e17, e18, e19, e20, e21, e22, e23, e24, e25, e26, e27, e28⟩ := whole1 t
  obtain ⟨m0, m1, m29⟩ := moving1 t
  obtain ⟨i, j, rfl⟩ : ∃ (i j : Fin 512), y = (ix3 0 i j : S1x512x512.Idx) := ⟨y 1, y 2, by blk_ext []⟩
  have hy : (win1_29.blk t).view.emb (ix3 0 i j) = (ix3 (t : Fin 128) i j : S128x512x512.Idx) := by blk_ext [m29]
  have h0 : ∀ i k, (iblk1 V c 0 t : S1x512x512.Idx → EReal) (ix3 0 i k) = doc (W0 m ρ c) (ix3 (t : Fin 128) i k) := by
    intro i k
    refine Eq.trans (b := (V c main_arg1 : S128x512x512.Idx → EReal) (ix3 (t : Fin 128) i k)) ?_ ?_
    · blk_ext [iblk1, m0]
    · rw [hV main_arg1 (by decide), W9_args m ρ c main_arg1 (by decide)]; rfl
  have h1 : ∀ k, (iblk1 V c 1 t : S1x1x512.Idx → EReal) (ix3 0 0 k) = Spec.keyBias (docMask (W0 m ρ c) (ix2 (t : Fin 128) k)) := by
    intro k
    refine Eq.trans (b := (V c main_v7 : S128x1x512.Idx → EReal) (ix3 (t : Fin 128) 0 k)) ?_ ?_
    · blk_ext [iblk1, m1]
    · rw [hV main_v7 (by decide)]; exact docBias_staged m ρ c t k
  rw [hy]
  refine (doc_apply _ _ _ _ _ _ _ _ _ _ _ _ _ _ _ _ _ _ _ _ _ _ _ _ _ _ _ _ _
    ((holds_first _).congr (e5.trans (hV main_v82 (by decide))) (e6.trans (hV main_v85 (by decide))) (e7.trans (hV main_v89 (by decide)))
      (e8.trans (hV main_v92 (by decide))) (e9.trans (hV main_v96 (by decide))) (e10.trans (hV main_v99 (by decide)))
      (e11.trans (hV main_v103 (by decide))) (e12.trans (hV main_v106 (by decide)))
      (e13.trans (hV main_v109 (by decide))) (e14.trans (hV main_v112 (by decide)))
      (e15.trans (hV main_v115 (by decide))) (e16.trans (hV main_v118 (by decide))))
    ((holds_second _).congr (e17.trans (hV main_v122 (by decide))) (e18.trans (hV main_v125 (by decide)))
      (e19.trans (hV main_v129 (by decide))) (e20.trans (hV main_v132 (by decide)))
      (e21.trans (hV main_v136 (by decide))) (e22.trans (hV main_v139 (by decide)))
      (e23.trans (hV main_v143 (by decide))) (e24.trans (hV main_v146 (by decide)))
      (e25.trans (hV main_v149 (by decide))) (e26.trans (hV main_v152 (by decide)))
      (e27.trans (hV main_v155 (by decide))) (e28.trans (hV main_v158 (by decide))))
    (fun i k => (congrFun (e2.trans (hV main_v76 (by decide))) _).trans (docPos_apply _ i k)) (fun k => (congrFun (e3.trans (hV main_v74 (by decide))) _).trans (gain_apply _ k))
    (fun k => (congrFun (e4.trans (hV main_v75 (by decide))) _).trans (shift_apply _ k)) i j).trans ?_
  rw [hW]
  simp only [h0, h1]
  rfl

/-- The blocks of launch 0 that move with the point. -/
theorem moving0 : ∀ t : Fin grid0.N, win0_0.index t = ![t.val, 0, 0] ∧ win0_1.index t = ![t.val, 0, 0] ∧ win0_29.index t = ![t.val, 0, 0] := by
  decide +kernel

/-- The other input blocks of launch 0 are whole arrays. -/
theorem rest0 : ∀ w : Fin 30, 2 ≤ w → w < 29 → ∀ t : Fin grid0.N, ∀ a, (cfg0.win w).index t a = 0 := by
  decide +kernel

theorem whole0 (t : Fin cfg0.N) :
    (iblk0 V c 2 t : S32x512.Idx → EReal) = V c main_v78 ∧ (iblk0 V c 3 t : S1x512.Idx → EReal) = V c main_v74 ∧
    (iblk0 V c 4 t : S1x512.Idx → EReal) = V c main_v75 ∧ (iblk0 V c 5 t : S512x1536.Idx → EReal) = V c main_v82 ∧
    (iblk0 V c 6 t : S1x1536.Idx → EReal) = V c main_v85 ∧ (iblk0 V c 7 t : S512x512.Idx → EReal) = V c main_v89 ∧
    (iblk0 V c 8 t : S1x512.Idx → EReal) = V c main_v92 ∧ (iblk0 V c 9 t : S512x2048.Idx → EReal) = V c main_v96 ∧
    (iblk0 V c 10 t : S1x2048.Idx → EReal) = V c main_v99 ∧ (iblk0 V c 11 t : S2048x512.Idx → EReal) = V c main_v103 ∧
    (iblk0 V c 12 t : S1x512.Idx → EReal) = V c main_v106 ∧ (iblk0 V c 13 t : S1x512.Idx → EReal) = V c main_v109 ∧
    (iblk0 V c 14 t : S1x512.Idx → EReal) = V c main_v112 ∧ (iblk0 V c 15 t : S1x512.Idx → EReal) = V c main_v115 ∧
    (iblk0 V c 16 t : S1x512.Idx → EReal) = V c main_v118 ∧ (iblk0 V c 17 t : S512x1536.Idx → EReal) = V c main_v122 ∧
    (iblk0 V c 18 t : S1x1536.Idx → EReal) = V c main_v125 ∧ (iblk0 V c 19 t : S512x512.Idx → EReal) = V c main_v129 ∧
    (iblk0 V c 20 t : S1x512.Idx → EReal) = V c main_v132 ∧ (iblk0 V c 21 t : S512x2048.Idx → EReal) = V c main_v136 ∧
    (iblk0 V c 22 t : S1x2048.Idx → EReal) = V c main_v139 ∧ (iblk0 V c 23 t : S2048x512.Idx → EReal) = V c main_v143 ∧
    (iblk0 V c 24 t : S1x512.Idx → EReal) = V c main_v146 ∧ (iblk0 V c 25 t : S1x512.Idx → EReal) = V c main_v149 ∧
    (iblk0 V c 26 t : S1x512.Idx → EReal) = V c main_v152 ∧ (iblk0 V c 27 t : S1x512.Idx → EReal) = V c main_v155 ∧
    (iblk0 V c 28 t : S1x512.Idx → EReal) = V c main_v158 := by
  refine ⟨?_, ?_, ?_, ?_, ?_, ?_, ?_, ?_, ?_, ?_, ?_, ?_, ?_, ?_, ?_, ?_, ?_, ?_, ?_, ?_, ?_, ?_, ?_, ?_, ?_, ?_, ?_⟩ <;>
    funext y <;>
    blk_ext [iblk0,
      rest0 2 (by decide) (by decide), rest0 3 (by decide) (by decide), rest0 4 (by decide) (by decide),
      rest0 5 (by decide) (by decide), rest0 6 (by decide) (by decide), rest0 7 (by decide) (by decide),
      rest0 8 (by decide) (by decide), rest0 9 (by decide) (by decide), rest0 10 (by decide) (by decide),
      rest0 11 (by decide) (by decide), rest0 12 (by decide) (by decide), rest0 13 (by decide) (by decide),
      rest0 14 (by decide) (by decide), rest0 15 (by decide) (by decide), rest0 16 (by decide) (by decide),
      rest0 17 (by decide) (by decide), rest0 18 (by decide) (by decide), rest0 19 (by decide) (by decide),
      rest0 20 (by decide) (by decide), rest0 21 (by decide) (by decide), rest0 22 (by decide) (by decide),
      rest0 23 (by decide) (by decide), rest0 24 (by decide) (by decide), rest0 25 (by decide) (by decide),
      rest0 26 (by decide) (by decide), rest0 27 (by decide) (by decide), rest0 28 (by decide) (by decide)]

/-- The encoded queries. -/
def queries (W : Valuation τ sig (Elt Ideal)) (i : S128x32x512.Idx) : EReal :=
  (weights W).encode (fun _ k => Spec.keyBias (queryMask W (ix2 (i 0) k))) (fun a => ⟨a.val, by omega⟩) (fun a k => query W (ix3 (i 0) a k)) (i 1) (i 2)

/-- What launch 0 leaves. -/
theorem queries_left (hW : weights (W8 m ρ c) = weights (W0 m ρ c)) (hV : Enters m ρ c V) (hF : (weights (W0 m ρ c)).Finite) :
    ((dat0 V c).arrAt 29 cfg0.N : S128x32x512.Idx → EReal) = queries (W0 m ρ c) := by
  refine (dat0 V c).arrAt_eq_of_covers 29 _ (by decide +kernel) fun t hf y => ?_
  blk_simp
  rw [after0_29]
  obtain ⟨e2, e3, e4, e5, e6, e7, e8, e9, e10, e11, e12, e13, e14, e15, e16, e17, e18, e19, e20, e21, e22, e23, e24, e25, e26, e27, e28⟩ := whole0 t
  obtain ⟨m0, m1, m29⟩ := moving0 t
  have ht : t.val < 16 := t.isLt
  obtain ⟨b, i, j, rfl⟩ : ∃ (b : Fin 8) (i : Fin 32) (j : Fin 512), y = (ix3 b i j : S8x32x512.Idx) := ⟨y 0, y 1, y 2, by blk_ext []⟩
  have hy : (win0_29.blk t).view.emb (ix3 b i j) = (ix3 ⟨t.val * 8 + b.val, by omega⟩ i j : S128x32x512.Idx) := by blk_ext [m29]
  have h0 : ∀ (b : Fin 8) (i : Fin 32) k, (iblk0 V c 0 t : S8x32x512.Idx → EReal) (ix3 b i k)
      = query (W0 m ρ c) (ix3 ⟨t.val * 8 + b.val, by omega⟩ i k) := by
    intro b i k
    refine Eq.trans (b := (V c main_arg0 : S128x32x512.Idx → EReal) (ix3 ⟨t.val * 8 + b.val, by omega⟩ i k)) ?_ ?_
    · blk_ext [iblk0, m0]
    · rw [hV main_arg0 (by decide), W9_args m ρ c main_arg0 (by decide)]; rfl
  have h1 : ∀ (b : Fin 8) (i : Fin 32), (iblk0 V c 1 t : S1x1x256.Idx → EReal) (ix3 0 0 ⟨b.val * 32 + i.val, by omega⟩)
      = Spec.keyBias (queryMask (W0 m ρ c) (ix2 ⟨t.val * 8 + b.val, by omega⟩ i)) := by
    intro b i
    refine Eq.trans (b := (V c main_v3 : S16x1x256.Idx → EReal) (ix3 ⟨(t.val * 8 + b.val) / 8, by omega⟩ 0
      ⟨(t.val * 8 + b.val) % 8 * 32 + i.val, by omega⟩)) ?_ ?_
    · blk_ext [iblk0, m1]
    · rw [hV main_v3 (by decide)]; exact queryBias_staged m ρ c ⟨t.val * 8 + b.val, by omega⟩ i
  rw [hy]
  refine (query_apply _ _ _ _ _ _ _ _ _ _ _ _ _ _ _ _ _ _ _ _ _ _ _ _ _ _ _ _ _
    ((holds_first _).congr (e5.trans (hV main_v82 (by decide))) (e6.trans (hV main_v85 (by decide))) (e7.trans (hV main_v89 (by decide)))
      (e8.trans (hV main_v92 (by decide))) (e9.trans (hV main_v96 (by decide))) (e10.trans (hV main_v99 (by decide)))
      (e11.trans (hV main_v103 (by decide))) (e12.trans (hV main_v106 (by decide)))
      (e13.trans (hV main_v109 (by decide))) (e14.trans (hV main_v112 (by decide)))
      (e15.trans (hV main_v115 (by decide))) (e16.trans (hV main_v118 (by decide))))
    ((holds_second _).congr (e17.trans (hV main_v122 (by decide))) (e18.trans (hV main_v125 (by decide)))
      (e19.trans (hV main_v129 (by decide))) (e20.trans (hV main_v132 (by decide)))
      (e21.trans (hV main_v136 (by decide))) (e22.trans (hV main_v139 (by decide)))
      (e23.trans (hV main_v143 (by decide))) (e24.trans (hV main_v146 (by decide)))
      (e25.trans (hV main_v149 (by decide))) (e26.trans (hV main_v152 (by decide)))
      (e27.trans (hV main_v155 (by decide))) (e28.trans (hV main_v158 (by decide))))
    (fun i k => (congrFun (e2.trans (hV main_v78 (by decide))) _).trans (queryPos_apply _ i k)) (fun k => (congrFun (e3.trans (hV main_v74 (by decide))) _).trans (gain_apply _ k))
    (fun k => (congrFun (e4.trans (hV main_v75 (by decide))) _).trans (shift_apply _ k)) b i j).trans ?_
  rw [hW]
  have hc : ∀ i : Fin 32, (b.val * 32 + i.val) / 32 = b.val ∧ (b.val * 32 + i.val) % 32 = i.val := fun i => by omega
  refine (congrFun (Spec.encode_block (fun k : Fin 32 => (⟨b.val * 32 + k.val, by omega⟩ : Fin 256)) (fun a a' h => ?_) hF
    (kb := fun k => Spec.keyBias (queryMask (W0 m ρ c) (ix2 ⟨t.val * 8 + b.val, by omega⟩ k))) (fun k => Spec.keyBias_real _)
    (fun a k => ?_) (fun a i hi => ?_) i) j).trans ?_
  · have := congrArg Fin.val h
    simp only [] at this
    apply Fin.ext; omega
  · simp only [h1, (hc a).1, (hc k).1, if_true, add_zero]
  · rw [if_neg, EReal.add_bot]
    intro h
    rw [(hc a).1] at h
    exact hi ⟨⟨i.val % 32, by omega⟩, by apply Fin.ext; simp only []; omega⟩
  · simp only [h0, (hc _).1, (hc _).2]
    rfl

end Cert.Proof.Ker

end
-- ==== Proof.RefPool.lean ====
module

public import proofs.«01_k».proof.Proof.RefEncoders

@[expose] public section

set_option maxRecDepth 16384
set_option maxHeartbeats 4000000

/-! # The reference's score of a pair of encodings -/

noncomputable section

namespace Cert.Proof.Ref

open Idealize.ShloMosaic Idealize.ShloMosaic.StableHlo Cert.ReferenceIdeal Cert.ReferenceIdeal.Gen Cert.ReferenceIdeal.Value
open Idealize.ShloMosaic.TcCoe

variable (V : Valuation τ sig (Elt Ideal))

/-- The weights of the eleven scores. -/
def dense : S1x11.Idx → EReal := V (Proc.devRef .tc main_arg19)

/-- The bias of a document's position. -/
def posBias : FVec Ideal S128x512 .f32 :=
    Host.gather gather_S11_S128x512x1_S128x512_n_0_n_n_0_2_1 (V (Proc.devRef .tc main_arg20)) (broadcastInDim
      S128x512x1 ![0, 1] bcast_S128x512_S128x512x1_0_1 (select (cmpi .slt (res_main_v614 V) (broadcastInDim
      S128x512 ![] bcast_S_S128x512 (constantI S_ 32 0#32))) (addi (res_main_v614 V) (broadcastInDim S128x512
      ![] bcast_S_S128x512 (constantI S_ 32 11#32))) (res_main_v614 V)))

/-- The bias of a document's absolute position. -/
def absBias : FVec Ideal S128x512 .f32 :=
    Host.gather gather_S9_S128x512x1_S128x512_n_0_n_n_0_2_1 (V (Proc.devRef .tc main_arg21)) (broadcastInDim
      S128x512x1 ![0, 1] bcast_S128x512_S128x512x1_0_1 (select (cmpi .slt (res_main_v626 V) (broadcastInDim
      S128x512 ![] bcast_S_S128x512 (constantI S_ 32 0#32))) (addi (res_main_v626 V) (broadcastInDim S128x512
      ![] bcast_S_S128x512 (constantI S_ 32 9#32))) (res_main_v626 V)))

/-- The pool over both masks. -/
def pool (z : FVec Ideal S128x32x512x11 .f32) (qd : FVec Ideal S128x32x512 .f32) (pb ab : FVec Ideal S128x512 .f32)
    (qm : FVec Ideal S128x32 .f32) (dw : FVec Ideal S1x11 .f32) : FVec Ideal S128 .f32 :=
    shapeCast _ (Host.dotGeneral dot_S128x11_S11x1_S128x1_1_0_0_1_n_n none (Host.reduceAdd (mulf (Host.log
      (maximumf (broadcastInDim S128x32x11 ![] bcast_S_S128x32x11 (id (constant S_ .f32 0x2EDBE6FF#32)))
      (Host.reduceAdd (mulf (mulf (mulf (Host.exp (Host.divf (Host.negf (mulf z z)) (broadcastInDim
      S128x32x512x11 ![0, 1, 2, 3] bcast_S1x1x1x11_S128x32x512x11_0_1_2_3 (broadcastInDim S1x1x1x11 ![3]
      bcast_S11_S1x1x1x11_3 ((fun i => FloatOps.ofBits .f32 (lit1 (S11.rowMajor i)))))))) (broadcastInDim
      S128x32x512x11 ![0, 1, 2, 3] bcast_S128x32x512x1_S128x32x512x11_0_1_2_3 (broadcastInDim S128x32x512x1 ![0,
      1, 2] bcast_S128x32x512_S128x32x512x1_0_1_2 qd))) (broadcastInDim S128x32x512x11 ![0, 1, 2, 3]
      bcast_S128x1x512x1_S128x32x512x11_0_1_2_3 (broadcastInDim S128x1x512x1 ![0, 2]
      bcast_S128x512_S128x1x512x1_0_2 pb))) (broadcastInDim S128x32x512x11 ![0, 1, 2, 3]
      bcast_S128x1x512x1_S128x32x512x11_0_1_2_3 (broadcastInDim S128x1x512x1 ![0, 2]
      bcast_S128x512_S128x1x512x1_0_2 ab))) (constant S_ .f32 0x00000000#32)
      reducesTo_S128x32x512x11_S128x32x11_d2 h_S_))) (broadcastInDim S128x32x11 ![0, 1, 2]
      bcast_S128x32x1_S128x32x11_0_1_2 (broadcastInDim S128x32x1 ![0, 1] bcast_S128x32_S128x32x1_0_1 qm)))
      (constant S_ .f32 0x00000000#32) reducesTo_S128x32x11_S128x11_d1 h_S_) (transpose S11x1 [1, 0] dw
      transposes_S1x11_S11x1_1_0)) shapeCasts_S128x1_S128

/-- The reference's result. -/
def result : FVec Ideal S128 .f32 :=
  pool (res_main_v572 V) (res_main_v555 V) (posBias V) (absBias V) (V (Proc.devRef .tc main_arg2)) (V (Proc.devRef .tc main_arg19))

/-- Twice the squared width of kernel `k`. -/
def spread (k : Fin 11) : EReal := Ideal.ofBits .f32 (lit1 (S11.rowMajor (ix1 k)))

/-- The mean of kernel `k`. -/
def mu (k : Fin 11) : EReal := Ideal.ofBits .f32 (lit0 (S11.rowMajor (ix1 k)))

/-- The pool at an index. -/
theorem pool_apply (z : FVec Ideal S128x32x512x11 .f32) (qd : FVec Ideal S128x32x512 .f32) (pb ab : FVec Ideal S128x512 .f32)
    (qm : FVec Ideal S128x32 .f32) (dw : FVec Ideal S1x11 .f32) (n : Fin 128) :
    (pool z qd pb ab qm dw : S128.Idx → EReal) (ix1 n)
      = ∑ k : Fin 11, (∑ i : Fin 32, Ideal.log (max (Ideal.ofBits .f32 0x2EDBE6FF#32)
          (∑ j : Fin 512, Ideal.exp (Ideal.div (-(z (ix4 n i j k) * z (ix4 n i j k))) (spread k)) * qd (ix3 n i j)
            * pb (ix2 n j) * ab (ix2 n j))) * qm (ix2 n i)) * dw (ix2 0 k) := by
  pointwise [pool, spread, id]

/-- The shifted cosine at an index. -/
theorem shifted_apply (n : Fin 128) (i : Fin 32) (j : Fin 512) (k : Fin 11) :
    (res_main_v572 V : S128x32x512x11.Idx → EReal) (ix4 n i j k)
      = Spec.cosine (fun l => (res_main_v278 V : S128x32x512.Idx → EReal) (ix3 n i l))
          (fun l => (res_main_v550 V : S128x512x512.Idx → EReal) (ix3 n j l)) * (queryMask V (ix2 n i) * docMask V (ix2 n j)) - mu k := by
  pointwise [res_main_v572, res_main_v555, mu, Spec.cosine, Spec.unit, queryMask, docMask]

/-- The product of the masks at an index. -/
theorem gate_apply (n : Fin 128) (i : Fin 32) (j : Fin 512) :
    (res_main_v555 V : S128x32x512.Idx → EReal) (ix3 n i j) = queryMask V (ix2 n i) * docMask V (ix2 n j) := by
  pointwise [res_main_v555, queryMask, docMask]

end Cert.Proof.Ref

end
-- ==== Proof.KerBias.lean ====
module

public import proofs.«01_k».proof.Proof.KerHost
public import proofs.«01_k».proof.Proof.RefPool

@[expose] public section

set_option maxRecDepth 16384
set_option maxHeartbeats 4000000

/-! # The position biases and the documents' weights -/

noncomputable section

namespace Cert.Proof.Ker

open Idealize.ShloMosaic Idealize.ShloMosaic.StableHlo Cert.KernelIdeal Cert.KernelIdeal.Gen
open Idealize.ShloMosaic.TcCoe

variable (m : (ℓ : Loc nD τ sig) → Buf (Elt Ideal) ℓ) (ρ : Dev nD → PrngReg) (c : Dev nD)
  (V : Valuation Cert.ReferenceIdeal.τ Cert.ReferenceIdeal.sig (Elt Ideal))

/-- Two columns of indices side by side. -/
def pairs (a b : IVec S128x10x1 32) : IVec S128x10x2 32 :=
  concatenate S128x10x2 2 [⟨S128x10x1, a⟩, ⟨S128x10x1, b⟩] concatenates_S128x10x1_S128x10x1_S128x10x2_d2

/-- The bias of a document's position, as staged. -/
theorem posBias_staged (hd : W0 m ρ c (Proc.devRef .tc main_arg3) = V (Proc.devRef .tc Cert.ReferenceIdeal.main_arg3))
    (hp : W0 m ρ c (Proc.devRef .tc main_arg20) = V (Proc.devRef .tc Cert.ReferenceIdeal.main_arg20)) :
    (W9 m ρ c (Proc.devRef .tc main_v47) : S128x512.Idx → EReal) = Ref.posBias V := by
  unfold Ref.posBias Cert.ReferenceIdeal.Value.res_main_v614 Cert.ReferenceIdeal.Value.res_main_v592 Cert.ReferenceIdeal.Value.res_main_v595
  rw [← hd, ← hp]
  unfold W9 W8 W7 W6 W5 hostOps0_8 hostOps0_7 hostOps0_6 hostOps0_5 hostOps0_4
  simp only [TRef.unary, TRef.binary, TRef.nullary, TRef.ternary, TRef.toBuf, TRef.ofBuf, cast_eq]
  simp only [show (fun a b => concatenate S128x10x2 2 [⟨S128x10x1, a⟩, ⟨S128x10x1, b⟩] concatenates_S128x10x1_S128x10x1_S128x10x2_d2 :
    IVec S128x10x1 32 → IVec S128x10x1 32 → IVec S128x10x2 32) = pairs from rfl]
  after_results_simp
  rfl

/-- The bias of a document's absolute position, as staged. -/
theorem absBias_staged (hd : W0 m ρ c (Proc.devRef .tc main_arg3) = V (Proc.devRef .tc Cert.ReferenceIdeal.main_arg3))
    (hp : W0 m ρ c (Proc.devRef .tc main_arg21) = V (Proc.devRef .tc Cert.ReferenceIdeal.main_arg21)) :
    (W9 m ρ c (Proc.devRef .tc main_v64) : S128x512.Idx → EReal) = Ref.absBias V := by
  unfold Ref.absBias Cert.ReferenceIdeal.Value.res_main_v626
  rw [← hd, ← hp]
  unfold W9 hostOps0_8
  after_results_simp
  rfl

/-- The weights of the pool over the documents. -/
theorem docWeight_apply (V : Valuation τ sig (Elt Ideal)) (n : Fin 128) (j : Fin 512) :
    (staged V main_v67 : S32x1x2048.Idx → EReal) (ix3 ⟨n.val / 4, by omega⟩ 0 ⟨n.val % 4 * 512 + j.val, by omega⟩)
      = docMask V (ix2 n j) * (staged V main_v47 : S128x512.Idx → EReal) (ix2 n j)
        * (staged V main_v64 : S128x512.Idx → EReal) (ix2 n j) := by
  unfold staged hostOps0_8; after_results_simp
  generalize Host.gather _ _ _ = G
  generalize Host.gather _ _ _ = G'
  pointwise [docMask]

end Cert.Proof.Ker

end
-- ==== Proof.KerPool.lean ====
/-
  What the pooling kernel leaves in its output buffer.
-/
module

public import proofs.«01_k».proof.Proof.Gen.KernelIdeal.Frame.Region2
public import proofs.«01_k».proof.Proof.Spec

@[expose] public section

set_option maxRecDepth 16384

noncomputable section

namespace Cert.Proof.Ker

open Idealize.ShloMosaic Cert.KernelIdeal Cert.KernelIdeal.Gen

variable {F : FTy → Type} [FloatOps F]

/-- One column of the soft histogram: centre `μ`, factor `κ`. -/
def column (μ κ : F .f32) (ci : FVec F S32x512 .f32) (cm : FVec F S1x512 .f32) : FVec F S32x1 .f32 :=
  have d : FVec F S32x512 .f32 := subf ci (broadcast S32x512 μ)
  shapeCast S32x1 (multiReduction .add [1] S32
    (mulf (exp (mulf (mulf d d) (broadcast S32x512 κ))) (broadcastTo S32x512 cm broadcasts_S1x512_S32x512))
    0x00000000#32 reduces_S32x512_S32 (.inl rfl) rfl) shapeCasts_S32_S32x1

/-- The score of one pair, from its columns. -/
def score (n w : F .f32) (ci : FVec F S32x512 .f32) (cm : FVec F S1x512 .f32) (wq : FVec F S32x11 .f32) : F .f32 :=
  have cols : FVec F S32x11 .f32 := concatenate S32x11 1
    [⟨S32x1, column (Scalar.ofBits .f32 0x3F800000#32) n ci cm⟩, ⟨S32x1, column (Scalar.ofBits .f32 0x3F666666#32) w ci cm⟩,
     ⟨S32x1, column (Scalar.ofBits .f32 0x3F333333#32) w ci cm⟩, ⟨S32x1, column (Scalar.ofBits .f32 0x3F000000#32) w ci cm⟩,
     ⟨S32x1, column (Scalar.ofBits .f32 0x3E99999A#32) w ci cm⟩, ⟨S32x1, column (Scalar.ofBits .f32 0x3DCCCCCD#32) w ci cm⟩,
     ⟨S32x1, column (Scalar.ofBits .f32 0xBDCCCCCD#32) w ci cm⟩, ⟨S32x1, column (Scalar.ofBits .f32 0xBE99999A#32) w ci cm⟩,
     ⟨S32x1, column (Scalar.ofBits .f32 0xBF000000#32) w ci cm⟩, ⟨S32x1, column (Scalar.ofBits .f32 0xBF333333#32) w ci cm⟩,
     ⟨S32x1, column (Scalar.ofBits .f32 0xBF666666#32) w ci cm⟩]
    concatenates_S32x1_S32x1_S32x1_S32x1_S32x1_S32x1_S32x1_S32x1_S32x1_S32x1_S32x1_S32x11_d1
  extractAt ![0, 0, 0] (shapeCast S1x1x1 (multiReduction .add [1, 2] S1
    (shapeCast S1x32x11 (mulf (log (maximumf cols (broadcast S32x11 (Scalar.ofBits .f32 0x2EDBE6FF#32)))) wq)
      shapeCasts_S32x11_S1x32x11) 0x00000000#32 reduces_S1x32x11_S1 (.inl rfl) rfl) shapeCasts_S1_S1x1x1) inpos_S1x1x1_p0_0_0

/-- The scores of four pairs. -/
def scores (n w : F .f32) (cos : FVec F S128x2048 .f32) (cm : FVec F S1x2048 .f32) (wq : FVec F S128x11 .f32) :
    FVec F S4x1x1 .f32 :=
  shapeCast S4x1x1 (concatenate S4 0
    [⟨S1, broadcast S1 (score n w (extractStridedSlice S32x512 ![0, 0] cos slices_S128x2048_o0_0_S32x512)
        (extractStridedSlice S1x512 ![0, 0] cm slices_S1x2048_o0_0_S1x512)
        (extractStridedSlice S32x11 ![0, 0] wq slices_S128x11_o0_0_S32x11))⟩,
     ⟨S1, broadcast S1 (score n w (extractStridedSlice S32x512 ![32, 512] cos slices_S128x2048_o32_512_S32x512)
        (extractStridedSlice S1x512 ![0, 512] cm slices_S1x2048_o0_512_S1x512)
        (extractStridedSlice S32x11 ![32, 0] wq slices_S128x11_o32_0_S32x11))⟩,
     ⟨S1, broadcast S1 (score n w (extractStridedSlice S32x512 ![64, 1024] cos slices_S128x2048_o64_1024_S32x512)
        (extractStridedSlice S1x512 ![0, 1024] cm slices_S1x2048_o0_1024_S1x512)
        (extractStridedSlice S32x11 ![64, 0] wq slices_S128x11_o64_0_S32x11))⟩,
     ⟨S1, broadcast S1 (score n w (extractStridedSlice S32x512 ![96, 1536] cos slices_S128x2048_o96_1536_S32x512)
        (extractStridedSlice S1x512 ![0, 1536] cm slices_S1x2048_o0_1536_S1x512)
        (extractStridedSlice S32x11 ![96, 0] wq slices_S128x11_o96_0_S32x11))⟩]
    concatenates_S1_S1_S1_S1_S4_d0) shapeCasts_S4_S4x1x1

variable (x0 : Vec Ideal S4x32x512 .f32) (x1 : Vec Ideal S4x512x512 .f32) (x2 : Vec Ideal S4x32x11 .f32)
  (x3 : Vec Ideal S1x1x2048 .f32)

theorem pool_out : out2_4 x0 x1 x2 x3
    = scores (Named.named κ "narrow" 0xC8F42400#32) (Named.named κ "wide" 0xC2480000#32) (k2_pay2 x0 x1) (k2_pay3 x3) (k2_pay4 x2) := by
  have z3 : (![0, 0, 0] : Fin 3 → ℕ) = fun _ => 0 := by funext a; fin_cases a <;> rfl
  have h : out2_4 x0 x1 x2 x3 = View.canon [⟨r2_4, scores (Named.named κ "narrow" 0xC8F42400#32)
    (Named.named κ "wide" 0xC2480000#32) (k2_pay2 (View.ld x0 r2_0) (View.ld x1 r2_1)) (k2_pay3 (View.ld x3 r2_2))
    (k2_pay4 (View.ld x2 r2_3))⟩] := rfl
  rw [h, View.canon_unit_zero z3]
  simp only [View.ld_unit_zero (S := S4x32x512) z3, View.ld_unit_zero (S := S4x512x512) z3,
    View.ld_unit_zero (S := S1x1x2048) z3, View.ld_unit_zero (S := S4x32x11) z3]

theorem cos_apply (i : Fin 128) (j : Fin 2048) : k2_pay2 x0 x1 (ix2 i j)
    = Spec.cosine (fun k => x0 (ix3 ⟨i / 32, by omega⟩ ⟨i % 32, by omega⟩ k))
      (fun k => x1 (ix3 ⟨j / 512, by omega⟩ ⟨j % 512, by omega⟩ k)) := by
  pointwise [k2_pay2]
  rfl

theorem column_apply (μ c : EReal) (ci : FVec Ideal S32x512 .f32) (cm : FVec Ideal S1x512 .f32) (i : Fin 32) :
    column (F := Ideal) μ c ci cm (ix2 i 0) = Spec.bin μ c (fun j => ci (ix2 i j)) (fun j => cm (ix2 0 j)) := by
  pointwise [column]
  rfl

theorem score_apply (n w : EReal) (ci : FVec Ideal S32x512 .f32) (cm : FVec Ideal S1x512 .f32) (wq : FVec Ideal S32x11 .f32) :
    score (F := Ideal) n w ci cm wq = Spec.total n w (fun i j => ci (ix2 i j)) (fun j => cm (ix2 0 j)) (fun i k => wq (ix2 i k)) := by
  pointwise [score]
  unfold Spec.total
  refine Finset.sum_congr rfl fun i _ => Finset.sum_congr rfl fun k _ => ?_
  refine congrArg (fun z => Ideal.log (max z (Ideal.ofBits .f32 0x2EDBE6FF#32)) * wq (ix2 i k)) ?_
  fin_cases k <;> exact column_apply ..

theorem scores_apply (n w : EReal) (cos : FVec Ideal S128x2048 .f32) (cm : FVec Ideal S1x2048 .f32)
    (wq : FVec Ideal S128x11 .f32) (b : Fin 4) :
    scores (F := Ideal) n w cos cm wq (ix3 b 0 0)
      = Spec.total n w (fun i j => cos (ix2 ⟨b.val * 32 + i.val, by omega⟩ ⟨b.val * 512 + j.val, by omega⟩))
        (fun j => cm (ix2 0 ⟨b.val * 512 + j.val, by omega⟩)) (fun i k => wq (ix2 ⟨b.val * 32 + i.val, by omega⟩ k)) := by
  fin_cases b <;> (pointwise [scores]; refine (score_apply ..).trans ?_; congr 1 <;> (funext; pointwise []))

/-- The value stored, at an index. -/
theorem pool_apply (b : Fin 4) : (out2_4 x0 x1 x2 x3 : S4x1x1.Idx → EReal) (ix3 b 0 0)
    = Spec.total (Named.named (F := Ideal) (φ := .f32) κ "narrow" 0xC8F42400#32) (Named.named (F := Ideal) (φ := .f32) κ "wide" 0xC2480000#32)
        (fun i j => Spec.cosine (fun k => x0 (ix3 b i k)) (fun k => x1 (ix3 b j k)))
        (fun j => x3 (ix3 0 0 ⟨b.val * 512 + j.val, by omega⟩)) (fun i k => x2 (ix3 b i k)) := by
  rw [pool_out]
  refine (scores_apply ..).trans ?_
  congr 1
  · funext i j
    refine (cos_apply ..).trans ?_
    congr 1 <;> (funext k; congr 2 <;> (apply Fin.ext; simp only []; omega))
  · funext j
    pointwise [k2_pay3]
  · funext i k
    pointwise [k2_pay4]

end Cert.Proof.Ker

end
-- ==== Proof.Pooling.lean ====
module

public import proofs.«01_k».proof.Proof.RefPool
public import proofs.«01_k».proof.Proof.KerPool

@[expose] public section

set_option maxRecDepth 16384

/-! # The two pools agree -/

noncomputable section

namespace Cert.Proof

open Idealize.ShloMosaic

/-- The factor of the first bin. -/
def narrow : EReal := ((-4398046511104 / 8796093 : ℝ) : EReal)

/-- The factor of the other bins. -/
def wide : EReal := ((-268435456 / 5368709 : ℝ) : EReal)

theorem named_narrow : Named.named (F := Ideal) (φ := .f32) Cert.KernelIdeal.κ "narrow" 0xC8F42400#32 = narrow :=
  IdealRules.named_const.ideal_named_scalar _ _ _ _ rfl

theorem named_wide : Named.named (F := Ideal) (φ := .f32) Cert.KernelIdeal.κ "wide" 0xC2480000#32 = wide :=
  IdealRules.named_const.ideal_named_scalar _ _ _ _ rfl

theorem add_mul_real (a b : EReal) (ha : a ≠ ⊥) (hb : b ≠ ⊥) (w : ℝ) : (a + b) * (w : EReal) = a * w + b * w := by
  rcases lt_trichotomy w 0 with h | h | h <;> induction a <;> induction b <;>
    simp_all [EReal.top_mul_coe_of_pos, EReal.top_mul_coe_of_neg, EReal.top_add_coe, EReal.coe_add_top]
  all_goals first | rw [← EReal.coe_mul, EReal.coe_add_top] | rw [← EReal.coe_mul, EReal.top_add_coe] | (norm_cast; ring)

theorem sum_mul_real {ι : Type} (s : Finset ι) (y : ι → EReal) (hy : ∀ i, y i ≠ ⊥) (w : ℝ) :
    (∑ i ∈ s, y i) * (w : EReal) = ∑ i ∈ s, y i * w := by
  have key : (∑ i ∈ s, y i) ≠ ⊥ ∧ (∑ i ∈ s, y i) * (w : EReal) = ∑ i ∈ s, y i * w := by
    classical
    induction s using Finset.induction_on with
    | empty => simp
    | insert a s ha ih =>
      rw [Finset.sum_insert ha, Finset.sum_insert ha]
      refine ⟨fun h => ?_, ?_⟩
      · rcases EReal.add_eq_bot_iff.mp h with h | h
        · exact hy a h
        · exact ih.1 h
      · rw [add_mul_real _ _ (hy a) ih.1, ih.2]
  exact key.2

theorem log_ne_bot {x : EReal} (r : ℝ) (hr : 0 < r) (h : (r : EReal) ≤ x) : Ideal.log x ≠ ⊥ := by
  induction x with
  | bot => simp at h
  | top => exact top_ne_bot
  | coe x =>
    have hx : 0 < x := hr.trans_le (EReal.coe_le_coe_iff.mp h)
    show (if x ≤ 0 then ⊥ else (Real.log x : EReal)) ≠ ⊥
    rw [if_neg (not_le.mpr hx)]
    exact EReal.coe_ne_bot _

theorem floor_real : Ideal.ofBits .f32 0x2EDBE6FF#32 = ((14411519 / 144115188075855872 : ℝ) : EReal) := by
  simp [Ideal.ofBits, Ideal.ieee, -EReal.coe_mul]; norm_num

theorem spread_first : Ideal.ofBits .f32 0x360637BD#32 = ((8796093 / 4398046511104 : ℝ) : EReal) := by
  simp [Ideal.ofBits, Ideal.ieee, -EReal.coe_mul]; norm_num

theorem spread_other : Ideal.ofBits .f32 0x3CA3D70A#32 = ((5368709 / 268435456 : ℝ) : EReal) := by
  simp [Ideal.ofBits, Ideal.ieee, -EReal.coe_mul]; norm_num

theorem div_neg_real (z : EReal) (t s : ℝ) (ht : t ≠ 0) (h : -(1 / t) = s) : Ideal.div (-z) (t : EReal) = z * (s : EReal) := by
  rw [Ideal.div_coe ht, ← h, EReal.coe_neg, mul_comm z, EReal.neg_mul, EReal.neg_mul, mul_comm]

theorem spread_eq (k : Fin 11) : Ref.spread k = Ideal.ofBits .f32 (if k = 0 then 0x360637BD#32 else 0x3CA3D70A#32) := by
  fin_cases k <;> rfl

theorem mu_eq (k : Fin 11) : Ref.mu k = Spec.centre k := by
  fin_cases k
  · show Ideal.ofBits .f32 0x3F800000#32 = 1
    simp [Ideal.ofBits, Ideal.ieee, -EReal.coe_mul]; norm_num
  all_goals rfl

theorem gauss (z : EReal) (k : Fin 11) : Ideal.div (-z) (Ref.spread k) = z * Spec.factor narrow wide k := by
  rw [spread_eq]
  by_cases h : k = 0
  · rw [if_pos h, spread_first, Spec.factor, if_pos h]
    exact div_neg_real _ _ _ (by norm_num) (by norm_num)
  · rw [if_neg h, spread_other, Spec.factor, if_neg h]
    exact div_neg_real _ _ _ (by norm_num) (by norm_num)

/-- The reference's pool is the kernel's. -/
theorem pools (c : Fin 32 → Fin 512 → EReal) (qm : Fin 32 → EReal) (dm pb ab : Fin 512 → EReal) (dw : Fin 11 → EReal)
    (hq : ∀ i, qm i = 0 ∨ qm i = 1) (hd : ∀ j, dm j = 0 ∨ dm j = 1) (hw : ∀ k, ∃ r : ℝ, dw k = r) :
    (∑ k : Fin 11, (∑ i : Fin 32, Ideal.log (max (Ideal.ofBits .f32 0x2EDBE6FF#32)
        (∑ j : Fin 512, Ideal.exp (Ideal.div (-((c i j * (qm i * dm j) - Ref.mu k) * (c i j * (qm i * dm j) - Ref.mu k))) (Ref.spread k))
          * (qm i * dm j) * pb j * ab j)) * qm i) * dw k)
      = Spec.total narrow wide c (fun j => dm j * pb j * ab j) (fun i k => qm i * dw k) := by
  unfold Spec.total
  rw [Finset.sum_comm]
  refine Finset.sum_congr rfl fun k _ => ?_
  obtain ⟨r, hr⟩ := hw k
  have hl : ∀ x : EReal, Ideal.log (max (Ideal.ofBits .f32 0x2EDBE6FF#32) x) ≠ ⊥ := fun x =>
    log_ne_bot (14411519 / 144115188075855872) (by norm_num) (floor_real ▸ le_max_left _ _)
  rw [hr, sum_mul_real]
  · refine Finset.sum_congr rfl fun i _ => ?_
    rcases hq i with h | h
    · simp only [h, mul_zero, zero_mul]
    · show _ = _ * (qm i * dw k)
      rw [h, hr, max_comm, mul_one, one_mul]
      congr 3
      unfold Spec.bin
      refine Finset.sum_congr rfl fun j _ => ?_
      rw [gauss, mu_eq]
      rcases hd j with hj | hj
      · simp only [hj, mul_zero, zero_mul]
      · simp only [hj, mul_one, one_mul, mul_assoc]
  · intro i
    rcases hq i with h | h
    · rw [h, mul_zero]; exact EReal.zero_ne_bot
    · rw [h, mul_one]; exact hl _

end Cert.Proof

end
-- ==== Proof.KerScores.lean ====
module

public import proofs.«01_k».proof.Proof.KerArrays
public import proofs.«01_k».proof.Proof.KerBias
public import proofs.«01_k».proof.Proof.Pooling

@[expose] public section

set_option maxRecDepth 16384
set_option maxHeartbeats 4000000

/-! # The kernel's result -/

noncomputable section

namespace Cert.Proof.Ker

open Idealize.ShloMosaic Idealize.ShloMosaic.StableHlo Cert.KernelIdeal Cert.KernelIdeal.Gen
open Idealize.ShloMosaic.TcCoe

/-- The score of pair `n`, of what the last launch reads. -/
def scored (q : S128x32x512.Idx → EReal) (d : S128x512x512.Idx → EReal) (w : S32x1x2048.Idx → EReal) (u : S128x32x11.Idx → EReal)
    (n : Fin 128) : EReal :=
  Spec.total narrow wide (fun i j => Spec.cosine (fun k => q (ix3 n i k)) (fun k => d (ix3 n j k)))
    (fun j => w (ix3 ⟨n.val / 4, by omega⟩ 0 ⟨n.val % 4 * 512 + j.val, by omega⟩)) (fun i k => u (ix3 n i k))

section

variable {c : Dev nD} {V : (c : Dev nD) → (b : Ref sig .tc) → Buf (Elt Ideal) ((c : Thread nD τ).loc b)}

/-- The blocks of launch 2 move with the point. -/
theorem moving2 : ∀ t : Fin grid2.N, win2_0.index t = ![t.val, 0, 0] ∧ win2_1.index t = ![t.val, 0, 0] ∧
    win2_2.index t = ![t.val, 0, 0] ∧ win2_3.index t = ![t.val, 0, 0] ∧ win2_4.index t = ![t.val, 0, 0] := by
  decide +kernel

/-- What launch 2 leaves. -/
theorem scores_left : ((dat2 V c).arrAt 4 cfg2.N : S128x1x1.Idx → EReal)
    = fun i => scored (V c main_v159) (V c main_v160) (V c main_v67) (V c main_v73) (i 0) := by
  refine (dat2 V c).arrAt_eq_of_covers 4 _ (by decide +kernel) fun t hf y => ?_
  blk_simp
  rw [after2_4]
  obtain ⟨m0, m1, m2, m3, m4⟩ := moving2 t
  have ht : t.val < 32 := t.isLt
  obtain ⟨b, rfl⟩ : ∃ b : Fin 4, y = (ix3 b 0 0 : S4x1x1.Idx) := ⟨y 0, by blk_ext []⟩
  have hy : (win2_4.blk t).view.emb (ix3 b 0 0) = (ix3 ⟨t.val * 4 + b.val, by omega⟩ 0 0 : S128x1x1.Idx) := by blk_ext [m4]
  have h0 : ∀ i k, (iblk2 V c 0 t : S4x32x512.Idx → EReal) (ix3 b i k)
      = (V c main_v159 : S128x32x512.Idx → EReal) (ix3 ⟨t.val * 4 + b.val, by omega⟩ i k) := by
    intro i k; blk_ext [iblk2, m0]
  have h1 : ∀ i k, (iblk2 V c 1 t : S4x512x512.Idx → EReal) (ix3 b i k)
      = (V c main_v160 : S128x512x512.Idx → EReal) (ix3 ⟨t.val * 4 + b.val, by omega⟩ i k) := by
    intro i k; blk_ext [iblk2, m1]
  have h2 : ∀ i k, (iblk2 V c 2 t : S4x32x11.Idx → EReal) (ix3 b i k)
      = (V c main_v73 : S128x32x11.Idx → EReal) (ix3 ⟨t.val * 4 + b.val, by omega⟩ i k) := by
    intro i k; blk_ext [iblk2, m2]
  have h3 : ∀ j : Fin 512, (iblk2 V c 3 t : S1x1x2048.Idx → EReal) (ix3 0 0 ⟨b.val * 512 + j.val, by omega⟩)
      = (V c main_v67 : S32x1x2048.Idx → EReal) (ix3 ⟨(t.val * 4 + b.val) / 4, by omega⟩ 0
          ⟨(t.val * 4 + b.val) % 4 * 512 + j.val, by omega⟩) := by
    intro j; blk_ext [iblk2, m3]
  rw [hy]
  refine (pool_apply _ _ _ _ b).trans ?_
  rw [named_narrow, named_wide]
  simp only [h0, h1, h2, h3]
  rfl

end

variable (m : (ℓ : Loc nD τ sig) → Buf (Elt Ideal) ℓ) (ρ : Dev nD → PrngReg) (c : Dev nD)

theorem weights_kept : weights (W8 m ρ c) = weights (W0 m ρ c) := by
  unfold weights
  simp only [W8_args m ρ c main_arg4 (by decide), W8_args m ρ c main_arg5 (by decide), W8_args m ρ c main_arg6 (by decide),
    W8_args m ρ c main_arg7 (by decide), W8_args m ρ c main_arg8 (by decide), W8_args m ρ c main_arg9 (by decide),
    W8_args m ρ c main_arg10 (by decide), W8_args m ρ c main_arg11 (by decide), W8_args m ρ c main_arg12 (by decide),
    W8_args m ρ c main_arg13 (by decide), W8_args m ρ c main_arg14 (by decide), W8_args m ρ c main_arg15 (by decide),
    W8_args m ρ c main_arg16 (by decide), W8_args m ρ c main_arg17 (by decide), W8_args m ρ c main_arg18 (by decide)]

/-- Launch 0 writes the queries' encodings only. -/
theorem writes0 : ∀ w : Fin cfg0.W, (cfg0.win w).isOut = false ∨ Pipeline.arrRef spec0 w = main_v159 := by decide

/-- Launch 1 writes the documents' encodings only. -/
theorem writes1 : ∀ w : Fin cfg1.W, (cfg1.win w).isOut = false ∨ Pipeline.arrRef spec1 w = main_v160 := by decide

theorem past0 (r : Ref sig .tc) (h : r ≠ main_v159) : W10 m ρ c (Proc.devRef .tc r) = W9 m ρ c (Proc.devRef .tc r) :=
  W10_of m ρ c r fun w e => (writes0 w).resolve_right fun e' => h (e.symm.trans e')

theorem past1 (r : Ref sig .tc) (h : r ≠ main_v160) : W11 m ρ c (Proc.devRef .tc r) = W10 m ρ c (Proc.devRef .tc r) :=
  W11_of m ρ c r fun w e => (writes1 w).resolve_right fun e' => h (e.symm.trans e')

/-- The encoded queries, as the last launch reads them. -/
theorem queries_kept (hF : (weights (W0 m ρ c)).Finite) :
    (V11 m ρ c main_v159 : S128x32x512.Idx → EReal) = queries (W0 m ρ c) :=
  (past1 m ρ c main_v159 (by decide)).trans ((W10_arr m ρ c 29).trans
    (queries_left (V := V9 m ρ) (weights_kept m ρ c) (fun _ _ => rfl) hF))

/-- The encoded documents, as the last launch reads them. -/
theorem docs_kept : (V11 m ρ c main_v160 : S128x512x512.Idx → EReal) = docs (W0 m ρ c) :=
  (W11_arr m ρ c 29).trans (docs_left (V := V10 m ρ) (weights_kept m ρ c)
    fun r h => past0 m ρ c r fun e => h (e ▸ List.mem_cons_self ..))

/-- The result, as the last boundary holds it. -/
theorem result_staged (n : Fin 128) : (W13 m ρ c (Proc.devRef .tc main_v162) : S128.Idx → EReal) (ix1 n)
    = scored (V11 m ρ c main_v159) (V11 m ρ c main_v160) (V11 m ρ c main_v67) (V11 m ρ c main_v73) n := by
  have h : (W12 m ρ c (Proc.devRef .tc main_v161) : S128x1x1.Idx → EReal)
      = fun i => scored (V11 m ρ c main_v159) (V11 m ρ c main_v160) (V11 m ρ c main_v67) (V11 m ρ c main_v73) (i 0) :=
    (W12_arr m ρ c 4).trans (scores_left (V := V11 m ρ))
  refine Eq.trans (b := (W12 m ρ c (Proc.devRef .tc main_v161) : S128x1x1.Idx → EReal) (ix3 n 0 0)) ?_ (congrFun h _)
  unfold W13 hostOps3
  after_results_simp
  pointwise []

end Cert.Proof.Ker

end
-- ==== Proof.Tame.lean ====
module

public import proofs.«01_k».proof.Defs
public import proofs.«01_k».proof.Proof.KerArrays

@[expose] public section

set_option maxRecDepth 16384

/-! # What the precondition says of the arguments -/

noncomputable section

namespace Cert.Proof

open Idealize.ShloMosaic Idealize.ShloMosaic.TcCoe Cert.KernelIdeal Cert.KernelIdeal.Gen

/-- What is asked of the arguments. -/
structure Tame (W : Valuation τ sig (Elt Ideal)) : Prop where
  qm i : Ker.queryMask W i = 0 ∨ Ker.queryMask W i = 1
  dm i : Ker.docMask W i = 0 ∨ Ker.docMask W i = 1
  w : (Ker.weights W).Finite
  dw i : Spec.IsReal (Ker.dense W i)

theorem top_eq : Ideal.ofBits .f32 0x7F800000#32 = ⊤ := by
  simp [Ideal.ofBits, Ideal.ieee]

theorem one_eq : Ideal.ofBits .f32 0x3F800000#32 = 1 := by
  simp [Ideal.ofBits, Ideal.ieee, -EReal.coe_mul]; norm_num

/-- Strictly between the infinities. -/
theorem finite_of {s : Shape} {x : FVec Ideal s .f32} {a b : FVec Ideal s .f32}
    (e : andi (cmpf .ogt x a) (cmpf .olt x b) = fun _ => 1#1) (ha : ∀ i, a i = (-Ideal.ofBits .f32 0x7F800000#32 : EReal))
    (hb : ∀ i, b i = Ideal.ofBits .f32 0x7F800000#32) (i : s.Idx) : Spec.IsReal (x i) := by
  obtain ⟨h1, h2⟩ := IntOp.andi_eq_one.1 (congrFun e i)
  have h3 := (Ideal.cmp_ogt_eq_one _ _).1 h1
  have h4 := (Ideal.cmp_olt_eq_one _ _).1 h2
  rw [ha, top_eq] at h3
  rw [hb, top_eq] at h4
  exact ⟨_, (EReal.coe_toReal h4.ne (by rw [EReal.neg_top] at h3; exact h3.ne')).symm⟩

/-- Zero or one. -/
theorem bit_of {s : Shape} {x : FVec Ideal s .f32} {a b : FVec Ideal s .f32}
    (e : ori (cmpf .oeq x a) (cmpf .oeq x b) = fun _ => 1#1) (ha : ∀ i, a i = Ideal.ofBits .f32 0x00000000#32)
    (hb : ∀ i, b i = Ideal.ofBits .f32 0x3F800000#32) (i : s.Idx) : (x i : EReal) = 0 ∨ (x i : EReal) = 1 := by
  refine (IntOp.ori_eq_one.1 (congrFun e i)).imp (fun h => ?_) fun h => ?_
  · exact ((Ideal.cmp_oeq_eq_one _ _).1 h).trans ((ha i).trans Ideal.ofBits_zero_f32)
  · exact ((Ideal.cmp_oeq_eq_one _ _).1 h).trans ((hb i).trans one_eq)

/-- The first layer's row of a vector per layer. -/
theorem row_apply (x : FVec Ideal Pre_tame.S2x512 .f32) (h : Pre_tame.S2x512.Slices ![0, 0] Pre_tame.S1x512)
    (h' : Pre_tame.S1x512.ShapeCasts Pre_tame.S512) (j : Fin 512) :
    (shapeCast Pre_tame.S512 (extractStridedSlice Pre_tame.S1x512 ![0, 0] x h) h' : Pre_tame.S512.Idx → EReal) (ix1 j) = x (ix2 0 j) := by
  pointwise []

/-- The part of the first vector that makes queries and keys. -/
theorem part_apply (x : FVec Ideal Pre_tame.S2x1536 .f32) (h : Pre_tame.S2x1536.Slices ![0, 0] Pre_tame.S2x1024) (l : Fin 2)
    (j : Fin 1536) (hj : j.val < 1024) :
    (extractStridedSlice Pre_tame.S2x1024 ![0, 0] x h : Pre_tame.S2x1024.Idx → EReal) (ix2 l ⟨j.val, hj⟩) = x (ix2 l j) := by
  pointwise []

/-- The part of the first matrix that makes queries and keys. -/
theorem rows_apply (x : FVec Ideal Pre_tame.S2x1536x512 .f32) (h : Pre_tame.S2x1536x512.Slices ![0, 0, 0] Pre_tame.S2x1024x512)
    (l : Fin 2) (j : Fin 1536) (hj : j.val < 1024) (i : Fin 512) :
    (extractStridedSlice Pre_tame.S2x1024x512 ![0, 0, 0] x h : Pre_tame.S2x1024x512.Idx → EReal) (ix3 l ⟨j.val, hj⟩ i) = x (ix3 l j i) := by
  pointwise []

/-- The precondition, read. -/
theorem tame_of [Cert.Pre_tame.Facts] (m : (ℓ : Loc nD τ sig) → Buf (Elt Ideal) ℓ) (ρ : Dev nD → PrngReg) (c : Dev nD)
    (h : Cert.Pre_KernelIdeal_tame m) : Tame (W0 m ρ c) := by
  obtain ⟨h0, h1, h2, h3, h4, h5, h6, h7, h8⟩ := h c
  have k {s : Shape} {b : BitVec 32} {g : (⟨0, ![]⟩ : Shape).BroadcastsInDim s (![] : Fin 0 → Fin s.rank)} (i : s.Idx) :
    broadcastInDim s ![] g (constant (F := Ideal) ⟨0, ![]⟩ .f32 b) i = Ideal.ofBits .f32 b := rfl
  have k' {s : Shape} {b : BitVec 32} {g : (⟨0, ![]⟩ : Shape).BroadcastsInDim s (![] : Fin 0 → Fin s.rank)} (i : s.Idx) :
    broadcastInDim s ![] g (Host.negf (constant (F := Ideal) ⟨0, ![]⟩ .f32 b)) i = (-Ideal.ofBits .f32 b : EReal) := rfl
  exact {
    qm := bit_of h0 k k
    dm := bit_of h1 k k
    w := {
      g := finite_of h2 k' k
      b := finite_of h3 k' k
      iw := fun l j i hj => (congrArg Spec.IsReal (rows_apply (m (c.tc.loc main_arg7)) _ l j hj i)).mp (finite_of h4 k' k _)
      ib := fun l j hj => (congrArg Spec.IsReal (part_apply (m (c.tc.loc main_arg8)) _ l j hj)).mp (finite_of h5 k' k _)
      g2 := fun j => (congrArg Spec.IsReal (row_apply (m (c.tc.loc main_arg17)) _ _ j)).mp (finite_of h6 k' k _)
      b2 := fun j => (congrArg Spec.IsReal (row_apply (m (c.tc.loc main_arg18)) _ _ j)).mp (finite_of h7 k' k _) }
    dw := finite_of h8 k' k }

end Cert.Proof

end
-- ==== Proof.Agree.lean ====
module

public import proofs.«01_k».proof.Proof.KerScores
public import proofs.«01_k».proof.Proof.Tame

@[expose] public section

set_option maxRecDepth 16384
set_option maxHeartbeats 800000

/-! # The same arguments, encoded and weighed by both programs -/

noncomputable section

namespace Cert.Proof

open Idealize.ShloMosaic Idealize.ShloMosaic.TcCoe Cert.KernelIdeal Cert.KernelIdeal.Gen

/-- The two programs' arguments are the same. -/
structure Same (W : Valuation τ sig (Elt Ideal)) (V : Valuation Cert.ReferenceIdeal.τ Cert.ReferenceIdeal.sig (Elt Ideal)) : Prop where
  a0 : W (Proc.devRef .tc main_arg0) = V (Proc.devRef .tc Cert.ReferenceIdeal.main_arg0)
  a1 : W (Proc.devRef .tc main_arg1) = V (Proc.devRef .tc Cert.ReferenceIdeal.main_arg1)
  a2 : W (Proc.devRef .tc main_arg2) = V (Proc.devRef .tc Cert.ReferenceIdeal.main_arg2)
  a3 : W (Proc.devRef .tc main_arg3) = V (Proc.devRef .tc Cert.ReferenceIdeal.main_arg3)
  a4 : W (Proc.devRef .tc main_arg4) = V (Proc.devRef .tc Cert.ReferenceIdeal.main_arg4)
  a5 : W (Proc.devRef .tc main_arg5) = V (Proc.devRef .tc Cert.ReferenceIdeal.main_arg5)
  a6 : W (Proc.devRef .tc main_arg6) = V (Proc.devRef .tc Cert.ReferenceIdeal.main_arg6)
  a7 : W (Proc.devRef .tc main_arg7) = V (Proc.devRef .tc Cert.ReferenceIdeal.main_arg7)
  a8 : W (Proc.devRef .tc main_arg8) = V (Proc.devRef .tc Cert.ReferenceIdeal.main_arg8)
  a9 : W (Proc.devRef .tc main_arg9) = V (Proc.devRef .tc Cert.ReferenceIdeal.main_arg9)
  a10 : W (Proc.devRef .tc main_arg10) = V (Proc.devRef .tc Cert.ReferenceIdeal.main_arg10)
  a11 : W (Proc.devRef .tc main_arg11) = V (Proc.devRef .tc Cert.ReferenceIdeal.main_arg11)
  a12 : W (Proc.devRef .tc main_arg12) = V (Proc.devRef .tc Cert.ReferenceIdeal.main_arg12)
  a13 : W (Proc.devRef .tc main_arg13) = V (Proc.devRef .tc Cert.ReferenceIdeal.main_arg13)
  a14 : W (Proc.devRef .tc main_arg14) = V (Proc.devRef .tc Cert.ReferenceIdeal.main_arg14)
  a15 : W (Proc.devRef .tc main_arg15) = V (Proc.devRef .tc Cert.ReferenceIdeal.main_arg15)
  a16 : W (Proc.devRef .tc main_arg16) = V (Proc.devRef .tc Cert.ReferenceIdeal.main_arg16)
  a17 : W (Proc.devRef .tc main_arg17) = V (Proc.devRef .tc Cert.ReferenceIdeal.main_arg17)
  a18 : W (Proc.devRef .tc main_arg18) = V (Proc.devRef .tc Cert.ReferenceIdeal.main_arg18)
  a19 : W (Proc.devRef .tc main_arg19) = V (Proc.devRef .tc Cert.ReferenceIdeal.main_arg19)
  a20 : W (Proc.devRef .tc main_arg20) = V (Proc.devRef .tc Cert.ReferenceIdeal.main_arg20)
  a21 : W (Proc.devRef .tc main_arg21) = V (Proc.devRef .tc Cert.ReferenceIdeal.main_arg21)

variable {m : (ℓ : Loc nD τ sig) → Buf (Elt Ideal) ℓ} {ρ : Dev nD → PrngReg} {c : Dev nD}
  {V : Valuation Cert.ReferenceIdeal.τ Cert.ReferenceIdeal.sig (Elt Ideal)}

section

variable {W : Valuation τ sig (Elt Ideal)} (A : Same W V)
include A

theorem Same.weights : Ref.weights V = Ker.weights W := by
  unfold Ref.weights Ker.weights
  rw [Spec.Weights.mk.injEq]
  exact ⟨A.a4.symm, A.a5.symm, A.a6.symm, A.a7.symm, A.a8.symm, A.a9.symm, A.a10.symm, A.a11.symm, A.a12.symm, A.a13.symm,
    A.a14.symm, A.a15.symm, A.a16.symm, A.a17.symm, A.a18.symm⟩

theorem Same.query : Ref.query V = Ker.query W := A.a0.symm

theorem Same.doc : Ref.doc V = Ker.doc W := A.a1.symm

theorem Same.queryMask : Ref.queryMask V = Ker.queryMask W := A.a2.symm

theorem Same.docMask : Ref.docMask V = Ker.docMask W := A.a3.symm

theorem Same.dense : Ref.dense V = Ker.dense W := A.a19.symm

theorem Same.queries (n : Fin 128) (i : Fin 32) (j : Fin 512) :
    (Cert.ReferenceIdeal.Value.res_main_v278 V : S128x32x512.Idx → EReal) (ix3 n i j) = Ker.queries W (ix3 n i j) := by
  refine (Ref.query_apply V n i j).trans ?_
  rw [A.weights, A.query, A.queryMask]
  rfl

theorem Same.docs (n : Fin 128) (i : Fin 512) (j : Fin 512) :
    (Cert.ReferenceIdeal.Value.res_main_v550 V : S128x512x512.Idx → EReal) (ix3 n i j) = Ker.docs W (ix3 n i j) := by
  refine (Ref.doc_apply V n i j).trans ?_
  rw [A.weights, A.doc, A.docMask]
  rfl

end

/-- The weights of the pool over the documents, as the last launch reads them. -/
theorem docWeight_kept (A : Same (W0 m ρ c) V) (n : Fin 128) (j : Fin 512) :
    (V11 m ρ c main_v67 : S32x1x2048.Idx → EReal) (ix3 ⟨n.val / 4, by omega⟩ 0 ⟨n.val % 4 * 512 + j.val, by omega⟩)
      = Ker.docMask (W0 m ρ c) (ix2 n j) * Ref.posBias V (ix2 n j) * Ref.absBias V (ix2 n j) := by
  have h : (V11 m ρ c main_v67 : S32x1x2048.Idx → EReal) = Ker.staged (W8 m ρ c) main_v67 :=
    (Ker.past1 m ρ c main_v67 (by decide)).trans (Ker.past0 m ρ c main_v67 (by decide))
  rw [h, Ker.docWeight_apply, ← Ker.posBias_staged m ρ c V A.a3 A.a20, ← Ker.absBias_staged m ρ c V A.a3 A.a21]
  have hm : Ker.docMask (W8 m ρ c) = Ker.docMask (W0 m ρ c) := W8_args m ρ c main_arg3 (by decide)
  rw [hm]

/-- The weights of the pool over the queries, as the last launch reads them. -/
theorem queryWeight_kept (n : Fin 128) (i : Fin 32) (k : Fin 11) :
    (V11 m ρ c main_v73 : S128x32x11.Idx → EReal) (ix3 n i k)
      = Ker.queryMask (W0 m ρ c) (ix2 n i) * Ker.dense (W0 m ρ c) (ix2 0 k) := by
  have h : (V11 m ρ c main_v73 : S128x32x11.Idx → EReal) = Ker.staged (W8 m ρ c) main_v73 :=
    (Ker.past1 m ρ c main_v73 (by decide)).trans (Ker.past0 m ρ c main_v73 (by decide))
  have hm : Ker.queryMask (W8 m ρ c) = Ker.queryMask (W0 m ρ c) := W8_args m ρ c main_arg2 (by decide)
  have hw : Ker.dense (W8 m ρ c) = Ker.dense (W0 m ρ c) := W8_args m ρ c main_arg19 (by decide)
  rw [h, Ker.queryWeight_apply, hm, hw]

end Cert.Proof

end
-- ==== Proof.Results.lean ====
module

public import proofs.«01_k».proof.Proof.Agree

@[expose] public section

set_option maxRecDepth 16384
set_option maxHeartbeats 800000

/-! # The two results agree -/

noncomputable section

namespace Cert.Proof

open Idealize.ShloMosaic Idealize.ShloMosaic.TcCoe Cert.KernelIdeal Cert.KernelIdeal.Gen

variable {m : (ℓ : Loc nD τ sig) → Buf (Elt Ideal) ℓ} {ρ : Dev nD → PrngReg} {c : Dev nD}
  {V : Valuation Cert.ReferenceIdeal.τ Cert.ReferenceIdeal.sig (Elt Ideal)}

/-- The reference's result at an index. -/
theorem result_apply (V : Valuation Cert.ReferenceIdeal.τ Cert.ReferenceIdeal.sig (Elt Ideal)) (n : Fin 128) :
    (Ref.result V : S128.Idx → EReal) (ix1 n) = ∑ k : Fin 11, (∑ i : Fin 32, Ideal.log (max (Ideal.ofBits .f32 0x2EDBE6FF#32)
        (∑ j : Fin 512, Ideal.exp (Ideal.div (-((Spec.cosine
            (fun l => (Cert.ReferenceIdeal.Value.res_main_v278 V : S128x32x512.Idx → EReal) (ix3 n i l))
            (fun l => (Cert.ReferenceIdeal.Value.res_main_v550 V : S128x512x512.Idx → EReal) (ix3 n j l))
              * (Ref.queryMask V (ix2 n i) * Ref.docMask V (ix2 n j)) - Ref.mu k) * (Spec.cosine
            (fun l => (Cert.ReferenceIdeal.Value.res_main_v278 V : S128x32x512.Idx → EReal) (ix3 n i l))
            (fun l => (Cert.ReferenceIdeal.Value.res_main_v550 V : S128x512x512.Idx → EReal) (ix3 n j l))
              * (Ref.queryMask V (ix2 n i) * Ref.docMask V (ix2 n j)) - Ref.mu k))) (Ref.spread k))
          * (Ref.queryMask V (ix2 n i) * Ref.docMask V (ix2 n j)) * Ref.posBias V (ix2 n j) * Ref.absBias V (ix2 n j)))
          * Ref.queryMask V (ix2 n i)) * Ref.dense V (ix2 0 k) := by
  refine (Ref.pool_apply (Cert.ReferenceIdeal.Value.res_main_v572 V) (Cert.ReferenceIdeal.Value.res_main_v555 V) (Ref.posBias V)
    (Ref.absBias V) (Ref.queryMask V) (Ref.dense V) n).trans ?_
  simp only [Ref.shifted_apply, Ref.gate_apply]

/-- The kernel's result at an index. -/
theorem staged_apply (A : Same (W0 m ρ c) V) (T : Tame (W0 m ρ c)) (n : Fin 128) :
    (W13 m ρ c (Proc.devRef .tc main_v162) : S128.Idx → EReal) (ix1 n)
      = Spec.total narrow wide (fun i j => Spec.cosine (fun k => Ker.queries (W0 m ρ c) (ix3 n i k))
          (fun k => Ker.docs (W0 m ρ c) (ix3 n j k)))
        (fun j => Ker.docMask (W0 m ρ c) (ix2 n j) * Ref.posBias V (ix2 n j) * Ref.absBias V (ix2 n j))
        (fun i k => Ker.queryMask (W0 m ρ c) (ix2 n i) * Ker.dense (W0 m ρ c) (ix2 0 k)) := by
  rw [Ker.result_staged, Ker.queries_kept m ρ c T.w, Ker.docs_kept]
  unfold Ker.scored
  simp only [docWeight_kept A]
  exact congrArg (Spec.total _ _ _ _) (funext fun i => funext fun k => queryWeight_kept n i k)

/-- The kernel's result is the reference's. -/
theorem agree (A : Same (W0 m ρ c) V) (T : Tame (W0 m ρ c)) :
    (W13 m ρ c (Proc.devRef .tc main_v162) : S128.Idx → EReal) = Ref.result V := by
  funext y
  obtain ⟨n, rfl⟩ : ∃ n : Fin 128, y = (ix1 n : S128.Idx) := ⟨y 0, by blk_ext []⟩
  rw [staged_apply A T, result_apply]
  simp only [A.queries, A.docs, A.queryMask, A.docMask, A.dense]
  have hq : ∀ i : Fin 32, Ker.queryMask (W0 m ρ c) (ix2 n i) = 0 ∨ Ker.queryMask (W0 m ρ c) (ix2 n i) = 1 := fun i => T.qm _
  have hd : ∀ j : Fin 512, Ker.docMask (W0 m ρ c) (ix2 n j) = 0 ∨ Ker.docMask (W0 m ρ c) (ix2 n j) = 1 := fun j => T.dm _
  have hw : ∀ k : Fin 11, ∃ r : ℝ, Ker.dense (W0 m ρ c) (ix2 0 k) = r := fun k => T.dw _
  generalize Ker.queries (W0 m ρ c) = Q
  generalize Ker.docs (W0 m ρ c) = D
  generalize Ref.posBias V = P
  generalize Ref.absBias V = B
  generalize Ker.queryMask (W0 m ρ c) = qm at *
  generalize Ker.docMask (W0 m ρ c) = dm at *
  generalize Ker.dense (W0 m ρ c) = dw at *
  exact (pools (fun i j => Spec.cosine (fun l => Q (ix3 n i l)) (fun l => D (ix3 n j l))) (fun i => qm (ix2 n i))
    (fun j => dm (ix2 n j)) (fun j => P (ix2 n j)) (fun j => B (ix2 n j)) (fun k => dw (ix2 0 k)) hq hd hw).symm

end Cert.Proof

end
-- ==== Proof.Algebraic.lean ====
/-
  The value claim, from the two runs.
-/
module

public import proofs.«01_k».proof.Proof.Results
public import proofs.«01_k».proof.Proof.KernelIdeal.Frame
public import proofs.«01_k».proof.Proof.Gen.KernelIdeal
public import proofs.«01_k».proof.Proof.Gen.ReferenceIdeal
public import Idealize.ShloMosaic.Lib.Claim

@[expose] public section

set_option maxRecDepth 16384

noncomputable section

namespace Cert.Proof

open Idealize.ShloMosaic Idealize.ShloMosaic.TcCoe Idealize.ShloMosaic.StableHlo Idealize.SL.Sem Cert.KernelIdeal Cert.KernelIdeal.Gen

/-- Over the extended reals the kernel computes the reference's result. -/
theorem algebraic [Cert.Pre_tame.Facts] : Cert.algebraic_KernelIdeal_ReferenceIdeal_pre_tame := by
  intro m g m' g' hpre hargs
  refine ⟨fun c => W13 m g c (Proc.devRef .tc main_v162), ?_, ?_⟩
  · exact (θ_run defs _ _).mono (fun r h c => ⟨h.1.1 c _ (mem_uc main_v162 (by decide)), h.2 c⟩)
      (θ_run_and (ends m g) (unchanged m g))
  · refine (θ_run Cert.ReferenceIdeal.defs _ _).mono (fun r h c => ⟨(h c).1.trans ?_, (h c).2⟩)
      (Cert.ReferenceIdeal.Value.run (F := Ideal) m' g')
    obtain ⟨h0, h1, h2, h3, h4, h5, h6, h7, h8, h9, h10, h11, h12, h13, h14, h15, h16, h17, h18, h19, h20, h21⟩ := hargs c
    have A : Same (W0 m g c) (launchContents m' c) := ⟨h0.symm, h1.symm, h2.symm, h3.symm, h4.symm, h5.symm, h6.symm, h7.symm,
      h8.symm, h9.symm, h10.symm, h11.symm, h12.symm, h13.symm, h14.symm, h15.symm, h16.symm, h17.symm, h18.symm, h19.symm,
      h20.symm, h21.symm⟩
    refine Eq.trans ?_ (agree A (tame_of m g c hpre)).symm
    unfold Ref.result Ref.pool Ref.posBias Ref.absBias
    rfl

end Cert.Proof

end
-- ==== Proof.lean ====
/-
  The claim, from its parts.
-/
module

public import proofs.«01_k».proof.Defs
public import proofs.«01_k».proof.Proof.Frames
public import proofs.«01_k».proof.Proof.Gen.Pre_tame
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_tame.Gen.facts, frame_kernel,
    frame_ideal, fun m g _ => frame_ideal m g trivial, frame_reference, fun m g _ => frame_reference m g trivial, named, algebraic⟩

end Cert.Proof

end
